-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_9) = v0 c
          ∧ r.2.mem ((c.tc : Thread Cert.ReferenceIdeal.nD Cert.ReferenceIdeal.τ).loc Cert.ReferenceIdeal.main_v6_10) = v1 c
          ∧ r.2.mem ((c.tc : Thread Cert.ReferenceIdeal.nD Cert.ReferenceIdeal.τ).loc Cert.ReferenceIdeal.main_v6_11) = v2 c
          ∧ r.2.mem ((c.tc : Thread Cert.ReferenceIdeal.nD Cert.ReferenceIdeal.τ).loc Cert.ReferenceIdeal.main_v6_12) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x24x1024 : Shape := ⟨3, ![6, 24, 1024]⟩
abbrev S6 : Shape := ⟨1, ![6]⟩
abbrev S14x6x32x64x128 : Shape := ⟨5, ![14, 6, 32, 64, 128]⟩
abbrev S14x6x32x64 : Shape := ⟨4, ![14, 6, 32, 64]⟩
abbrev S14x6x3x2304 : Shape := ⟨4, ![14, 6, 3, 2304]⟩
abbrev S14x2304 : Shape := ⟨2, ![14, 2304]⟩
abbrev S14x1024 : Shape := ⟨2, ![14, 1024]⟩
abbrev S14x512x4384 : Shape := ⟨3, ![14, 512, 4384]⟩
abbrev S14x8x4384 : Shape := ⟨3, ![14, 8, 4384]⟩
abbrev S14x4x2304 : Shape := ⟨3, ![14, 4, 2304]⟩
abbrev S14x32 : Shape := ⟨2, ![14, 32]⟩
abbrev S14x2048 : Shape := ⟨2, ![14, 2048]⟩
abbrev S14x2048x512 : Shape := ⟨3, ![14, 2048, 512]⟩
abbrev S14x16x1024 : Shape := ⟨3, ![14, 16, 1024]⟩
abbrev S14x144x2048 : Shape := ⟨3, ![14, 144, 2048]⟩
abbrev S144x1024 : Shape := ⟨2, ![144, 1024]⟩
abbrev S14x6x2048x128 : Shape := ⟨4, ![14, 6, 2048, 128]⟩
abbrev S14x144x1024 : Shape := ⟨3, ![14, 144, 1024]⟩
abbrev S14x144x2304 : Shape := ⟨3, ![14, 144, 2304]⟩
abbrev S14x144x32 : Shape := ⟨3, ![14, 144, 32]⟩
abbrev S1x6x2048x128 : Shape := ⟨4, ![1, 6, 2048, 128]⟩
abbrev S1x6x32x64 : Shape := ⟨4, ![1, 6, 32, 64]⟩
abbrev S1x6x3x2304 : Shape := ⟨4, ![1, 6, 3, 2304]⟩
abbrev S1x512x4384 : Shape := ⟨3, ![1, 512, 4384]⟩
abbrev S1x8x4384 : Shape := ⟨3, ![1, 8, 4384]⟩
abbrev S1x4x2304 : Shape := ⟨3, ![1, 4, 2304]⟩
abbrev S1x2048x512 : Shape := ⟨3, ![1, 2048, 512]⟩
abbrev S1x16x1024 : Shape := ⟨3, ![1, 16, 1024]⟩
abbrev S1x144x2048 : Shape := ⟨3, ![1, 144, 2048]⟩
abbrev S1x144x1024 : Shape := ⟨3, ![1, 144, 1024]⟩
abbrev S1x144x2304 : Shape := ⟨3, ![1, 144, 2304]⟩
abbrev S1x144x32 : Shape := ⟨3, ![1, 144, 32]⟩
abbrev S144x2048 : Shape := ⟨2, ![144, 2048]⟩
abbrev S18x192x128 : Shape := ⟨3, ![18, 192, 128]⟩
abbrev S2x144x128 : Shape := ⟨3, ![2, 144, 128]⟩
abbrev S144x32 : Shape := ⟨2, ![144, 32]⟩
abbrev S96x2048 : Shape := ⟨2, ![96, 2048]⟩
abbrev S96x1024 : Shape := ⟨2, ![96, 1024]⟩
abbrev S296x2048 : Shape := ⟨2, ![296, 2048]⟩
abbrev S288x1024 : Shape := ⟨2, ![288, 1024]⟩
abbrev S144x144 : Shape := ⟨2, ![144, 144]⟩
abbrev S144 : Shape := ⟨1, ![144]⟩
abbrev S144x1 : Shape := ⟨2, ![144, 1]⟩
abbrev S1x1024 : Shape := ⟨2, ![1, 1024]⟩
abbrev S8x4384 : Shape := ⟨2, ![8, 4384]⟩
abbrev S1x512x256 : Shape := ⟨3, ![1, 512, 256]⟩
abbrev S512x256 : Shape := ⟨2, ![512, 256]⟩
abbrev S128x256 : Shape := ⟨2, ![128, 256]⟩
abbrev S144x512 : Shape := ⟨2, ![144, 512]⟩
abbrev S4x256 : Shape := ⟨2, ![4, 256]⟩
abbrev S1x256 : Shape := ⟨2, ![1, 256]⟩
abbrev S144x256 : Shape := ⟨2, ![144, 256]⟩
abbrev S1x144x256 : Shape := ⟨3, ![1, 144, 256]⟩
abbrev S24x128 : Shape := ⟨2, ![24, 128]⟩
abbrev S1x24x128 : Shape := ⟨3, ![1, 24, 128]⟩
abbrev S1x512x32 : Shape := ⟨3, ![1, 512, 32]⟩
abbrev S512x32 : Shape := ⟨2, ![512, 32]⟩
abbrev S128x32 : Shape := ⟨2, ![128, 32]⟩
abbrev S4x32 : Shape := ⟨2, ![4, 32]⟩
abbrev S1x32 : Shape := ⟨2, ![1, 32]⟩
abbrev S1x24x256 : Shape := ⟨3, ![1, 24, 256]⟩
abbrev S24x256 : Shape := ⟨2, ![24, 256]⟩
abbrev S1x2048 : Shape := ⟨2, ![1, 2048]⟩
abbrev S16x1024 : Shape := ⟨2, ![16, 1024]⟩
abbrev S1x144x512 : Shape := ⟨3, ![1, 144, 512]⟩

abbrev nBuf : Space → Nat
  | .hbm => 24
  | .vmem => 47
  | .smem => 1
  | _ => 0

abbrev bufTy : (tb : Table) → Fin (tcTables nBuf tb) → BufTy
  | .hbm, ⟨0, _⟩ => ⟨S6x24x1024, .bf16⟩
  | .hbm, ⟨1, _⟩ => ⟨S6, .i32⟩
  | .hbm, ⟨2, _⟩ => ⟨S14x6x32x64x128, .i8⟩
  | .hbm, ⟨3, _⟩ => ⟨S14x6x32x64, .f32⟩
  | .hbm, ⟨4, _⟩ => ⟨S14x6x3x2304, .i8⟩
  | .hbm, ⟨5, _⟩ => ⟨S14x2304, .f32⟩
  | .hbm, ⟨6, _⟩ => ⟨S14x1024, .f32⟩
  | .hbm, ⟨7, _⟩ => ⟨S14x512x4384, .i8⟩
  | .hbm, ⟨8, _⟩ => ⟨S14x8x4384, .bf16⟩
  | .hbm, ⟨9, _⟩ => ⟨S14x4x2304, .f32⟩
  | .hbm, ⟨10, _⟩ => ⟨S14x2304, .f32⟩
  | .hbm, ⟨11, _⟩ => ⟨S14x32, .f32⟩
  | .hbm, ⟨12, _⟩ => ⟨S14x32, .f32⟩
  | .hbm, ⟨13, _⟩ => ⟨S14x32, .f32⟩
  | .hbm, ⟨14, _⟩ => ⟨S14x2048, .f32⟩
  | .hbm, ⟨15, _⟩ => ⟨S14x2048x512, .i8⟩
  | .hbm, ⟨16, _⟩ => ⟨S14x16x1024, .bf16⟩
  | .hbm, ⟨17, _⟩ => ⟨S14x144x2048, .f32⟩
  | .hbm, ⟨18, _⟩ => ⟨S144x1024, .bf16⟩
  | .hbm, ⟨19, _⟩ => ⟨S14x6x2048x128, .i8⟩
  | .hbm, ⟨20, _⟩ => ⟨S14x144x1024, .f32⟩
  | .hbm, ⟨21, _⟩ => ⟨S14x144x2048, .bf16⟩
  | .hbm, ⟨22, _⟩ => ⟨S14x144x2304, .f32⟩
  | .hbm, ⟨23, _⟩ => ⟨S14x144x32, .f32⟩
  | .local _ .vmem, ⟨0, _⟩ => ⟨S144x1024, .bf16⟩
  | .local _ .vmem, ⟨1, _⟩ => ⟨S1x6x2048x128, .i8⟩
  | .local _ .vmem, ⟨2, _⟩ => ⟨S1x6x2048x128, .i8⟩
  | .local _ .vmem, ⟨3, _⟩ => ⟨S1x6x32x64, .f32⟩
  | .local _ .vmem, ⟨4, _⟩ => ⟨S1x6x32x64, .f32⟩
  | .local _ .vmem, ⟨5, _⟩ => ⟨S1x6x3x2304, .i8⟩
  | .local _ .vmem, ⟨6, _⟩ => ⟨S1x6x3x2304, .i8⟩
  | .local _ .vmem, ⟨7, _⟩ => ⟨S14x2304, .f32⟩
  | .local _ .vmem, ⟨8, _⟩ => ⟨S14x1024, .f32⟩
  | .local _ .vmem, ⟨9, _⟩ => ⟨S1x512x4384, .i8⟩
  | .local _ .vmem, ⟨10, _⟩ => ⟨S1x512x4384, .i8⟩
  | .local _ .vmem, ⟨11, _⟩ => ⟨S1x8x4384, .bf16⟩
  | .local _ .vmem, ⟨12, _⟩ => ⟨S1x8x4384, .bf16⟩
  | .local _ .vmem, ⟨13, _⟩ => ⟨S1x4x2304, .f32⟩
  | .local _ .vmem, ⟨14, _⟩ => ⟨S1x4x2304, .f32⟩
  | .local _ .vmem, ⟨15, _⟩ => ⟨S14x2304, .f32⟩
  | .local _ .vmem, ⟨16, _⟩ => ⟨S14x32, .f32⟩
  | .local _ .vmem, ⟨17, _⟩ => ⟨S14x32, .f32⟩
  | .local _ .vmem, ⟨18, _⟩ => ⟨S14x32, .f32⟩
  | .local _ .vmem, ⟨19, _⟩ => ⟨S14x2048, .f32⟩
  | .local _ .vmem, ⟨20, _⟩ => ⟨S1x2048x512, .i8⟩
  | .local _ .vmem, ⟨21, _⟩ => ⟨S1x2048x512, .i8⟩
  | .local _ .vmem, ⟨22, _⟩ => ⟨S1x16x1024, .bf16⟩
  | .local _ .vmem, ⟨23, _⟩ => ⟨S1x16x1024, .bf16⟩
  | .local _ .vmem, ⟨24, _⟩ => ⟨S1x144x2048, .f32⟩
  | .local _ .vmem, ⟨25, _⟩ => ⟨S1x144x2048, .f32⟩
  | .local _ .vmem, ⟨26, _⟩ => ⟨S1x144x1024, .f32⟩
  | .local _ .vmem, ⟨27, _⟩ => ⟨S1x144x1024, .f32⟩
  | .local _ .vmem, ⟨28, _⟩ => ⟨S1x144x2048, .bf16⟩
  | .local _ .vmem, ⟨29, _⟩ => ⟨S1x144x2048, .bf16⟩
  | .local _ .vmem, ⟨30, _⟩ => ⟨S1x144x2304, .f32⟩
  | .local _ .vmem, ⟨31, _⟩ => ⟨S1x144x2304, .f32⟩
  | .local _ .vmem, ⟨32, _⟩ => ⟨S1x144x32, .f32⟩
  | .local _ .vmem, ⟨33, _⟩ => ⟨S1x144x32, .f32⟩
  | .local _ .vmem, ⟨34, _⟩ => ⟨S144x1024, .f32⟩
  | .local _ .vmem, ⟨35, _⟩ => ⟨S144x1024, .bf16⟩
  | .local _ .vmem, ⟨36, _⟩ => ⟨S144x2048, .f32⟩
  | .local _ .vmem, ⟨37, _⟩ => ⟨S18x192x128, .f32⟩
  | .local _ .vmem, ⟨38, _⟩ => ⟨S144x2048, .f32⟩
  | .local _ .vmem, ⟨39, _⟩ => ⟨S2x144x128, .f32⟩
  | .local _ .vmem, ⟨40, _⟩ => ⟨S144x32, .f32⟩
  | .local _ .vmem, ⟨41, _⟩ => ⟨S96x2048, .bf16⟩
  | .local _ .vmem, ⟨42, _⟩ => ⟨S96x1024, .bf16⟩
  | .local _ .vmem, ⟨43, _⟩ => ⟨S296x2048, .f32⟩
  | .local _ .vmem, ⟨44, _⟩ => ⟨S288x1024, .f32⟩
  | .local _ .vmem, ⟨45, _⟩ => ⟨S144x144, .bf16⟩
  | .local _ .vmem, ⟨46, _⟩ => ⟨S144x2048, .f32⟩
  | .local _ .smem, ⟨0, _⟩ => ⟨S6, .i32⟩
  | _, _ => ⟨S6x24x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .smem, ⟨0, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2_0 : Ref sig .tc := ⟨.hbm, 20, rfl⟩
abbrev main_v2_1 : Ref sig .tc := ⟨.hbm, 21, rfl⟩
abbrev main_v2_2 : Ref sig .tc := ⟨.hbm, 22, rfl⟩
abbrev main_v2_3 : Ref sig .tc := ⟨.hbm, 23, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_scratch4 : Ref sig .tc := ⟨.vmem, 38, rfl⟩
abbrev cc0_scratch5 : Ref sig .tc := ⟨.vmem, 39, rfl⟩
abbrev cc0_scratch6 : Ref sig .tc := ⟨.vmem, 40, rfl⟩
abbrev cc0_scratch7 : Ref sig .tc := ⟨.vmem, 41, rfl⟩
abbrev cc0_scratch8 : Ref sig .tc := ⟨.vmem, 42, rfl⟩
abbrev cc0_scratch9 : Ref sig .tc := ⟨.vmem, 43, rfl⟩
abbrev cc0_scratch10 : Ref sig .tc := ⟨.vmem, 44, rfl⟩
abbrev cc0_scratch11 : Ref sig .tc := ⟨.vmem, 45, rfl⟩
abbrev cc0_scratch12 : Ref sig .tc := ⟨.vmem, 46, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [FloatOps F]

abbrev grid0 : Pipeline.Grid := ⟨1, ![14], ![false]⟩

def k0_off1 (i : grid0.Coords) : Fin 2 → Nat :=
  let arg0 : BitVec 32 := BitVec.ofNat 32 (i 0).val
  let v14 : Index := Scalar.indexCast arg0
  let c0_4 : Index := 0#32
  ![v14.toNat, 0]
def k0_off2 (i : grid0.Coords) : Fin 2 → Nat :=
  let arg0 : BitVec 32 := BitVec.ofNat 32 (i 0).val
  let v2218 : Index := Scalar.indexCast arg0
  let c0_1039 : Index := 0#32
  ![v2218.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S144x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x2048x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x32x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x3x2304 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S14x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S14x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x4384 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x4384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x2304 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S14x2304 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S14x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S14x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S14x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S14x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x2048x512 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x16x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x144x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x144x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x144x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x144x2304 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x144x32 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ReferenceIdeal.lean ====
abbrev S6x24x1024 : Shape := ⟨3, ![6, 24, 1024]⟩
abbrev S6 : Shape := ⟨1, ![6]⟩
abbrev S14x6x32x64x128 : Shape := ⟨5, ![14, 6, 32, 64, 128]⟩
abbrev S14x6x32x64 : Shape := ⟨4, ![14, 6, 32, 64]⟩
abbrev S14x6x3x2304 : Shape := ⟨4, ![14, 6, 3, 2304]⟩
abbrev S14x2304 : Shape := ⟨2, ![14, 2304]⟩
abbrev S14x1024 : Shape := ⟨2, ![14, 1024]⟩
abbrev S14x512x4384 : Shape := ⟨3, ![14, 512, 4384]⟩
abbrev S14x8x4384 : Shape := ⟨3, ![14, 8, 4384]⟩
abbrev S14x4x2304 : Shape := ⟨3, ![14, 4, 2304]⟩
abbrev S14x32 : Shape := ⟨2, ![14, 32]⟩
abbrev S14x2048 : Shape := ⟨2, ![14, 2048]⟩
abbrev S14x2048x512 : Shape := ⟨3, ![14, 2048, 512]⟩
abbrev S14x16x1024 : Shape := ⟨3, ![14, 16, 1024]⟩
abbrev S14x144x2048 : Shape := ⟨3, ![14, 144, 2048]⟩
abbrev S144x1024 : Shape := ⟨2, ![144, 1024]⟩
abbrev S_ : Shape := ⟨0, ![]⟩
abbrev S14x144x1024 : Shape := ⟨3, ![14, 144, 1024]⟩
abbrev S14x144x2304 : Shape := ⟨3, ![14, 144, 2304]⟩
abbrev S14x144x32 : Shape := ⟨3, ![14, 144, 32]⟩
abbrev S1x1024 : Shape := ⟨2, ![1, 1024]⟩
abbrev S1024 : Shape := ⟨1, ![1024]⟩
abbrev S1x512x4384 : Shape := ⟨3, ![1, 512, 4384]⟩
abbrev S512x4384 : Shape := ⟨2, ![512, 4384]⟩
abbrev S1x8x4384 : Shape := ⟨3, ![1, 8, 4384]⟩
abbrev S8x4384 : Shape := ⟨2, ![8, 4384]⟩
abbrev S1x2048 : Shape := ⟨2, ![1, 2048]⟩
abbrev S2048 : Shape := ⟨1, ![2048]⟩
abbrev S1x2048x512 : Shape := ⟨3, ![1, 2048, 512]⟩
abbrev S2048x512 : Shape := ⟨2, ![2048, 512]⟩
abbrev S1x16x1024 : Shape := ⟨3, ![1, 16, 1024]⟩
abbrev S16x1024 : Shape := ⟨2, ![16, 1024]⟩
abbrev S1x144x2048 : Shape := ⟨3, ![1, 144, 2048]⟩
abbrev S144x2048 : Shape := ⟨2, ![144, 2048]⟩
abbrev S144 : Shape := ⟨1, ![144]⟩
abbrev S144x1 : Shape := ⟨2, ![144, 1]⟩
abbrev S144x512 : Shape := ⟨2, ![144, 512]⟩
abbrev S4x4384 : Shape := ⟨2, ![4, 4384]⟩
abbrev S4x128x4384 : Shape := ⟨3, ![4, 128, 4384]⟩
abbrev S4x1x4384 : Shape := ⟨3, ![4, 1, 4384]⟩
abbrev S144x4384 : Shape := ⟨2, ![144, 4384]⟩
abbrev S144x2304 : Shape := ⟨2, ![144, 2304]⟩
abbrev S144x32 : Shape := ⟨2, ![144, 32]⟩
abbrev S16x512 : Shape := ⟨2, ![16, 512]⟩
abbrev S16x128x512 : Shape := ⟨3, ![16, 128, 512]⟩
abbrev S16x1x512 : Shape := ⟨3, ![16, 1, 512]⟩
abbrev S1x144x1024 : Shape := ⟨3, ![1, 144, 1024]⟩
abbrev S1x144x2304 : Shape := ⟨3, ![1, 144, 2304]⟩
abbrev S1x144x32 : Shape := ⟨3, ![1, 144, 32]⟩

abbrev nBuf : Space → Nat
  | .hbm => 210
  | .vmem => 0
  | .smem => 0
  | _ => 0

abbrev hbmTy0_0 (i : Nat) : BufTy := match i % 128 with
  | 0 => ⟨S6x24x1024, .bf16⟩
  | 1 => ⟨S6, .i32⟩
  | 2 => ⟨S14x6x32x64x128, .i8⟩
  | 3 => ⟨S14x6x32x64, .f32⟩
  | 4 => ⟨S14x6x3x2304, .i8⟩
  | 5 => ⟨S14x2304, .f32⟩
  | 6 => ⟨S14x1024, .f32⟩
  | 7 => ⟨S14x512x4384, .i8⟩
  | 8 => ⟨S14x8x4384, .bf16⟩
  | 9 => ⟨S14x4x2304, .f32⟩
  | 10 => ⟨S14x2304, .f32⟩
  | 11 => ⟨S14x32, .f32⟩
  | 12 => ⟨S14x32, .f32⟩
  | 13 => ⟨S14x32, .f32⟩
  | 14 => ⟨S14x2048, .f32⟩
  | 15 => ⟨S14x2048x512, .i8⟩
  | 16 => ⟨S14x16x1024, .bf16⟩
  | 17 => ⟨S14x144x2048, .f32⟩
  | 18 => ⟨S144x1024, .bf16⟩
  | 19 => ⟨S144x1024, .f32⟩
  | 20 => ⟨S_, .f32⟩
  | 21 => ⟨S14x144x1024, .f32⟩
  | 22 => ⟨S_, .bf16⟩
  | 23 => ⟨S14x144x2048, .bf16⟩
  | 24 => ⟨S_, .f32⟩
  | 25 => ⟨S14x144x2304, .f32⟩
  | 26 => ⟨S_, .f32⟩
  | 27 => ⟨S14x144x32, .f32⟩
  | 28 => ⟨S_, .i32⟩
  | 29 => ⟨S14x1024, .f32⟩
  | 30 => ⟨S14x512x4384, .i8⟩
  | 31 => ⟨S14x8x4384, .bf16⟩
  | 32 => ⟨S14x2048, .f32⟩
  | 33 => ⟨S14x2048x512, .i8⟩
  | 34 => ⟨S14x16x1024, .bf16⟩
  | 35 => ⟨S14x144x2048, .f32⟩
  | 36 => ⟨S_, .i32⟩
  | 37 => ⟨S144x1024, .f32⟩
  | 38 => ⟨S14x144x1024, .f32⟩
  | 39 => ⟨S14x144x2048, .bf16⟩
  | 40 => ⟨S14x144x2304, .f32⟩
  | 41 => ⟨S14x144x32, .f32⟩
  | 42 => ⟨S_, .i32⟩
  | 43 => ⟨S_, .i1⟩
  | 44 => ⟨S_, .i32⟩
  | 45 => ⟨S1x1024, .f32⟩
  | 46 => ⟨S1024, .f32⟩
  | 47 => ⟨S_, .i32⟩
  | 48 => ⟨S_, .i32⟩
  | 49 => ⟨S1x512x4384, .i8⟩
  | 50 => ⟨S512x4384, .i8⟩
  | 51 => ⟨S_, .i32⟩
  | 52 => ⟨S_, .i32⟩
  | 53 => ⟨S1x8x4384, .bf16⟩
  | 54 => ⟨S8x4384, .bf16⟩
  | 55 => ⟨S_, .i32⟩
  | 56 => ⟨S1x2048, .f32⟩
  | 57 => ⟨S2048, .f32⟩
  | 58 => ⟨S_, .i32⟩
  | 59 => ⟨S_, .i32⟩
  | 60 => ⟨S1x2048x512, .i8⟩
  | 61 => ⟨S2048x512, .i8⟩
  | 62 => ⟨S_, .i32⟩
  | 63 => ⟨S_, .i32⟩
  | 64 => ⟨S1x16x1024, .bf16⟩
  | 65 => ⟨S16x1024, .bf16⟩
  | 66 => ⟨S_, .i32⟩
  | 67 => ⟨S_, .i32⟩
  | 68 => ⟨S1x144x2048, .f32⟩
  | 69 => ⟨S144x2048, .f32⟩
  | 70 => ⟨S144x1024, .f32⟩
  | 71 => ⟨S_, .f32⟩
  | 72 => ⟨S144, .f32⟩
  | 73 => ⟨S144x1, .f32⟩
  | 74 => ⟨S_, .f32⟩
  | 75 => ⟨S144x1, .f32⟩
  | 76 => ⟨S144x1, .f32⟩
  | 77 => ⟨S_, .f32⟩
  | 78 => ⟨S144x1, .f32⟩
  | 79 => ⟨S144x1, .f32⟩
  | 80 => ⟨S144x1, .f32⟩
  | 81 => ⟨S144x1024, .f32⟩
  | 82 => ⟨S144x1024, .f32⟩
  | 83 => ⟨S1x1024, .f32⟩
  | 84 => ⟨S144x1024, .f32⟩
  | 85 => ⟨S144x1024, .f32⟩
  | 86 => ⟨S144x1024, .bf16⟩
  | 87 => ⟨S512x4384, .i32⟩
  | 88 => ⟨S_, .i32⟩
  | 89 => ⟨S512x4384, .i32⟩
  | 90 => ⟨S512x4384, .i32⟩
  | 91 => ⟨S_, .i32⟩
  | 92 => ⟨S512x4384, .i32⟩
  | 93 => ⟨S512x4384, .i32⟩
  | 94 => ⟨S_, .i32⟩
  | 95 => ⟨S512x4384, .i32⟩
  | 96 => ⟨S512x4384, .i32⟩
  | 97 => ⟨S_, .i32⟩
  | 98 => ⟨S512x4384, .i32⟩
  | 99 => ⟨S512x4384, .i32⟩
  | 100 => ⟨S_, .i32⟩
  | 101 => ⟨S512x4384, .i32⟩
  | 102 => ⟨S512x4384, .i32⟩
  | 103 => ⟨S_, .i32⟩
  | 104 => ⟨S512x4384, .i32⟩
  | 105 => ⟨S512x4384, .i32⟩
  | 106 => ⟨S512x4384, .bf16⟩
  | 107 => ⟨S512x4384, .bf16⟩
  | 108 => ⟨S144x512, .bf16⟩
  | 109 => ⟨S4x4384, .bf16⟩
  | 110 => ⟨S4x128x4384, .bf16⟩
  | 111 => ⟨S4x1x4384, .bf16⟩
  | 112 => ⟨S4x128x4384, .bf16⟩
  | 113 => ⟨S4x128x4384, .bf16⟩
  | 114 => ⟨S512x4384, .bf16⟩
  | 115 => ⟨S144x4384, .f32⟩
  | 116 => ⟨S144x512, .bf16⟩
  | 117 => ⟨S4x4384, .bf16⟩
  | 118 => ⟨S4x128x4384, .bf16⟩
  | 119 => ⟨S4x1x4384, .bf16⟩
  | 120 => ⟨S4x128x4384, .bf16⟩
  | 121 => ⟨S4x128x4384, .bf16⟩
  | 122 => ⟨S512x4384, .bf16⟩
  | 123 => ⟨S144x4384, .f32⟩
  | 124 => ⟨S144x4384, .f32⟩
  | 125 => ⟨S144x2048, .f32⟩
  | 126 => ⟨S144x2304, .f32⟩
  | 127 => ⟨S144x32, .f32⟩
  | _ => ⟨S6x24x1024, .bf16⟩

abbrev hbmTy0_1 (i : Nat) : BufTy := match i % 128 with
  | 0 => ⟨S144x2048, .f32⟩
  | 1 => ⟨S144x2048, .f32⟩
  | 2 => ⟨S144x2048, .f32⟩
  | 3 => ⟨S_, .f32⟩
  | 4 => ⟨S144x2048, .f32⟩
  | 5 => ⟨S144x2048, .f32⟩
  | 6 => ⟨S_, .f32⟩
  | 7 => ⟨S144x2048, .f32⟩
  | 8 => ⟨S144x2048, .f32⟩
  | 9 => ⟨S144x2048, .f32⟩
  | 10 => ⟨S144x2048, .f32⟩
  | 11 => ⟨S_, .f32⟩
  | 12 => ⟨S144, .f32⟩
  | 13 => ⟨S144x1, .f32⟩
  | 14 => ⟨S_, .f32⟩
  | 15 => ⟨S144x1, .f32⟩
  | 16 => ⟨S144x1, .f32⟩
  | 17 => ⟨S_, .f32⟩
  | 18 => ⟨S144x1, .f32⟩
  | 19 => ⟨S144x1, .f32⟩
  | 20 => ⟨S144x1, .f32⟩
  | 21 => ⟨S144x2048, .f32⟩
  | 22 => ⟨S144x2048, .f32⟩
  | 23 => ⟨S1x2048, .f32⟩
  | 24 => ⟨S144x2048, .f32⟩
  | 25 => ⟨S144x2048, .f32⟩
  | 26 => ⟨S144x2048, .bf16⟩
  | 27 => ⟨S2048x512, .i32⟩
  | 28 => ⟨S_, .i32⟩
  | 29 => ⟨S2048x512, .i32⟩
  | 30 => ⟨S2048x512, .i32⟩
  | 31 => ⟨S_, .i32⟩
  | 32 => ⟨S2048x512, .i32⟩
  | 33 => ⟨S2048x512, .i32⟩
  | 34 => ⟨S_, .i32⟩
  | 35 => ⟨S2048x512, .i32⟩
  | 36 => ⟨S2048x512, .i32⟩
  | 37 => ⟨S_, .i32⟩
  | 38 => ⟨S2048x512, .i32⟩
  | 39 => ⟨S2048x512, .i32⟩
  | 40 => ⟨S_, .i32⟩
  | 41 => ⟨S2048x512, .i32⟩
  | 42 => ⟨S2048x512, .i32⟩
  | 43 => ⟨S_, .i32⟩
  | 44 => ⟨S2048x512, .i32⟩
  | 45 => ⟨S2048x512, .i32⟩
  | 46 => ⟨S2048x512, .bf16⟩
  | 47 => ⟨S2048x512, .bf16⟩
  | 48 => ⟨S16x512, .bf16⟩
  | 49 => ⟨S16x128x512, .bf16⟩
  | 50 => ⟨S16x1x512, .bf16⟩
  | 51 => ⟨S16x128x512, .bf16⟩
  | 52 => ⟨S16x128x512, .bf16⟩
  | 53 => ⟨S2048x512, .bf16⟩
  | 54 => ⟨S144x512, .f32⟩
  | 55 => ⟨S16x512, .bf16⟩
  | 56 => ⟨S16x128x512, .bf16⟩
  | 57 => ⟨S16x1x512, .bf16⟩
  | 58 => ⟨S16x128x512, .bf16⟩
  | 59 => ⟨S16x128x512, .bf16⟩
  | 60 => ⟨S2048x512, .bf16⟩
  | 61 => ⟨S144x512, .f32⟩
  | 62 => ⟨S144x1024, .f32⟩
  | 63 => ⟨S144x1024, .f32⟩
  | 64 => ⟨S1x144x1024, .f32⟩
  | 65 => ⟨S_, .i32⟩
  | 66 => ⟨S_, .i32⟩
  | 67 => ⟨S14x144x1024, .f32⟩
  | 68 => ⟨S1x144x2048, .bf16⟩
  | 69 => ⟨S_, .i32⟩
  | 70 => ⟨S_, .i32⟩
  | 71 => ⟨S14x144x2048, .bf16⟩
  | 72 => ⟨S1x144x2304, .f32⟩
  | 73 => ⟨S_, .i32⟩
  | 74 => ⟨S_, .i32⟩
  | 75 => ⟨S14x144x2304, .f32⟩
  | 76 => ⟨S1x144x32, .f32⟩
  | 77 => ⟨S_, .i32⟩
  | 78 => ⟨S_, .i32⟩
  | 79 => ⟨S14x144x32, .f32⟩
  | 80 => ⟨S_, .i32⟩
  | 81 => ⟨S_, .i32⟩
  | _ => ⟨S6x24x1024, .bf16⟩

abbrev hbmTy (i : Nat) : BufTy := match i / 128 with
  | 0 => hbmTy0_0 i
  | 1 => hbmTy0_1 i
  | _ => ⟨S6x24x1024, .bf16⟩

abbrev bufTy : (tb : Table) → Fin (tcTables nBuf tb) → BufTy
  | .hbm, ⟨i, _⟩ => hbmTy i
  | _, _ => ⟨S6x24x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_cst_1 : Ref sig .tc := ⟨.hbm, 24, rfl⟩
abbrev main_v4 : Ref sig .tc := ⟨.hbm, 25, rfl⟩
abbrev main_cst_2 : Ref sig .tc := ⟨.hbm, 26, rfl⟩
abbrev main_v5 : Ref sig .tc := ⟨.hbm, 27, rfl⟩
abbrev main_c : Ref sig .tc := ⟨.hbm, 28, rfl⟩
abbrev main_v6_0 : Ref sig .tc := ⟨.hbm, 29, rfl⟩
abbrev main_v6_1 : Ref sig .tc := ⟨.hbm, 30, rfl⟩
abbrev main_v6_2 : Ref sig .tc := ⟨.hbm, 31, rfl⟩
abbrev main_v6_3 : Ref sig .tc := ⟨.hbm, 32, rfl⟩
abbrev main_v6_4 : Ref sig .tc := ⟨.hbm, 33, rfl⟩
abbrev main_v6_5 : Ref sig .tc := ⟨.hbm, 34, rfl⟩
abbrev main_v6_6 : Ref sig .tc := ⟨.hbm, 35, rfl⟩
abbrev main_v6_7 : Ref sig .tc := ⟨.hbm, 36, rfl⟩
abbrev main_v6_8 : Ref sig .tc := ⟨.hbm, 37, rfl⟩
abbrev main_v6_9 : Ref sig .tc := ⟨.hbm, 38, rfl⟩
abbrev main_v6_10 : Ref sig .tc := ⟨.hbm, 39, rfl⟩
abbrev main_v6_11 : Ref sig .tc := ⟨.hbm, 40, rfl⟩
abbrev main_v6_12 : Ref sig .tc := ⟨.hbm, 41, rfl⟩
abbrev main_while0c_c_15 : Ref sig .tc := ⟨.hbm, 42, rfl⟩
abbrev main_while0c_v7 : Ref sig .tc := ⟨.hbm, 43, rfl⟩
abbrev main_while0b_call0_c : Ref sig .tc := ⟨.hbm, 44, rfl⟩
abbrev main_while0b_call0_v0 : Ref sig .tc := ⟨.hbm, 45, rfl⟩
abbrev main_while0b_v7 : Ref sig .tc := ⟨.hbm, 46, rfl⟩
abbrev main_while0b_call1_c : Ref sig .tc := ⟨.hbm, 47, rfl⟩
abbrev main_while0b_call1_c_0 : Ref sig .tc := ⟨.hbm, 48, rfl⟩
abbrev main_while0b_call1_v0 : Ref sig .tc := ⟨.hbm, 49, rfl⟩
abbrev main_while0b_v8 : Ref sig .tc := ⟨.hbm, 50, rfl⟩
abbrev main_while0b_call2_c : Ref sig .tc := ⟨.hbm, 51, rfl⟩
abbrev main_while0b_call2_c_0 : Ref sig .tc := ⟨.hbm, 52, rfl⟩
abbrev main_while0b_call2_v0 : Ref sig .tc := ⟨.hbm, 53, rfl⟩
abbrev main_while0b_v9 : Ref sig .tc := ⟨.hbm, 54, rfl⟩
abbrev main_while0b_call3_c : Ref sig .tc := ⟨.hbm, 55, rfl⟩
abbrev main_while0b_call3_v0 : Ref sig .tc := ⟨.hbm, 56, rfl⟩
abbrev main_while0b_v10 : Ref sig .tc := ⟨.hbm, 57, rfl⟩
abbrev main_while0b_call4_c : Ref sig .tc := ⟨.hbm, 58, rfl⟩
abbrev main_while0b_call4_c_0 : Ref sig .tc := ⟨.hbm, 59, rfl⟩
abbrev main_while0b_call4_v0 : Ref sig .tc := ⟨.hbm, 60, rfl⟩
abbrev main_while0b_v11 : Ref sig .tc := ⟨.hbm, 61, rfl⟩
abbrev main_while0b_call5_c : Ref sig .tc := ⟨.hbm, 62, rfl⟩
abbrev main_while0b_call5_c_0 : Ref sig .tc := ⟨.hbm, 63, rfl⟩
abbrev main_while0b_call5_v0 : Ref sig .tc := ⟨.hbm, 64, rfl⟩
abbrev main_while0b_v12 : Ref sig .tc := ⟨.hbm, 65, rfl⟩
abbrev main_while0b_call6_c : Ref sig .tc := ⟨.hbm, 66, rfl⟩
abbrev main_while0b_call6_c_0 : Ref sig .tc := ⟨.hbm, 67, rfl⟩
abbrev main_while0b_call6_v0 : Ref sig .tc := ⟨.hbm, 68, rfl⟩
abbrev main_while0b_v13 : Ref sig .tc := ⟨.hbm, 69, rfl⟩
abbrev main_while0b_v14 : Ref sig .tc := ⟨.hbm, 70, rfl⟩
abbrev main_while0b_cst_15 : Ref sig .tc := ⟨.hbm, 71, rfl⟩
abbrev main_while0b_v15 : Ref sig .tc := ⟨.hbm, 72, rfl⟩
abbrev main_while0b_v16 : Ref sig .tc := ⟨.hbm, 73, rfl⟩
abbrev main_while0b_cst_16 : Ref sig .tc := ⟨.hbm, 74, rfl⟩
abbrev main_while0b_v17 : Ref sig .tc := ⟨.hbm, 75, rfl⟩
abbrev main_while0b_v18 : Ref sig .tc := ⟨.hbm, 76, rfl⟩
abbrev main_while0b_cst_17 : Ref sig .tc := ⟨.hbm, 77, rfl⟩
abbrev main_while0b_v19 : Ref sig .tc := ⟨.hbm, 78, rfl⟩
abbrev main_while0b_v20 : Ref sig .tc := ⟨.hbm, 79, rfl⟩
abbrev main_while0b_v21 : Ref sig .tc := ⟨.hbm, 80, rfl⟩
abbrev main_while0b_v22 : Ref sig .tc := ⟨.hbm, 81, rfl⟩
abbrev main_while0b_v23 : Ref sig .tc := ⟨.hbm, 82, rfl⟩
abbrev main_while0b_v24 : Ref sig .tc := ⟨.hbm, 83, rfl⟩
abbrev main_while0b_v25 : Ref sig .tc := ⟨.hbm, 84, rfl⟩
abbrev main_while0b_v26 : Ref sig .tc := ⟨.hbm, 85, rfl⟩
abbrev main_while0b_v27 : Ref sig .tc := ⟨.hbm, 86, rfl⟩
abbrev main_while0b_v28 : Ref sig .tc := ⟨.hbm, 87, rfl⟩
abbrev main_while0b_c_18 : Ref sig .tc := ⟨.hbm, 88, rfl⟩
abbrev main_while0b_v29 : Ref sig .tc := ⟨.hbm, 89, rfl⟩
abbrev main_while0b_v30 : Ref sig .tc := ⟨.hbm, 90, rfl⟩
abbrev main_while0b_c_19 : Ref sig .tc := ⟨.hbm, 91, rfl⟩
abbrev main_while0b_v31 : Ref sig .tc := ⟨.hbm, 92, rfl⟩
abbrev main_while0b_v32 : Ref sig .tc := ⟨.hbm, 93, rfl⟩
abbrev main_while0b_c_20 : Ref sig .tc := ⟨.hbm, 94, rfl⟩
abbrev main_while0b_v33 : Ref sig .tc := ⟨.hbm, 95, rfl⟩
abbrev main_while0b_v34 : Ref sig .tc := ⟨.hbm, 96, rfl⟩
abbrev main_while0b_c_21 : Ref sig .tc := ⟨.hbm, 97, rfl⟩
abbrev main_while0b_v35 : Ref sig .tc := ⟨.hbm, 98, rfl⟩
abbrev main_while0b_v36 : Ref sig .tc := ⟨.hbm, 99, rfl⟩
abbrev main_while0b_c_22 : Ref sig .tc := ⟨.hbm, 100, rfl⟩
abbrev main_while0b_v37 : Ref sig .tc := ⟨.hbm, 101, rfl⟩
abbrev main_while0b_v38 : Ref sig .tc := ⟨.hbm, 102, rfl⟩
abbrev main_while0b_c_23 : Ref sig .tc := ⟨.hbm, 103, rfl⟩
abbrev main_while0b_v39 : Ref sig .tc := ⟨.hbm, 104, rfl⟩
abbrev main_while0b_v40 : Ref sig .tc := ⟨.hbm, 105, rfl⟩
abbrev main_while0b_v41 : Ref sig .tc := ⟨.hbm, 106, rfl⟩
abbrev main_while0b_v42 : Ref sig .tc := ⟨.hbm, 107, rfl⟩
abbrev main_while0b_v43 : Ref sig .tc := ⟨.hbm, 108, rfl⟩
abbrev main_while0b_v44 : Ref sig .tc := ⟨.hbm, 109, rfl⟩
abbrev main_while0b_v45 : Ref sig .tc := ⟨.hbm, 110, rfl⟩
abbrev main_while0b_v46 : Ref sig .tc := ⟨.hbm, 111, rfl⟩
abbrev main_while0b_v47 : Ref sig .tc := ⟨.hbm, 112, rfl⟩
abbrev main_while0b_v48 : Ref sig .tc := ⟨.hbm, 113, rfl⟩
abbrev main_while0b_v49 : Ref sig .tc := ⟨.hbm, 114, rfl⟩
abbrev main_while0b_v50 : Ref sig .tc := ⟨.hbm, 115, rfl⟩
abbrev main_while0b_v51 : Ref sig .tc := ⟨.hbm, 116, rfl⟩
abbrev main_while0b_v52 : Ref sig .tc := ⟨.hbm, 117, rfl⟩
abbrev main_while0b_v53 : Ref sig .tc := ⟨.hbm, 118, rfl⟩
abbrev main_while0b_v54 : Ref sig .tc := ⟨.hbm, 119, rfl⟩
abbrev main_while0b_v55 : Ref sig .tc := ⟨.hbm, 120, rfl⟩
abbrev main_while0b_v56 : Ref sig .tc := ⟨.hbm, 121, rfl⟩
abbrev main_while0b_v57 : Ref sig .tc := ⟨.hbm, 122, rfl⟩
abbrev main_while0b_v58 : Ref sig .tc := ⟨.hbm, 123, rfl⟩
abbrev main_while0b_v59 : Ref sig .tc := ⟨.hbm, 124, rfl⟩
abbrev main_while0b_v60 : Ref sig .tc := ⟨.hbm, 125, rfl⟩
abbrev main_while0b_v61 : Ref sig .tc := ⟨.hbm, 126, rfl⟩
abbrev main_while0b_v62 : Ref sig .tc := ⟨.hbm, 127, rfl⟩
abbrev main_while0b_v63 : Ref sig .tc := ⟨.hbm, 128, rfl⟩
abbrev main_while0b_v64 : Ref sig .tc := ⟨.hbm, 129, rfl⟩
abbrev main_while0b_v65 : Ref sig .tc := ⟨.hbm, 130, rfl⟩
abbrev main_while0b_cst_24 : Ref sig .tc := ⟨.hbm, 131, rfl⟩
abbrev main_while0b_v66 : Ref sig .tc := ⟨.hbm, 132, rfl⟩
abbrev main_while0b_v67 : Ref sig .tc := ⟨.hbm, 133, rfl⟩
abbrev main_while0b_cst_25 : Ref sig .tc := ⟨.hbm, 134, rfl⟩
abbrev main_while0b_v68 : Ref sig .tc := ⟨.hbm, 135, rfl⟩
abbrev main_while0b_v69 : Ref sig .tc := ⟨.hbm, 136, rfl⟩
abbrev main_while0b_v70 : Ref sig .tc := ⟨.hbm, 137, rfl⟩
abbrev main_while0b_v71 : Ref sig .tc := ⟨.hbm, 138, rfl⟩
abbrev main_while0b_cst_26 : Ref sig .tc := ⟨.hbm, 139, rfl⟩
abbrev main_while0b_v72 : Ref sig .tc := ⟨.hbm, 140, rfl⟩
abbrev main_while0b_v73 : Ref sig .tc := ⟨.hbm, 141, rfl⟩
abbrev main_while0b_cst_27 : Ref sig .tc := ⟨.hbm, 142, rfl⟩
abbrev main_while0b_v74 : Ref sig .tc := ⟨.hbm, 143, rfl⟩
abbrev main_while0b_v75 : Ref sig .tc := ⟨.hbm, 144, rfl⟩
abbrev main_while0b_cst_28 : Ref sig .tc := ⟨.hbm, 145, rfl⟩
abbrev main_while0b_v76 : Ref sig .tc := ⟨.hbm, 146, rfl⟩
abbrev main_while0b_v77 : Ref sig .tc := ⟨.hbm, 147, rfl⟩
abbrev main_while0b_v78 : Ref sig .tc := ⟨.hbm, 148, rfl⟩
abbrev main_while0b_v79 : Ref sig .tc := ⟨.hbm, 149, rfl⟩
abbrev main_while0b_v80 : Ref sig .tc := ⟨.hbm, 150, rfl⟩
abbrev main_while0b_v81 : Ref sig .tc := ⟨.hbm, 151, rfl⟩
abbrev main_while0b_v82 : Ref sig .tc := ⟨.hbm, 152, rfl⟩
abbrev main_while0b_v83 : Ref sig .tc := ⟨.hbm, 153, rfl⟩
abbrev main_while0b_v84 : Ref sig .tc := ⟨.hbm, 154, rfl⟩
abbrev main_while0b_v85 : Ref sig .tc := ⟨.hbm, 155, rfl⟩
abbrev main_while0b_c_29 : Ref sig .tc := ⟨.hbm, 156, rfl⟩
abbrev main_while0b_v86 : Ref sig .tc := ⟨.hbm, 157, rfl⟩
abbrev main_while0b_v87 : Ref sig .tc := ⟨.hbm, 158, rfl⟩
abbrev main_while0b_c_30 : Ref sig .tc := ⟨.hbm, 159, rfl⟩
abbrev main_while0b_v88 : Ref sig .tc := ⟨.hbm, 160, rfl⟩
abbrev main_while0b_v89 : Ref sig .tc := ⟨.hbm, 161, rfl⟩
abbrev main_while0b_c_31 : Ref sig .tc := ⟨.hbm, 162, rfl⟩
abbrev main_while0b_v90 : Ref sig .tc := ⟨.hbm, 163, rfl⟩
abbrev main_while0b_v91 : Ref sig .tc := ⟨.hbm, 164, rfl⟩
abbrev main_while0b_c_32 : Ref sig .tc := ⟨.hbm, 165, rfl⟩
abbrev main_while0b_v92 : Ref sig .tc := ⟨.hbm, 166, rfl⟩
abbrev main_while0b_v93 : Ref sig .tc := ⟨.hbm, 167, rfl⟩
abbrev main_while0b_c_33 : Ref sig .tc := ⟨.hbm, 168, rfl⟩
abbrev main_while0b_v94 : Ref sig .tc := ⟨.hbm, 169, rfl⟩
abbrev main_while0b_v95 : Ref sig .tc := ⟨.hbm, 170, rfl⟩
abbrev main_while0b_c_34 : Ref sig .tc := ⟨.hbm, 171, rfl⟩
abbrev main_while0b_v96 : Ref sig .tc := ⟨.hbm, 172, rfl⟩
abbrev main_while0b_v97 : Ref sig .tc := ⟨.hbm, 173, rfl⟩
abbrev main_while0b_v98 : Ref sig .tc := ⟨.hbm, 174, rfl⟩
abbrev main_while0b_v99 : Ref sig .tc := ⟨.hbm, 175, rfl⟩
abbrev main_while0b_v100 : Ref sig .tc := ⟨.hbm, 176, rfl⟩
abbrev main_while0b_v101 : Ref sig .tc := ⟨.hbm, 177, rfl⟩
abbrev main_while0b_v102 : Ref sig .tc := ⟨.hbm, 178, rfl⟩
abbrev main_while0b_v103 : Ref sig .tc := ⟨.hbm, 179, rfl⟩
abbrev main_while0b_v104 : Ref sig .tc := ⟨.hbm, 180, rfl⟩
abbrev main_while0b_v105 : Ref sig .tc := ⟨.hbm, 181, rfl⟩
abbrev main_while0b_v106 : Ref sig .tc := ⟨.hbm, 182, rfl⟩
abbrev main_while0b_v107 : Ref sig .tc := ⟨.hbm, 183, rfl⟩
abbrev main_while0b_v108 : Ref sig .tc := ⟨.hbm, 184, rfl⟩
abbrev main_while0b_v109 : Ref sig .tc := ⟨.hbm, 185, rfl⟩
abbrev main_while0b_v110 : Ref sig .tc := ⟨.hbm, 186, rfl⟩
abbrev main_while0b_v111 : Ref sig .tc := ⟨.hbm, 187, rfl⟩
abbrev main_while0b_v112 : Ref sig .tc := ⟨.hbm, 188, rfl⟩
abbrev main_while0b_v113 : Ref sig .tc := ⟨.hbm, 189, rfl⟩
abbrev main_while0b_v114 : Ref sig .tc := ⟨.hbm, 190, rfl⟩
abbrev main_while0b_v115 : Ref sig .tc := ⟨.hbm, 191, rfl⟩
abbrev main_while0b_call7_v0 : Ref sig .tc := ⟨.hbm, 192, rfl⟩
abbrev main_while0b_call7_c : Ref sig .tc := ⟨.hbm, 193, rfl⟩
abbrev main_while0b_call7_c_0 : Ref sig .tc := ⟨.hbm, 194, rfl⟩
abbrev main_while0b_v116 : Ref sig .tc := ⟨.hbm, 195, rfl⟩
abbrev main_while0b_call8_v0 : Ref sig .tc := ⟨.hbm, 196, rfl⟩
abbrev main_while0b_call8_c : Ref sig .tc := ⟨.hbm, 197, rfl⟩
abbrev main_while0b_call8_c_0 : Ref sig .tc := ⟨.hbm, 198, rfl⟩
abbrev main_while0b_v117 : Ref sig .tc := ⟨.hbm, 199, rfl⟩
abbrev main_while0b_call9_v0 : Ref sig .tc := ⟨.hbm, 200, rfl⟩
abbrev main_while0b_call9_c : Ref sig .tc := ⟨.hbm, 201, rfl⟩
abbrev main_while0b_call9_c_0 : Ref sig .tc := ⟨.hbm, 202, rfl⟩
abbrev main_while0b_v118 : Ref sig .tc := ⟨.hbm, 203, rfl⟩
abbrev main_while0b_call10_v0 : Ref sig .tc := ⟨.hbm, 204, rfl⟩
abbrev main_while0b_call10_c : Ref sig .tc := ⟨.hbm, 205, rfl⟩
abbrev main_while0b_call10_c_0 : Ref sig .tc := ⟨.hbm, 206, rfl⟩
abbrev main_while0b_v119 : Ref sig .tc := ⟨.hbm, 207, rfl⟩
abbrev main_while0b_c_35 : Ref sig .tc := ⟨.hbm, 208, rfl⟩
abbrev main_while0b_v120 : Ref sig .tc := ⟨.hbm, 209, rfl⟩

abbrev nD : Nat := 1
abbrev τ : Topo := Topo.v7x

variable {F : FTy → Type} [FloatOps F]

abbrev main_while0_count : Scf.Loop 32 := ⟨0#32, 14#32, 1#32⟩
-- ==== Proof.RefRun.lean ====
/- The reference's run stated over one trip of its loop as a function of states: a valuation that holds a state (the
   state at the carried buffers the body writes, the set-up values at the loop's constants, the trip's number at its
   counters) holds every value of one trip, one lemma each, so a trip of the run keeps holding with `step` applied; what
   is left before the loop holds `init`; and the run's results are the fields of `step` iterated from `init`. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v6_8) = s.main_v6_8
  f_9 : V0 (Proc.devRef .tc main_v6_9) = s.main_v6_9
  f_10 : V0 (Proc.devRef .tc main_v6_10) = s.main_v6_10
  f_11 : V0 (Proc.devRef .tc main_v6_11) = s.main_v6_11
  f_12 : V0 (Proc.devRef .tc main_v6_12) = s.main_v6_12
  f_0 : V0 (Proc.devRef .tc main_v6_0) = s.main_v6_0
  f_1 : V0 (Proc.devRef .tc main_v6_1) = s.main_v6_1
  f_2 : V0 (Proc.devRef .tc main_v6_2) = s.main_v6_2
  f_3 : V0 (Proc.devRef .tc main_v6_3) = s.main_v6_3
  f_4 : V0 (Proc.devRef .tc main_v6_4) = s.main_v6_4
  f_5 : V0 (Proc.devRef .tc main_v6_5) = s.main_v6_5
  f_6 : V0 (Proc.devRef .tc main_v6_6) = s.main_v6_6
  n_7 : V0 (Proc.devRef .tc main_v6_7) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (Host.dynamicSlice S1x1024 (V0 (Proc.devRef .tc main_v6_0)) (fun k => (((![V0 (Proc.devRef .tc main_v6_7), constantI S_ 32 0#32] : Fin 2 → (⟨S_, .i32⟩ : BufTy).Contents (Elt F))) k (Shape.Idx.first h_S_)).toInt) sliceFits_S14x1024_S1x1024 : (Proc.devRef .tc main_while0b_call0_v0 : DevRef τ sig).ty.Contents (Elt F)) = Cert.ReferenceIdeal.Step.b1 j s := by
  unfold Cert.ReferenceIdeal.Step.b1
  rw [← al_0 h, h.f_0, h.n_7]
  try rfl
set_option maxRecDepth 8192 in
theorem al_2 (h : Holds V0 s j) : (shapeCast S1024 (Host.dynamicSlice S1x1024 (V0 (Proc.devRef .tc main_v6_0)) (fun k => (((![V0 (Proc.devRef .tc main_v6_7), constantI S_ 32 0#32] : Fin 2 → (⟨S_, .i32⟩ : BufTy).Contents (Elt F))) k (Shape.Idx.first h_S_)).toInt) sliceFits_S14x1024_S1x1024) shapeCasts_S1x1024_S1024 : (Proc.devRef .tc main_while0b_v7 : DevRef τ sig).ty.Contents (Elt F)) = Cert.ReferenceIdeal.Step.b2 j s := by
  unfold Cert.ReferenceIdeal.Step.b2
  rw [← al_1 h]
  try rfl
set_option maxRecDepth 8192 in
theorem al_3 (h : Holds V0 s j) : (constantI S_ 32 0#32 : (Proc.devRef .tc main_while0b_call1_c : DevRef τ sig).ty.Contents (Elt F)) = Cert.ReferenceIdeal.Step.b3 j s := by
  unfold Cert.ReferenceIdeal.Step.b3
  rfl
set_option maxRecDepth 8192 in
theorem al_4 (h : Holds V0 s j) : (constantI S_ 32 0#32 : (Proc.devRef .tc main_while0b_call1_c_0 : DevRef τ sig).ty.Contents (Elt F)) = Cert.ReferenceIdeal.Step.b4 j s := by
  unfold Cert.ReferenceIdeal.Step.b4
  rfl
set_option maxRecDepth 8192 in
theorem al_5 (h : Holds V0 s j) : (Host.dynamicSlice S1x512x4384 (V0 (Proc.devRef .tc main_v6_1)) (fun k => (((![V0 (Proc.devRef .tc main_v6_7), constantI S_ 32 0#32, constantI S_ 32 0#32] : Fin 3 → (⟨S_, .i32⟩ : BufTy).Contents (Elt F))) k (Shape.Idx.first h_S_)).toInt) sliceFits_S14x512x4384_S1x512x4384 : (Proc.devRef .tc main_while0b_call1_v0 : DevRef τ sig).ty.Contents (Elt F)) = Cert.ReferenceIdeal.Step.b5 j s := by
  unfold Cert.ReferenceIdeal.Step.b5
  rw [← al_3 h, ← al_4 h, h.f_1, h.n_7]
  try rfl
set_option maxRecDepth 8192 in
theorem al_6 (h : Holds V0 s j) : (shapeCast S512x4384 (Host.dynamicSlice S1x512x4384 (V0 (Proc.devRef .tc main_v6_1)) (fun k => (((![V0 (Proc.devRef .tc main_v6_7), constantI S_ 32 0#32, constantI S_ 32 0#32] : Fin 3 → (⟨S_, .i32⟩ : BufTy).Contents (Elt F))) k (Shape.Idx.first h_S_)).toInt) sliceFits_S14x512x4384_S1x512x4384) shapeCasts_S1x512x4384_S512x4384 : (Proc.devRef .tc main_while0b_v8 : DevRef τ sig).ty.Contents (Elt F)) = Cert.ReferenceIdeal.Step.b6 j s := by
  unfold Cert.ReferenceIdeal.Step.b6
  rw [← al_5 h]
  try rfl
set_option maxRecDepth 8192 in
theorem al_7 (h : Holds V0 s j) : (constantI S_ 32 0#32 : (Proc.devRef .tc main_while0b_call2_c : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call2_c_0 : DevRef τ sig).ty.Contents (Elt F)) = Cert.ReferenceIdeal.Step.b8 j s := by
  unfold Cert.ReferenceIdeal.Step.b8
  rfl
set_option maxRecDepth 8192 in
theorem al_9 (h : Holds V0 s j) : (Host.dynamicSlice S1x8x4384 (V0 (Proc.devRef .tc main_v6_2)) (fun k => (((![V0 (Proc.devRef .tc main_v6_7), constantI S_ 32 0#32, constantI S_ 32 0#32] : Fin 3 → (⟨S_, .i32⟩ : BufTy).Contents (Elt F))) k (Shape.Idx.first h_S_)).toInt) sliceFits_S14x8x4384_S1x8x4384 : (Proc.devRef .tc main_while0b_call2_v0 : DevRef τ sig).ty.Contents (Elt F)) = Cert.ReferenceIdeal.Step.b9 j s := by
  unfold Cert.ReferenceIdeal.Step.b9
  rw [← al_7 h, ← al_8 h, h.f_2, h.n_7]
  try rfl
set_option maxRecDepth 8192 in
theorem al_10 (h : Holds V0 s j) : (res_main_while0b_v9 V0 : (Proc.devRef .tc main_while0b_v9 : DevRef τ sig).ty.Contents (Elt F)) = Cert.ReferenceIdeal.Step.b10 j s := by
  unfold res_main_while0b_v9 Cert.ReferenceIdeal.Step.b10
  rw [← al_9 h]
  try rfl
set_option maxRecDepth 8192 in
theorem al_11 (h : Holds V0 s j) : (constantI S_ 32 0#32 : (Proc.devRef .tc main_while0b_call3_c : DevRef τ sig).ty.Contents (Elt F)) = Cert.ReferenceIdeal.Step.b11 j s := by
  unfold Cert.ReferenceIdeal.Step.b11
  rfl
set_option maxRecDepth 8192 in
theorem al_12 (h : Holds V0 s j) : (Host.dynamicSlice S1x2048 (V0 (Proc.devRef .tc main_v6_3)) (fun k => (((![V0 (Proc.devRef .tc main_v6_7), constantI S_ 32 0#32] : Fin 2 → (⟨S_, .i32⟩ : BufTy).Contents (Elt F))) k (Shape.Idx.first h_S_)).toInt) sliceFits_S14x2048_S1x2048 : (Proc.devRef .tc main_while0b_call3_v0 : DevRef τ sig).ty.Contents (Elt F)) = Cert.ReferenceIdeal.Step.b12 j s := by
  unfold Cert.ReferenceIdeal.Step.b12
  rw [← al_11 h, h.f_3, h.n_7]
  try rfl
set_option maxRecDepth 8192 in
theorem al_13 (h : Holds V0 s j) : (shapeCast S2048 (Host.dynamicSlice S1x2048 (V0 (Proc.devRef .tc main_v6_3)) (fun k => (((![V0 (Proc.devRef .tc main_v6_7), constantI S_ 32 0#32] : Fin 2 → (⟨S_, .i32⟩ : BufTy).Contents (Elt F))) k (Shape.Idx.first h_S_)).toInt) sliceFits_S14x2048_S1x2048) shapeCasts_S1x2048_S2048 : (Proc.devRef .tc main_while0b_v10 : DevRef τ sig).ty.Contents (Elt F)) = Cert.ReferenceIdeal.Step.b13 j s := by
  unfold Cert.ReferenceIdeal.Step.b13
  rw [← al_12 h]
  try rfl
set_option maxRecDepth 8192 in
theorem al_14 (h : Holds V0 s j) : (constantI S_ 32 0#32 : (Proc.devRef .tc main_while0b_call4_c : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call4_c_0 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x2048x512 (V0 (Proc.devRef .tc main_v6_4)) (fun k => (((![V0 (Proc.devRef .tc main_v6_7), constantI S_ 32 0#32, constantI S_ 32 0#32] : Fin 3 → (⟨S_, .i32⟩ : BufTy).Contents (Elt F))) k (Shape.Idx.first h_S_)).toInt) sliceFits_S14x2048x512_S1x2048x512 : (Proc.devRef .tc main_while0b_call4_v0 : DevRef τ sig).ty.Contents (Elt F)) = Cert.ReferenceIdeal.Step.b16 j s := by
  unfold Cert.ReferenceIdeal.Step.b16
  rw [← al_14 h, ← al_15 h, h.f_4, h.n_7]
  try rfl
set_option maxRecDepth 8192 in
theorem al_17 (h : Holds V0 s j) : (shapeCast S2048x512 (Host.dynamicSlice S1x2048x512 (V0 (Proc.devRef .tc main_v6_4)) (fun k => (((![V0 (Proc.devRef .tc main_v6_7), constantI S_ 32 0#32, constantI S_ 32 0#32] : Fin 3 → (⟨S_, .i32⟩ : BufTy).Contents (Elt F))) k (Shape.Idx.first h_S_)).toInt) sliceFits_S14x2048x512_S1x2048x512) shapeCasts_S1x2048x512_S2048x512 : (Proc.devRef .tc main_while0b_v11 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (constantI S_ 32 0#32 : (Proc.devRef .tc main_while0b_call5_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call5_c_0 : DevRef τ sig).ty.Contents (Elt F)) = Cert.ReferenceIdeal.Step.b19 j s := by
  unfold Cert.ReferenceIdeal.Step.b19
  rfl
set_option maxRecDepth 8192 in
theorem al_20 (h : Holds V0 s j) : (Host.dynamicSlice S1x16x1024 (V0 (Proc.devRef .tc main_v6_5)) (fun k => (((![V0 (Proc.devRef .tc main_v6_7), constantI S_ 32 0#32, constantI S_ 32 0#32] : Fin 3 → (⟨S_, .i32⟩ : BufTy).Contents (Elt F))) k (Shape.Idx.first h_S_)).toInt) sliceFits_S14x16x1024_S1x16x1024 : (Proc.devRef .tc main_while0b_call5_v0 : DevRef τ sig).ty.Contents (Elt F)) = Cert.ReferenceIdeal.Step.b20 j s := by
  unfold Cert.ReferenceIdeal.Step.b20
  rw [← al_18 h, ← al_19 h, h.f_5, h.n_7]
  try rfl
set_option maxRecDepth 8192 in
theorem al_21 (h : Holds V0 s j) : (res_main_while0b_v12 V0 : (Proc.devRef .tc main_while0b_v12 : DevRef τ sig).ty.Contents (Elt F)) = Cert.ReferenceIdeal.Step.b21 j s := by
  unfold res_main_while0b_v12 Cert.ReferenceIdeal.Step.b21
  rw [← al_20 h]
  try rfl
set_option maxRecDepth 8192 in
theorem al_22 (h : Holds V0 s j) : (constantI S_ 32 0#32 : (Proc.devRef .tc main_while0b_call6_c : DevRef τ sig).ty.Contents (Elt F)) = Cert.ReferenceIdeal.Step.b22 j s := by
  unfold Cert.ReferenceIdeal.Step.b22
  rfl
set_option maxRecDepth 8192 in
theorem al_23 (h : Holds V0 s j) : (constantI S_ 32 0#32 : (Proc.devRef .tc main_while0b_call6_c_0 : DevRef τ sig).ty.Contents (Elt F)) = Cert.ReferenceIdeal.Step.b23 j s := by
  unfold Cert.ReferenceIdeal.Step.b23
  rfl
set_option maxRecDepth 8192 in
theorem al_24 (h : Holds V0 s j) : (Host.dynamicSlice S1x144x2048 (V0 (Proc.devRef .tc main_v6_6)) (fun k => (((![V0 (Proc.devRef .tc main_v6_7), constantI S_ 32 0#32, constantI S_ 32 0#32] : Fin 3 → (⟨S_, .i32⟩ : BufTy).Contents (Elt F))) k (Shape.Idx.first h_S_)).toInt) sliceFits_S14x144x2048_S1x144x2048 : (Proc.devRef .tc main_while0b_call6_v0 : DevRef τ sig).ty.Contents (Elt F)) = Cert.ReferenceIdeal.Step.b24 j s := by
  unfold Cert.ReferenceIdeal.Step.b24
  rw [← al_22 h, ← al_23 h, h.f_6, h.n_7]
  try rfl
set_option maxRecDepth 8192 in
theorem al_25 (h : Holds V0 s j) : (shapeCast S144x2048 (Host.dynamicSlice S1x144x2048 (V0 (Proc.devRef .tc main_v6_6)) (fun k => (((![V0 (Proc.devRef .tc main_v6_7), constantI S_ 32 0#32, constantI S_ 32 0#32] : Fin 3 → (⟨S_, .i32⟩ : BufTy).Contents (Elt F))) k (Shape.Idx.first h_S_)).toInt) sliceFits_S14x144x2048_S1x144x2048) shapeCasts_S1x144x2048_S144x2048 : (Proc.devRef .tc main_while0b_v13 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (mulf (V0 (Proc.devRef .tc main_v6_8)) (V0 (Proc.devRef .tc main_v6_8)) : (Proc.devRef .tc main_while0b_v14 : DevRef τ sig).ty.Contents (Elt F)) = Cert.ReferenceIdeal.Step.b26 j s := by
  unfold Cert.ReferenceIdeal.Step.b26
  rw [h.f_8]
  try rfl
set_option maxRecDepth 8192 in
theorem al_27 (h : Holds V0 s j) : (constant S_ .f32 0x00000000#32 : (Proc.devRef .tc main_while0b_cst_15 : DevRef τ sig).ty.Contents (Elt F)) = Cert.ReferenceIdeal.Step.b27 j s := by
  unfold Cert.ReferenceIdeal.Step.b27
  rfl
set_option maxRecDepth 8192 in
theorem al_28 (h : Holds V0 s j) : (Host.reduceAdd (mulf (V0 (Proc.devRef .tc main_v6_8)) (V0 (Proc.devRef .tc main_v6_8))) (constant S_ .f32 0x00000000#32) reducesTo_S144x1024_S144_d1 h_S_ : (Proc.devRef .tc main_while0b_v15 : DevRef τ sig).ty.Contents (Elt F)) = Cert.ReferenceIdeal.Step.b28 j s := by
  unfold Cert.ReferenceIdeal.Step.b28
  rw [← al_26 h, ← al_27 h]
  try rfl
set_option maxRecDepth 8192 in
theorem al_29 (h : Holds V0 s j) : (broadcastInDim S144x1 ![0] bcast_S144_S144x1_0 (Host.reduceAdd (mulf (V0 (Proc.devRef .tc main_v6_8)) (V0 (Proc.devRef .tc main_v6_8))) (constant S_ .f32 0x00000000#32) reducesTo_S144x1024_S144_d1 h_S_) : (Proc.devRef .tc main_while0b_v16 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (constant S_ .f32 0x44800000#32 : (Proc.devRef .tc main_while0b_cst_16 : DevRef τ sig).ty.Contents (Elt F)) = Cert.ReferenceIdeal.Step.b30 j s := by
  unfold Cert.ReferenceIdeal.Step.b30
  rfl
set_option maxRecDepth 8192 in
theorem al_31 (h : Holds V0 s j) : (broadcastInDim S144x1 ![] bcast_S_S144x1 (constant S_ .f32 0x44800000#32) : (Proc.devRef .tc main_while0b_v17 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (Host.divf (broadcastInDim S144x1 ![0] bcast_S144_S144x1_0 (Host.reduceAdd (mulf (V0 (Proc.devRef .tc main_v6_8)) (V0 (Proc.devRef .tc main_v6_8))) (constant S_ .f32 0x00000000#32) reducesTo_S144x1024_S144_d1 h_S_)) (broadcastInDim S144x1 ![] bcast_S_S144x1 (constant S_ .f32 0x44800000#32)) : (Proc.devRef .tc main_while0b_v18 : DevRef τ sig).ty.Contents (Elt F)) = Cert.ReferenceIdeal.Step.b32 j s := by
  unfold Cert.ReferenceIdeal.Step.b32
  rw [← al_29 h, ← al_31 h]
  try rfl
set_option maxRecDepth 8192 in
theorem al_33 (h : Holds V0 s j) : (constant S_ .f32 0x3727C5AC#32 : (Proc.devRef .tc main_while0b_cst_17 : DevRef τ sig).ty.Contents (Elt F)) = Cert.ReferenceIdeal.Step.b33 j s := by
  unfold Cert.ReferenceIdeal.Step.b33
  rfl
set_option maxRecDepth 8192 in
theorem al_34 (h : Holds V0 s j) : (broadcastInDim S144x1 ![] bcast_S_S144x1 (constant S_ .f32 0x3727C5AC#32) : (Proc.devRef .tc main_while0b_v19 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (addf (Host.divf (broadcastInDim S144x1 ![0] bcast_S144_S144x1_0 (Host.reduceAdd (mulf (V0 (Proc.devRef .tc main_v6_8)) (V0 (Proc.devRef .tc main_v6_8))) (constant S_ .f32 0x00000000#32) reducesTo_S144x1024_S144_d1 h_S_)) (broadcastInDim S144x1 ![] bcast_S_S144x1 (constant S_ .f32 0x44800000#32))) (broadcastInDim S144x1 ![] bcast_S_S144x1 (constant S_ .f32 0x3727C5AC#32)) : (Proc.devRef .tc main_while0b_v20 : DevRef τ sig).ty.Contents (Elt F)) = Cert.ReferenceIdeal.Step.b35 j s := by
  unfold Cert.ReferenceIdeal.Step.b35
  rw [← al_32 h, ← al_34 h]
  try rfl
set_option maxRecDepth 8192 in
theorem al_36 (h : Holds V0 s j) : (Host.sqrt (addf (Host.divf (broadcastInDim S144x1 ![0] bcast_S144_S144x1_0 (Host.reduceAdd (mulf (V0 (Proc.devRef .tc main_v6_8)) (V0 (Proc.devRef .tc main_v6_8))) (constant S_ .f32 0x00000000#32) reducesTo_S144x1024_S144_d1 h_S_)) (broadcastInDim S144x1 ![] bcast_S_S144x1 (constant S_ .f32 0x44800000#32))) (broadcastInDim S144x1 ![] bcast_S_S144x1 (constant S_ .f32 0x3727C5AC#32))) : (Proc.devRef .tc main_while0b_v21 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (broadcastInDim S144x1024 ![0, 1] bcast_S144x1_S144x1024_0_1 (Host.sqrt (addf (Host.divf (broadcastInDim S144x1 ![0] bcast_S144_S144x1_0 (Host.reduceAdd (mulf (V0 (Proc.devRef .tc main_v6_8)) (V0 (Proc.devRef .tc main_v6_8))) (constant S_ .f32 0x00000000#32) reducesTo_S144x1024_S144_d1 h_S_)) (broadcastInDim S144x1 ![] bcast_S_S144x1 (constant S_ .f32 0x44800000#32))) (broadcastInDim S144x1 ![] bcast_S_S144x1 (constant S_ .f32 0x3727C5AC#32)))) : (Proc.devRef .tc main_while0b_v22 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (Host.divf (V0 (Proc.devRef .tc main_v6_8)) (broadcastInDim S144x1024 ![0, 1] bcast_S144x1_S144x1024_0_1 (Host.sqrt (addf (Host.divf (broadcastInDim S144x1 ![0] bcast_S144_S144x1_0 (Host.reduceAdd (mulf (V0 (Proc.devRef .tc main_v6_8)) (V0 (Proc.devRef .tc main_v6_8))) (constant S_ .f32 0x00000000#32) reducesTo_S144x1024_S144_d1 h_S_)) (broadcastInDim S144x1 ![] bcast_S_S144x1 (constant S_ .f32 0x44800000#32))) (broadcastInDim S144x1 ![] bcast_S_S144x1 (constant S_ .f32 0x3727C5AC#32))))) : (Proc.devRef .tc main_while0b_v23 : DevRef τ sig).ty.Contents (Elt F)) = Cert.ReferenceIdeal.Step.b38 j s := by
  unfold Cert.ReferenceIdeal.Step.b38
  rw [← al_37 h, h.f_8]
  try rfl
set_option maxRecDepth 8192 in
theorem al_39 (h : Holds V0 s j) : (broadcastInDim S1x1024 ![1] bcast_S1024_S1x1024_1 (shapeCast S1024 (Host.dynamicSlice S1x1024 (V0 (Proc.devRef .tc main_v6_0)) (fun k => (((![V0 (Proc.devRef .tc main_v6_7), constantI S_ 32 0#32] : Fin 2 → (⟨S_, .i32⟩ : BufTy).Contents (Elt F))) k (Shape.Idx.first h_S_)).toInt) sliceFits_S14x1024_S1x1024) shapeCasts_S1x1024_S1024) : (Proc.devRef .tc main_while0b_v24 : DevRef τ sig).ty.Contents (Elt F)) = Cert.ReferenceIdeal.Step.b39 j s := by
  unfold Cert.ReferenceIdeal.Step.b39
  rw [← al_2 h]
  try rfl
set_option maxRecDepth 8192 in
theorem al_40 (h : Holds V0 s j) : (broadcastInDim S144x1024 ![0, 1] bcast_S1x1024_S144x1024_0_1 (broadcastInDim S1x1024 ![1] bcast_S1024_S1x1024_1 (shapeCast S1024 (Host.dynamicSlice S1x1024 (V0 (Proc.devRef .tc main_v6_0)) (fun k => (((![V0 (Proc.devRef .tc main_v6_7), constantI S_ 32 0#32] : Fin 2 → (⟨S_, .i32⟩ : BufTy).Contents (Elt F))) k (Shape.Idx.first h_S_)).toInt) sliceFits_S14x1024_S1x1024) shapeCasts_S1x1024_S1024)) : (Proc.devRef .tc main_while0b_v25 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (mulf (Host.divf (V0 (Proc.devRef .tc main_v6_8)) (broadcastInDim S144x1024 ![0, 1] bcast_S144x1_S144x1024_0_1 (Host.sqrt (addf (Host.divf (broadcastInDim S144x1 ![0] bcast_S144_S144x1_0 (Host.reduceAdd (mulf (V0 (Proc.devRef .tc main_v6_8)) (V0 (Proc.devRef .tc main_v6_8))) (constant S_ .f32 0x00000000#32) reducesTo_S144x1024_S144_d1 h_S_)) (broadcastInDim S144x1 ![] bcast_S_S144x1 (constant S_ .f32 0x44800000#32))) (broadcastInDim S144x1 ![] bcast_S_S144x1 (constant S_ .f32 0x3727C5AC#32)))))) (broadcastInDim S144x1024 ![0, 1] bcast_S1x1024_S144x1024_0_1 (broadcastInDim S1x1024 ![1] bcast_S1024_S1x1024_1 (shapeCast S1024 (Host.dynamicSlice S1x1024 (V0 (Proc.devRef .tc main_v6_0)) (fun k => (((![V0 (Proc.devRef .tc main_v6_7), constantI S_ 32 0#32] : Fin 2 → (⟨S_, .i32⟩ : BufTy).Contents (Elt F))) k (Shape.Idx.first h_S_)).toInt) sliceFits_S14x1024_S1x1024) shapeCasts_S1x1024_S1024))) : (Proc.devRef .tc main_while0b_v26 : DevRef τ sig).ty.Contents (Elt F)) = Cert.ReferenceIdeal.Step.b41 j s := by
  unfold Cert.ReferenceIdeal.Step.b41
  rw [← al_38 h, ← al_40 h]
  try rfl
set_option maxRecDepth 8192 in
theorem al_42 (h : Holds V0 s j) : (res_main_while0b_v27 V0 : (Proc.devRef .tc main_while0b_v27 : DevRef τ sig).ty.Contents (Elt F)) = Cert.ReferenceIdeal.Step.b42 j s := by
  unfold res_main_while0b_v27 Cert.ReferenceIdeal.Step.b42
  rw [← al_41 h]
  try rfl
set_option maxRecDepth 8192 in
theorem al_43 (h : Holds V0 s j) : (res_main_while0b_v28 V0 : (Proc.devRef .tc main_while0b_v28 : DevRef τ sig).ty.Contents (Elt F)) = Cert.ReferenceIdeal.Step.b43 j s := by
  unfold res_main_while0b_v28 Cert.ReferenceIdeal.Step.b43
  rw [← al_6 h]
  try rfl
set_option maxRecDepth 8192 in
theorem al_44 (h : Holds V0 s j) : (constantI S_ 32 15#32 : (Proc.devRef .tc main_while0b_c_18 : DevRef τ sig).ty.Contents (Elt F)) = Cert.ReferenceIdeal.Step.b44 j s := by
  unfold Cert.ReferenceIdeal.Step.b44
  rfl
set_option maxRecDepth 8192 in
theorem al_45 (h : Holds V0 s j) : (broadcastInDim S512x4384 ![] bcast_S_S512x4384 (constantI S_ 32 15#32) : (Proc.devRef .tc main_while0b_v29 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (andi (res_main_while0b_v28 V0) (broadcastInDim S512x4384 ![] bcast_S_S512x4384 (constantI S_ 32 15#32)) : (Proc.devRef .tc main_while0b_v30 : DevRef τ sig).ty.Contents (Elt F)) = Cert.ReferenceIdeal.Step.b46 j s := by
  unfold Cert.ReferenceIdeal.Step.b46
  rw [← al_43 h, ← al_45 h]
  try rfl
set_option maxRecDepth 8192 in
theorem al_47 (h : Holds V0 s j) : (constantI S_ 32 8#32 : (Proc.devRef .tc main_while0b_c_19 : DevRef τ sig).ty.Contents (Elt F)) = Cert.ReferenceIdeal.Step.b47 j s := by
  unfold Cert.ReferenceIdeal.Step.b47
  rfl
set_option maxRecDepth 8192 in
theorem al_48 (h : Holds V0 s j) : (broadcastInDim S512x4384 ![] bcast_S_S512x4384 (constantI S_ 32 8#32) : (Proc.devRef .tc main_while0b_v31 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (xori (andi (res_main_while0b_v28 V0) (broadcastInDim S512x4384 ![] bcast_S_S512x4384 (constantI S_ 32 15#32))) (broadcastInDim S512x4384 ![] bcast_S_S512x4384 (constantI S_ 32 8#32)) : (Proc.devRef .tc main_while0b_v32 : DevRef τ sig).ty.Contents (Elt F)) = Cert.ReferenceIdeal.Step.b49 j s := by
  unfold Cert.ReferenceIdeal.Step.b49
  rw [← al_46 h, ← al_48 h]
  try rfl
set_option maxRecDepth 8192 in
theorem al_50 (h : Holds V0 s j) : (constantI S_ 32 8#32 : (Proc.devRef .tc main_while0b_c_20 : DevRef τ sig).ty.Contents (Elt F)) = Cert.ReferenceIdeal.Step.b50 j s := by
  unfold Cert.ReferenceIdeal.Step.b50
  rfl
set_option maxRecDepth 8192 in
theorem al_51 (h : Holds V0 s j) : (broadcastInDim S512x4384 ![] bcast_S_S512x4384 (constantI S_ 32 8#32) : (Proc.devRef .tc main_while0b_v33 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (subi (xori (andi (res_main_while0b_v28 V0) (broadcastInDim S512x4384 ![] bcast_S_S512x4384 (constantI S_ 32 15#32))) (broadcastInDim S512x4384 ![] bcast_S_S512x4384 (constantI S_ 32 8#32))) (broadcastInDim S512x4384 ![] bcast_S_S512x4384 (constantI S_ 32 8#32)) : (Proc.devRef .tc main_while0b_v34 : DevRef τ sig).ty.Contents (Elt F)) = Cert.ReferenceIdeal.Step.b52 j s := by
  unfold Cert.ReferenceIdeal.Step.b52
  rw [← al_49 h, ← al_51 h]
  try rfl
set_option maxRecDepth 8192 in
theorem al_53 (h : Holds V0 s j) : (constantI S_ 32 4#32 : (Proc.devRef .tc main_while0b_c_21 : DevRef τ sig).ty.Contents (Elt F)) = Cert.ReferenceIdeal.Step.b53 j s := by
  unfold Cert.ReferenceIdeal.Step.b53
  rfl
set_option maxRecDepth 8192 in
theorem al_54 (h : Holds V0 s j) : (broadcastInDim S512x4384 ![] bcast_S_S512x4384 (constantI S_ 32 4#32) : (Proc.devRef .tc main_while0b_v35 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (Host.shrsi (res_main_while0b_v28 V0) (broadcastInDim S512x4384 ![] bcast_S_S512x4384 (constantI S_ 32 4#32)) : (Proc.devRef .tc main_while0b_v36 : DevRef τ sig).ty.Contents (Elt F)) = Cert.ReferenceIdeal.Step.b55 j s := by
  unfold Cert.ReferenceIdeal.Step.b55
  rw [← al_43 h, ← al_54 h]
  try rfl
set_option maxRecDepth 8192 in
theorem al_56 (h : Holds V0 s j) : (constantI S_ 32 8#32 : (Proc.devRef .tc main_while0b_c_22 : DevRef τ sig).ty.Contents (Elt F)) = Cert.ReferenceIdeal.Step.b56 j s := by
  unfold Cert.ReferenceIdeal.Step.b56
  rfl
set_option maxRecDepth 8192 in
theorem al_57 (h : Holds V0 s j) : (broadcastInDim S512x4384 ![] bcast_S_S512x4384 (constantI S_ 32 8#32) : (Proc.devRef .tc main_while0b_v37 : DevRef τ sig).ty.Contents (Elt F)) = Cert.ReferenceIdeal.Step.b57 j s := by
  unfold Cert.ReferenceIdeal.Step.b57
  rw [← al_56 h]
  try rfl
set_option maxRecDepth 8192 in
theorem al_58 (h : Holds V0 s j) : (xori (Host.shrsi (res_main_while0b_v28 V0) (broadcastInDim S512x4384 ![] bcast_S_S512x4384 (constantI S_ 32 4#32))) (broadcastInDim S512x4384 ![] bcast_S_S512x4384 (constantI S_ 32 8#32)) : (Proc.devRef .tc main_while0b_v38 : DevRef τ sig).ty.Contents (Elt F)) = Cert.ReferenceIdeal.Step.b58 j s := by
  unfold Cert.ReferenceIdeal.Step.b58
  rw [← al_55 h, ← al_57 h]
  try rfl
set_option maxRecDepth 8192 in
theorem al_59 (h : Holds V0 s j) : (constantI S_ 32 8#32 : (Proc.devRef .tc main_while0b_c_23 : DevRef τ sig).ty.Contents (Elt F)) = Cert.ReferenceIdeal.Step.b59 j s := by
  unfold Cert.ReferenceIdeal.Step.b59
  rfl
set_option maxRecDepth 8192 in
theorem al_60 (h : Holds V0 s j) : (broadcastInDim S512x4384 ![] bcast_S_S512x4384 (constantI S_ 32 8#32) : (Proc.devRef .tc main_while0b_v39 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (subi (xori (Host.shrsi (res_main_while0b_v28 V0) (broadcastInDim S512x4384 ![] bcast_S_S512x4384 (constantI S_ 32 4#32))) (broadcastInDim S512x4384 ![] bcast_S_S512x4384 (constantI S_ 32 8#32))) (broadcastInDim S512x4384 ![] bcast_S_S512x4384 (constantI S_ 32 8#32)) : (Proc.devRef .tc main_while0b_v40 : DevRef τ sig).ty.Contents (Elt F)) = Cert.ReferenceIdeal.Step.b61 j s := by
  unfold Cert.ReferenceIdeal.Step.b61
  rw [← al_58 h, ← al_60 h]
  try rfl
set_option maxRecDepth 8192 in
theorem al_62 (h : Holds V0 s j) : (sitofp .bf16 (subi (xori (andi (res_main_while0b_v28 V0) (broadcastInDim S512x4384 ![] bcast_S_S512x4384 (constantI S_ 32 15#32))) (broadcastInDim S512x4384 ![] bcast_S_S512x4384 (constantI S_ 32 8#32))) (broadcastInDim S512x4384 ![] bcast_S_S512x4384 (constantI S_ 32 8#32))) : (Proc.devRef .tc main_while0b_v41 : DevRef τ sig).ty.Contents (Elt F)) = Cert.ReferenceIdeal.Step.b62 j s := by
  unfold Cert.ReferenceIdeal.Step.b62
  rw [← al_52 h]
  try rfl
set_option maxRecDepth 8192 in
theorem al_63 (h : Holds V0 s j) : (sitofp .bf16 (subi (xori (Host.shrsi (res_main_while0b_v28 V0) (broadcastInDim S512x4384 ![] bcast_S_S512x4384 (constantI S_ 32 4#32))) (broadcastInDim S512x4384 ![] bcast_S_S512x4384 (constantI S_ 32 8#32))) (broadcastInDim S512x4384 ![] bcast_S_S512x4384 (constantI S_ 32 8#32))) : (Proc.devRef .tc main_while0b_v42 : DevRef τ sig).ty.Contents (Elt F)) = Cert.ReferenceIdeal.Step.b63 j s := by
  unfold Cert.ReferenceIdeal.Step.b63
  rw [← al_61 h]
  try rfl
set_option maxRecDepth 8192 in
theorem al_64 (h : Holds V0 s j) : (extractStridedSlice S144x512 ![0, 0] (res_main_while0b_v27 V0) slices_S144x1024_S144x512_0_0 : (Proc.devRef .tc main_while0b_v43 : DevRef τ sig).ty.Contents (Elt F)) = Cert.ReferenceIdeal.Step.b64 j s := by
  unfold Cert.ReferenceIdeal.Step.b64
  rw [← al_42 h]
  try rfl
set_option maxRecDepth 8192 in
theorem al_65 (h : Holds V0 s j) : (extractStridedSlice S4x4384 ![0, 0] (res_main_while0b_v9 V0) slices_S8x4384_S4x4384_0_0 : (Proc.devRef .tc main_while0b_v44 : DevRef τ sig).ty.Contents (Elt F)) = Cert.ReferenceIdeal.Step.b65 j s := by
  unfold Cert.ReferenceIdeal.Step.b65
  rw [← al_10 h]
  try rfl
set_option maxRecDepth 8192 in
theorem al_66 (h : Holds V0 s j) : (shapeCast S4x128x4384 (sitofp .bf16 (subi (xori (andi (res_main_while0b_v28 V0) (broadcastInDim S512x4384 ![] bcast_S_S512x4384 (constantI S_ 32 15#32))) (broadcastInDim S512x4384 ![] bcast_S_S512x4384 (constantI S_ 32 8#32))) (broadcastInDim S512x4384 ![] bcast_S_S512x4384 (constantI S_ 32 8#32)))) shapeCasts_S512x4384_S4x128x4384 : (Proc.devRef .tc main_while0b_v45 : DevRef τ sig).ty.Contents (Elt F)) = Cert.ReferenceIdeal.Step.b66 j s := by
  unfold Cert.ReferenceIdeal.Step.b66
  rw [← al_62 h]
  try rfl
set_option maxRecDepth 8192 in
theorem al_67 (h : Holds V0 s j) : (broadcastInDim S4x1x4384 ![0, 2] bcast_S4x4384_S4x1x4384_0_2 (extractStridedSlice S4x4384 ![0, 0] (res_main_while0b_v9 V0) slices_S8x4384_S4x4384_0_0) : (Proc.devRef .tc main_while0b_v46 : DevRef τ sig).ty.Contents (Elt F)) = Cert.ReferenceIdeal.Step.b67 j s := by
  unfold Cert.ReferenceIdeal.Step.b67
  rw [← al_65 h]
  try rfl
set_option maxRecDepth 8192 in
theorem al_68 (h : Holds V0 s j) : (broadcastInDim S4x128x4384 ![0, 1, 2] bcast_S4x1x4384_S4x128x4384_0_1_2 (broadcastInDim S4x1x4384 ![0, 2] bcast_S4x4384_S4x1x4384_0_2 (extractStridedSlice S4x4384 ![0, 0] (res_main_while0b_v9 V0) slices_S8x4384_S4x4384_0_0)) : (Proc.devRef .tc main_while0b_v47 : DevRef τ sig).ty.Contents (Elt F)) = Cert.ReferenceIdeal.Step.b68 j s := by
  unfold Cert.ReferenceIdeal.Step.b68
  rw [← al_67 h]
  try rfl
set_option maxRecDepth 8192 in
theorem al_69 (h : Holds V0 s j) : (mulf (shapeCast S4x128x4384 (sitofp .bf16 (subi (xori (andi (res_main_while0b_v28 V0) (broadcastInDim S512x4384 ![] bcast_S_S512x4384 (constantI S_ 32 15#32))) (broadcastInDim S512x4384 ![] bcast_S_S512x4384 (constantI S_ 32 8#32))) (broadcastInDim S512x4384 ![] bcast_S_S512x4384 (constantI S_ 32 8#32)))) shapeCasts_S512x4384_S4x128x4384) (broadcastInDim S4x128x4384 ![0, 1, 2] bcast_S4x1x4384_S4x128x4384_0_1_2 (broadcastInDim S4x1x4384 ![0, 2] bcast_S4x4384_S4x1x4384_0_2 (extractStridedSlice S4x4384 ![0, 0] (res_main_while0b_v9 V0) slices_S8x4384_S4x4384_0_0))) : (Proc.devRef .tc main_while0b_v48 : DevRef τ sig).ty.Contents (Elt F)) = Cert.ReferenceIdeal.Step.b69 j s := by
  unfold Cert.ReferenceIdeal.Step.b69
  rw [← al_66 h, ← al_68 h]
  try rfl
set_option maxRecDepth 8192 in
theorem al_70 (h : Holds V0 s j) : (shapeCast S512x4384 (mulf (shapeCast S4x128x4384 (sitofp .bf16 (subi (xori (andi (res_main_while0b_v28 V0) (broadcastInDim S512x4384 ![] bcast_S_S512x4384 (constantI S_ 32 15#32))) (broadcastInDim S512x4384 ![] bcast_S_S512x4384 (constantI S_ 32 8#32))) (broadcastInDim S512x4384 ![] bcast_S_S512x4384 (constantI S_ 32 8#32)))) shapeCasts_S512x4384_S4x128x4384) (broadcastInDim S4x128x4384 ![0, 1, 2] bcast_S4x1x4384_S4x128x4384_0_1_2 (broadcastInDim S4x1x4384 ![0, 2] bcast_S4x4384_S4x1x4384_0_2 (extractStridedSlice S4x4384 ![0, 0] (res_main_while0b_v9 V0) slices_S8x4384_S4x4384_0_0)))) shapeCasts_S4x128x4384_S512x4384 : (Proc.devRef .tc main_while0b_v49 : DevRef τ sig).ty.Contents (Elt F)) = Cert.ReferenceIdeal.Step.b70 j s := by
  unfold Cert.ReferenceIdeal.Step.b70
  rw [← al_69 h]
  try rfl
set_option maxRecDepth 8192 in
theorem al_71 (h : Holds V0 s j) : (Host.dotGeneral dot_S144x512_S512x4384_S144x4384_1_0_0_1_n_n none (extractStridedSlice S144x512 ![0, 0] (res_main_while0b_v27 V0) slices_S144x1024_S144x512_0_0) (shapeCast S512x4384 (mulf (shapeCast S4x128x4384 (sitofp .bf16 (subi (xori (andi (res_main_while0b_v28 V0) (broadcastInDim S512x4384 ![] bcast_S_S512x4384 (constantI S_ 32 15#32))) (broadcastInDim S512x4384 ![] bcast_S_S512x4384 (constantI S_ 32 8#32))) (broadcastInDim S512x4384 ![] bcast_S_S512x4384 (constantI S_ 32 8#32)))) shapeCasts_S512x4384_S4x128x4384) (broadcastInDim S4x128x4384 ![0, 1, 2] bcast_S4x1x4384_S4x128x4384_0_1_2 (broadcastInDim S4x1x4384 ![0, 2] bcast_S4x4384_S4x1x4384_0_2 (extractStridedSlice S4x4384 ![0, 0] (res_main_while0b_v9 V0) slices_S8x4384_S4x4384_0_0)))) shapeCasts_S4x128x4384_S512x4384) : (Proc.devRef .tc main_while0b_v50 : DevRef τ sig).ty.Contents (Elt F)) = Cert.ReferenceIdeal.Step.b71 j s := by
  unfold Cert.ReferenceIdeal.Step.b71
  rw [← al_64 h, ← al_70 h]
  try rfl
set_option maxRecDepth 8192 in
theorem al_72 (h : Holds V0 s j) : (extractStridedSlice S144x512 ![0, 512] (res_main_while0b_v27 V0) slices_S144x1024_S144x512_0_512 : (Proc.devRef .tc main_while0b_v51 : DevRef τ sig).ty.Contents (Elt F)) = Cert.ReferenceIdeal.Step.b72 j s := by
  unfold Cert.ReferenceIdeal.Step.b72
  rw [← al_42 h]
  try rfl
set_option maxRecDepth 8192 in
theorem al_73 (h : Holds V0 s j) : (extractStridedSlice S4x4384 ![4, 0] (res_main_while0b_v9 V0) slices_S8x4384_S4x4384_4_0 : (Proc.devRef .tc main_while0b_v52 : DevRef τ sig).ty.Contents (Elt F)) = Cert.ReferenceIdeal.Step.b73 j s := by
  unfold Cert.ReferenceIdeal.Step.b73
  rw [← al_10 h]
  try rfl
set_option maxRecDepth 8192 in
theorem al_74 (h : Holds V0 s j) : (shapeCast S4x128x4384 (sitofp .bf16 (subi (xori (Host.shrsi (res_main_while0b_v28 V0) (broadcastInDim S512x4384 ![] bcast_S_S512x4384 (constantI S_ 32 4#32))) (broadcastInDim S512x4384 ![] bcast_S_S512x4384 (constantI S_ 32 8#32))) (broadcastInDim S512x4384 ![] bcast_S_S512x4384 (constantI S_ 32 8#32)))) shapeCasts_S512x4384_S4x128x4384 : (Proc.devRef .tc main_while0b_v53 : DevRef τ sig).ty.Contents (Elt F)) = Cert.ReferenceIdeal.Step.b74 j s := by
  unfold Cert.ReferenceIdeal.Step.b74
  rw [← al_63 h]
  try rfl
set_option maxRecDepth 8192 in
theorem al_75 (h : Holds V0 s j) : (broadcastInDim S4x1x4384 ![0, 2] bcast_S4x4384_S4x1x4384_0_2 (extractStridedSlice S4x4384 ![4, 0] (res_main_while0b_v9 V0) slices_S8x4384_S4x4384_4_0) : (Proc.devRef .tc main_while0b_v54 : DevRef τ sig).ty.Contents (Elt F)) = Cert.ReferenceIdeal.Step.b75 j s := by
  unfold Cert.ReferenceIdeal.Step.b75
  rw [← al_73 h]
  try rfl
set_option maxRecDepth 8192 in
theorem al_76 (h : Holds V0 s j) : (broadcastInDim S4x128x4384 ![0, 1, 2] bcast_S4x1x4384_S4x128x4384_0_1_2 (broadcastInDim S4x1x4384 ![0, 2] bcast_S4x4384_S4x1x4384_0_2 (extractStridedSlice S4x4384 ![4, 0] (res_main_while0b_v9 V0) slices_S8x4384_S4x4384_4_0)) : (Proc.devRef .tc main_while0b_v55 : DevRef τ sig).ty.Contents (Elt F)) = Cert.ReferenceIdeal.Step.b76 j s := by
  unfold Cert.ReferenceIdeal.Step.b76
  rw [← al_75 h]
  try rfl
set_option maxRecDepth 8192 in
theorem al_77 (h : Holds V0 s j) : (mulf (shapeCast S4x128x4384 (sitofp .bf16 (subi (xori (Host.shrsi (res_main_while0b_v28 V0) (broadcastInDim S512x4384 ![] bcast_S_S512x4384 (constantI S_ 32 4#32))) (broadcastInDim S512x4384 ![] bcast_S_S512x4384 (constantI S_ 32 8#32))) (broadcastInDim S512x4384 ![] bcast_S_S512x4384 (constantI S_ 32 8#32)))) shapeCasts_S512x4384_S4x128x4384) (broadcastInDim S4x128x4384 ![0, 1, 2] bcast_S4x1x4384_S4x128x4384_0_1_2 (broadcastInDim S4x1x4384 ![0, 2] bcast_S4x4384_S4x1x4384_0_2 (extractStridedSlice S4x4384 ![4, 0] (res_main_while0b_v9 V0) slices_S8x4384_S4x4384_4_0))) : (Proc.devRef .tc main_while0b_v56 : DevRef τ sig).ty.Contents (Elt F)) = Cert.ReferenceIdeal.Step.b77 j s := by
  unfold Cert.ReferenceIdeal.Step.b77
  rw [← al_74 h, ← al_76 h]
  try rfl
set_option maxRecDepth 8192 in
theorem al_78 (h : Holds V0 s j) : (shapeCast S512x4384 (mulf (shapeCast S4x128x4384 (sitofp .bf16 (subi (xori (Host.shrsi (res_main_while0b_v28 V0) (broadcastInDim S512x4384 ![] bcast_S_S512x4384 (constantI S_ 32 4#32))) (broadcastInDim S512x4384 ![] bcast_S_S512x4384 (constantI S_ 32 8#32))) (broadcastInDim S512x4384 ![] bcast_S_S512x4384 (constantI S_ 32 8#32)))) shapeCasts_S512x4384_S4x128x4384) (broadcastInDim S4x128x4384 ![0, 1, 2] bcast_S4x1x4384_S4x128x4384_0_1_2 (broadcastInDim S4x1x4384 ![0, 2] bcast_S4x4384_S4x1x4384_0_2 (extractStridedSlice S4x4384 ![4, 0] (res_main_while0b_v9 V0) slices_S8x4384_S4x4384_4_0)))) shapeCasts_S4x128x4384_S512x4384 : (Proc.devRef .tc main_while0b_v57 : DevRef τ sig).ty.Contents (Elt F)) = Cert.ReferenceIdeal.Step.b78 j s := by
  unfold Cert.ReferenceIdeal.Step.b78
  rw [← al_77 h]
  try rfl
set_option maxRecDepth 8192 in
theorem al_79 (h : Holds V0 s j) : (Host.dotGeneral dot_S144x512_S512x4384_S144x4384_1_0_0_1_n_n none (extractStridedSlice S144x512 ![0, 512] (res_main_while0b_v27 V0) slices_S144x1024_S144x512_0_512) (shapeCast S512x4384 (mulf (shapeCast S4x128x4384 (sitofp .bf16 (subi (xori (Host.shrsi (res_main_while0b_v28 V0) (broadcastInDim S512x4384 ![] bcast_S_S512x4384 (constantI S_ 32 4#32))) (broadcastInDim S512x4384 ![] bcast_S_S512x4384 (constantI S_ 32 8#32))) (broadcastInDim S512x4384 ![] bcast_S_S512x4384 (constantI S_ 32 8#32)))) shapeCasts_S512x4384_S4x128x4384) (broadcastInDim S4x128x4384 ![0, 1, 2] bcast_S4x1x4384_S4x128x4384_0_1_2 (broadcastInDim S4x1x4384 ![0, 2] bcast_S4x4384_S4x1x4384_0_2 (extractStridedSlice S4x4384 ![4, 0] (res_main_while0b_v9 V0) slices_S8x4384_S4x4384_4_0)))) shapeCasts_S4x128x4384_S512x4384) : (Proc.devRef .tc main_while0b_v58 : DevRef τ sig).ty.Contents (Elt F)) = Cert.ReferenceIdeal.Step.b79 j s := by
  unfold Cert.ReferenceIdeal.Step.b79
  rw [← al_72 h, ← al_78 h]
  try rfl
set_option maxRecDepth 8192 in
theorem al_80 (h : Holds V0 s j) : (res_main_while0b_v59 V0 : (Proc.devRef .tc main_while0b_v59 : DevRef τ sig).ty.Contents (Elt F)) = Cert.ReferenceIdeal.Step.b80 j s := by
  unfold res_main_while0b_v59 Cert.ReferenceIdeal.Step.b80
  rw [← al_71 h, ← al_79 h]
  try rfl
set_option maxRecDepth 8192 in
theorem al_81 (h : Holds V0 s j) : (res_main_while0b_v60 V0 : (Proc.devRef .tc main_while0b_v60 : DevRef τ sig).ty.Contents (Elt F)) = Cert.ReferenceIdeal.Step.b81 j s := by
  unfold res_main_while0b_v60 Cert.ReferenceIdeal.Step.b81
  rw [← al_80 h]
  try rfl
set_option maxRecDepth 8192 in
theorem al_82 (h : Holds V0 s j) : (extractStridedSlice S144x2304 ![0, 2048] (res_main_while0b_v59 V0) slices_S144x4384_S144x2304_0_2048 : (Proc.devRef .tc main_while0b_v61 : DevRef τ sig).ty.Contents (Elt F)) = Cert.ReferenceIdeal.Step.b82 j s := by
  unfold Cert.ReferenceIdeal.Step.b82
  rw [← al_80 h]
  try rfl
set_option maxRecDepth 8192 in
theorem al_83 (h : Holds V0 s j) : (extractStridedSlice S144x32 ![0, 4352] (res_main_while0b_v59 V0) slices_S144x4384_S144x32_0_4352 : (Proc.devRef .tc main_while0b_v62 : DevRef τ sig).ty.Contents (Elt F)) = Cert.ReferenceIdeal.Step.b83 j s := by
  unfold Cert.ReferenceIdeal.Step.b83
  rw [← al_80 h]
  try rfl
set_option maxRecDepth 8192 in
theorem al_84 (h : Holds V0 s j) : (mulf (shapeCast S144x2048 (Host.dynamicSlice S1x144x2048 (V0 (Proc.devRef .tc main_v6_6)) (fun k => (((![V0 (Proc.devRef .tc main_v6_7), constantI S_ 32 0#32, constantI S_ 32 0#32] : Fin 3 → (⟨S_, .i32⟩ : BufTy).Contents (Elt F))) k (Shape.Idx.first h_S_)).toInt) sliceFits_S14x144x2048_S1x144x2048) shapeCasts_S1x144x2048_S144x2048) (res_main_while0b_v60 V0) : (Proc.devRef .tc main_while0b_v63 : DevRef τ sig).ty.Contents (Elt F)) = Cert.ReferenceIdeal.Step.b84 j s := by
  unfold Cert.ReferenceIdeal.Step.b84
  rw [← al_25 h, ← al_81 h]
  try rfl
set_option maxRecDepth 8192 in
theorem al_85 (h : Holds V0 s j) : (Host.negf (res_main_while0b_v60 V0) : (Proc.devRef .tc main_while0b_v64 : DevRef τ sig).ty.Contents (Elt F)) = Cert.ReferenceIdeal.Step.b85 j s := by
  unfold Cert.ReferenceIdeal.Step.b85
  rw [← al_81 h]
  try rfl
set_option maxRecDepth 8192 in
theorem al_86 (h : Holds V0 s j) : (Host.exp (Host.negf (res_main_while0b_v60 V0)) : (Proc.devRef .tc main_while0b_v65 : DevRef τ sig).ty.Contents (Elt F)) = Cert.ReferenceIdeal.Step.b86 j s := by
  unfold Cert.ReferenceIdeal.Step.b86
  rw [← al_85 h]
  try rfl
set_option maxRecDepth 8192 in
theorem al_87 (h : Holds V0 s j) : (constant S_ .f32 0x3F800000#32 : (Proc.devRef .tc main_while0b_cst_24 : DevRef τ sig).ty.Contents (Elt F)) = Cert.ReferenceIdeal.Step.b87 j s := by
  unfold Cert.ReferenceIdeal.Step.b87
  rfl
set_option maxRecDepth 8192 in
theorem al_88 (h : Holds V0 s j) : (broadcastInDim S144x2048 ![] bcast_S_S144x2048 (constant S_ .f32 0x3F800000#32) : (Proc.devRef .tc main_while0b_v66 : DevRef τ sig).ty.Contents (Elt F)) = Cert.ReferenceIdeal.Step.b88 j s := by
  unfold Cert.ReferenceIdeal.Step.b88
  rw [← al_87 h]
  try rfl
set_option maxRecDepth 8192 in
theorem al_89 (h : Holds V0 s j) : (addf (broadcastInDim S144x2048 ![] bcast_S_S144x2048 (constant S_ .f32 0x3F800000#32)) (Host.exp (Host.negf (res_main_while0b_v60 V0))) : (Proc.devRef .tc main_while0b_v67 : DevRef τ sig).ty.Contents (Elt F)) = Cert.ReferenceIdeal.Step.b89 j s := by
  unfold Cert.ReferenceIdeal.Step.b89
  rw [← al_88 h, ← al_86 h]
  try rfl
set_option maxRecDepth 8192 in
theorem al_90 (h : Holds V0 s j) : (constant S_ .f32 0x3F800000#32 : (Proc.devRef .tc main_while0b_cst_25 : DevRef τ sig).ty.Contents (Elt F)) = Cert.ReferenceIdeal.Step.b90 j s := by
  unfold Cert.ReferenceIdeal.Step.b90
  rfl
set_option maxRecDepth 8192 in
theorem al_91 (h : Holds V0 s j) : (broadcastInDim S144x2048 ![] bcast_S_S144x2048 (constant S_ .f32 0x3F800000#32) : (Proc.devRef .tc main_while0b_v68 : DevRef τ sig).ty.Contents (Elt F)) = Cert.ReferenceIdeal.Step.b91 j s := by
  unfold Cert.ReferenceIdeal.Step.b91
  rw [← al_90 h]
  try rfl
set_option maxRecDepth 8192 in
theorem al_92 (h : Holds V0 s j) : (Host.divf (broadcastInDim S144x2048 ![] bcast_S_S144x2048 (constant S_ .f32 0x3F800000#32)) (addf (broadcastInDim S144x2048 ![] bcast_S_S144x2048 (constant S_ .f32 0x3F800000#32)) (Host.exp (Host.negf (res_main_while0b_v60 V0)))) : (Proc.devRef .tc main_while0b_v69 : DevRef τ sig).ty.Contents (Elt F)) = Cert.ReferenceIdeal.Step.b92 j s := by
  unfold Cert.ReferenceIdeal.Step.b92
  rw [← al_91 h, ← al_89 h]
  try rfl
set_option maxRecDepth 8192 in
theorem al_93 (h : Holds V0 s j) : (res_main_while0b_v70 V0 : (Proc.devRef .tc main_while0b_v70 : DevRef τ sig).ty.Contents (Elt F)) = Cert.ReferenceIdeal.Step.b93 j s := by
  unfold res_main_while0b_v70 Cert.ReferenceIdeal.Step.b93
  rw [← al_84 h, ← al_92 h]
  try rfl
set_option maxRecDepth 8192 in
theorem al_94 (h : Holds V0 s j) : (mulf (res_main_while0b_v70 V0) (res_main_while0b_v70 V0) : (Proc.devRef .tc main_while0b_v71 : DevRef τ sig).ty.Contents (Elt F)) = Cert.ReferenceIdeal.Step.b94 j s := by
  unfold Cert.ReferenceIdeal.Step.b94
  rw [← al_93 h]
  try rfl
set_option maxRecDepth 8192 in
theorem al_95 (h : Holds V0 s j) : (constant S_ .f32 0x00000000#32 : (Proc.devRef .tc main_while0b_cst_26 : DevRef τ sig).ty.Contents (Elt F)) = Cert.ReferenceIdeal.Step.b95 j s := by
  unfold Cert.ReferenceIdeal.Step.b95
  rfl
set_option maxRecDepth 8192 in
theorem al_96 (h : Holds V0 s j) : (Host.reduceAdd (mulf (res_main_while0b_v70 V0) (res_main_while0b_v70 V0)) (constant S_ .f32 0x00000000#32) reducesTo_S144x2048_S144_d1 h_S_ : (Proc.devRef .tc main_while0b_v72 : DevRef τ sig).ty.Contents (Elt F)) = Cert.ReferenceIdeal.Step.b96 j s := by
  unfold Cert.ReferenceIdeal.Step.b96
  rw [← al_94 h, ← al_95 h]
  try rfl
set_option maxRecDepth 8192 in
theorem al_97 (h : Holds V0 s j) : (broadcastInDim S144x1 ![0] bcast_S144_S144x1_0 (Host.reduceAdd (mulf (res_main_while0b_v70 V0) (res_main_while0b_v70 V0)) (constant S_ .f32 0x00000000#32) reducesTo_S144x2048_S144_d1 h_S_) : (Proc.devRef .tc main_while0b_v73 : DevRef τ sig).ty.Contents (Elt F)) = Cert.ReferenceIdeal.Step.b97 j s := by
  unfold Cert.ReferenceIdeal.Step.b97
  rw [← al_96 h]
  try rfl
set_option maxRecDepth 8192 in
theorem al_98 (h : Holds V0 s j) : (constant S_ .f32 0x45000000#32 : (Proc.devRef .tc main_while0b_cst_27 : DevRef τ sig).ty.Contents (Elt F)) = Cert.ReferenceIdeal.Step.b98 j s := by
  unfold Cert.ReferenceIdeal.Step.b98
  rfl
set_option maxRecDepth 8192 in
theorem al_99 (h : Holds V0 s j) : (broadcastInDim S144x1 ![] bcast_S_S144x1 (constant S_ .f32 0x45000000#32) : (Proc.devRef .tc main_while0b_v74 : DevRef τ sig).ty.Contents (Elt F)) = Cert.ReferenceIdeal.Step.b99 j s := by
  unfold Cert.ReferenceIdeal.Step.b99
  rw [← al_98 h]
  try rfl
set_option maxRecDepth 8192 in
theorem al_100 (h : Holds V0 s j) : (Host.divf (broadcastInDim S144x1 ![0] bcast_S144_S144x1_0 (Host.reduceAdd (mulf (res_main_while0b_v70 V0) (res_main_while0b_v70 V0)) (constant S_ .f32 0x00000000#32) reducesTo_S144x2048_S144_d1 h_S_)) (broadcastInDim S144x1 ![] bcast_S_S144x1 (constant S_ .f32 0x45000000#32)) : (Proc.devRef .tc main_while0b_v75 : DevRef τ sig).ty.Contents (Elt F)) = Cert.ReferenceIdeal.Step.b100 j s := by
  unfold Cert.ReferenceIdeal.Step.b100
  rw [← al_97 h, ← al_99 h]
  try rfl
set_option maxRecDepth 8192 in
theorem al_101 (h : Holds V0 s j) : (constant S_ .f32 0x3727C5AC#32 : (Proc.devRef .tc main_while0b_cst_28 : DevRef τ sig).ty.Contents (Elt F)) = Cert.ReferenceIdeal.Step.b101 j s := by
  unfold Cert.ReferenceIdeal.Step.b101
  rfl
set_option maxRecDepth 8192 in
theorem al_102 (h : Holds V0 s j) : (broadcastInDim S144x1 ![] bcast_S_S144x1 (constant S_ .f32 0x3727C5AC#32) : (Proc.devRef .tc main_while0b_v76 : DevRef τ sig).ty.Contents (Elt F)) = Cert.ReferenceIdeal.Step.b102 j s := by
  unfold Cert.ReferenceIdeal.Step.b102
  rw [← al_101 h]
  try rfl
set_option maxRecDepth 8192 in
theorem al_103 (h : Holds V0 s j) : (addf (Host.divf (broadcastInDim S144x1 ![0] bcast_S144_S144x1_0 (Host.reduceAdd (mulf (res_main_while0b_v70 V0) (res_main_while0b_v70 V0)) (constant S_ .f32 0x00000000#32) reducesTo_S144x2048_S144_d1 h_S_)) (broadcastInDim S144x1 ![] bcast_S_S144x1 (constant S_ .f32 0x45000000#32))) (broadcastInDim S144x1 ![] bcast_S_S144x1 (constant S_ .f32 0x3727C5AC#32)) : (Proc.devRef .tc main_while0b_v77 : DevRef τ sig).ty.Contents (Elt F)) = Cert.ReferenceIdeal.Step.b103 j s := by
  unfold Cert.ReferenceIdeal.Step.b103
  rw [← al_100 h, ← al_102 h]
  try rfl
set_option maxRecDepth 8192 in
theorem al_104 (h : Holds V0 s j) : (Host.sqrt (addf (Host.divf (broadcastInDim S144x1 ![0] bcast_S144_S144x1_0 (Host.reduceAdd (mulf (res_main_while0b_v70 V0) (res_main_while0b_v70 V0)) (constant S_ .f32 0x00000000#32) reducesTo_S144x2048_S144_d1 h_S_)) (broadcastInDim S144x1 ![] bcast_S_S144x1 (constant S_ .f32 0x45000000#32))) (broadcastInDim S144x1 ![] bcast_S_S144x1 (constant S_ .f32 0x3727C5AC#32))) : (Proc.devRef .tc main_while0b_v78 : DevRef τ sig).ty.Contents (Elt F)) = Cert.ReferenceIdeal.Step.b104 j s := by
  unfold Cert.ReferenceIdeal.Step.b104
  rw [← al_103 h]
  try rfl
set_option maxRecDepth 8192 in
theorem al_105 (h : Holds V0 s j) : (broadcastInDim S144x2048 ![0, 1] bcast_S144x1_S144x2048_0_1 (Host.sqrt (addf (Host.divf (broadcastInDim S144x1 ![0] bcast_S144_S144x1_0 (Host.reduceAdd (mulf (res_main_while0b_v70 V0) (res_main_while0b_v70 V0)) (constant S_ .f32 0x00000000#32) reducesTo_S144x2048_S144_d1 h_S_)) (broadcastInDim S144x1 ![] bcast_S_S144x1 (constant S_ .f32 0x45000000#32))) (broadcastInDim S144x1 ![] bcast_S_S144x1 (constant S_ .f32 0x3727C5AC#32)))) : (Proc.devRef .tc main_while0b_v79 : DevRef τ sig).ty.Contents (Elt F)) = Cert.ReferenceIdeal.Step.b105 j s := by
  unfold Cert.ReferenceIdeal.Step.b105
  rw [← al_104 h]
  try rfl
set_option maxRecDepth 8192 in
theorem al_106 (h : Holds V0 s j) : (Host.divf (res_main_while0b_v70 V0) (broadcastInDim S144x2048 ![0, 1] bcast_S144x1_S144x2048_0_1 (Host.sqrt (addf (Host.divf (broadcastInDim S144x1 ![0] bcast_S144_S144x1_0 (Host.reduceAdd (mulf (res_main_while0b_v70 V0) (res_main_while0b_v70 V0)) (constant S_ .f32 0x00000000#32) reducesTo_S144x2048_S144_d1 h_S_)) (broadcastInDim S144x1 ![] bcast_S_S144x1 (constant S_ .f32 0x45000000#32))) (broadcastInDim S144x1 ![] bcast_S_S144x1 (constant S_ .f32 0x3727C5AC#32))))) : (Proc.devRef .tc main_while0b_v80 : DevRef τ sig).ty.Contents (Elt F)) = Cert.ReferenceIdeal.Step.b106 j s := by
  unfold Cert.ReferenceIdeal.Step.b106
  rw [← al_93 h, ← al_105 h]
  try rfl
set_option maxRecDepth 8192 in
theorem al_107 (h : Holds V0 s j) : (broadcastInDim S1x2048 ![1] bcast_S2048_S1x2048_1 (shapeCast S2048 (Host.dynamicSlice S1x2048 (V0 (Proc.devRef .tc main_v6_3)) (fun k => (((![V0 (Proc.devRef .tc main_v6_7), constantI S_ 32 0#32] : Fin 2 → (⟨S_, .i32⟩ : BufTy).Contents (Elt F))) k (Shape.Idx.first h_S_)).toInt) sliceFits_S14x2048_S1x2048) shapeCasts_S1x2048_S2048) : (Proc.devRef .tc main_while0b_v81 : DevRef τ sig).ty.Contents (Elt F)) = Cert.ReferenceIdeal.Step.b107 j s := by
  unfold Cert.ReferenceIdeal.Step.b107
  rw [← al_13 h]
  try rfl
set_option maxRecDepth 8192 in
theorem al_108 (h : Holds V0 s j) : (broadcastInDim S144x2048 ![0, 1] bcast_S1x2048_S144x2048_0_1 (broadcastInDim S1x2048 ![1] bcast_S2048_S1x2048_1 (shapeCast S2048 (Host.dynamicSlice S1x2048 (V0 (Proc.devRef .tc main_v6_3)) (fun k => (((![V0 (Proc.devRef .tc main_v6_7), constantI S_ 32 0#32] : Fin 2 → (⟨S_, .i32⟩ : BufTy).Contents (Elt F))) k (Shape.Idx.first h_S_)).toInt) sliceFits_S14x2048_S1x2048) shapeCasts_S1x2048_S2048)) : (Proc.devRef .tc main_while0b_v82 : DevRef τ sig).ty.Contents (Elt F)) = Cert.ReferenceIdeal.Step.b108 j s := by
  unfold Cert.ReferenceIdeal.Step.b108
  rw [← al_107 h]
  try rfl
set_option maxRecDepth 8192 in
theorem al_109 (h : Holds V0 s j) : (mulf (Host.divf (res_main_while0b_v70 V0) (broadcastInDim S144x2048 ![0, 1] bcast_S144x1_S144x2048_0_1 (Host.sqrt (addf (Host.divf (broadcastInDim S144x1 ![0] bcast_S144_S144x1_0 (Host.reduceAdd (mulf (res_main_while0b_v70 V0) (res_main_while0b_v70 V0)) (constant S_ .f32 0x00000000#32) reducesTo_S144x2048_S144_d1 h_S_)) (broadcastInDim S144x1 ![] bcast_S_S144x1 (constant S_ .f32 0x45000000#32))) (broadcastInDim S144x1 ![] bcast_S_S144x1 (constant S_ .f32 0x3727C5AC#32)))))) (broadcastInDim S144x2048 ![0, 1] bcast_S1x2048_S144x2048_0_1 (broadcastInDim S1x2048 ![1] bcast_S2048_S1x2048_1 (shapeCast S2048 (Host.dynamicSlice S1x2048 (V0 (Proc.devRef .tc main_v6_3)) (fun k => (((![V0 (Proc.devRef .tc main_v6_7), constantI S_ 32 0#32] : Fin 2 → (⟨S_, .i32⟩ : BufTy).Contents (Elt F))) k (Shape.Idx.first h_S_)).toInt) sliceFits_S14x2048_S1x2048) shapeCasts_S1x2048_S2048))) : (Proc.devRef .tc main_while0b_v83 : DevRef τ sig).ty.Contents (Elt F)) = Cert.ReferenceIdeal.Step.b109 j s := by
  unfold Cert.ReferenceIdeal.Step.b109
  rw [← al_106 h, ← al_108 h]
  try rfl
set_option maxRecDepth 8192 in
theorem al_110 (h : Holds V0 s j) : (res_main_while0b_v84 V0 : (Proc.devRef .tc main_while0b_v84 : DevRef τ sig).ty.Contents (Elt F)) = Cert.ReferenceIdeal.Step.b110 j s := by
  unfold res_main_while0b_v84 Cert.ReferenceIdeal.Step.b110
  rw [← al_109 h]
  try rfl
set_option maxRecDepth 8192 in
theorem al_111 (h : Holds V0 s j) : (res_main_while0b_v85 V0 : (Proc.devRef .tc main_while0b_v85 : DevRef τ sig).ty.Contents (Elt F)) = Cert.ReferenceIdeal.Step.b111 j s := by
  unfold res_main_while0b_v85 Cert.ReferenceIdeal.Step.b111
  rw [← al_17 h]
  try rfl
set_option maxRecDepth 8192 in
theorem al_112 (h : Holds V0 s j) : (constantI S_ 32 15#32 : (Proc.devRef .tc main_while0b_c_29 : DevRef τ sig).ty.Contents (Elt F)) = Cert.ReferenceIdeal.Step.b112 j s := by
  unfold Cert.ReferenceIdeal.Step.b112
  rfl
set_option maxRecDepth 8192 in
theorem al_113 (h : Holds V0 s j) : (broadcastInDim S2048x512 ![] bcast_S_S2048x512 (constantI S_ 32 15#32) : (Proc.devRef .tc main_while0b_v86 : DevRef τ sig).ty.Contents (Elt F)) = Cert.ReferenceIdeal.Step.b113 j s := by
  unfold Cert.ReferenceIdeal.Step.b113
  rw [← al_112 h]
  try rfl
set_option maxRecDepth 8192 in
theorem al_114 (h : Holds V0 s j) : (andi (res_main_while0b_v85 V0) (broadcastInDim S2048x512 ![] bcast_S_S2048x512 (constantI S_ 32 15#32)) : (Proc.devRef .tc main_while0b_v87 : DevRef τ sig).ty.Contents (Elt F)) = Cert.ReferenceIdeal.Step.b114 j s := by
  unfold Cert.ReferenceIdeal.Step.b114
  rw [← al_111 h, ← al_113 h]
  try rfl
set_option maxRecDepth 8192 in
theorem al_115 (h : Holds V0 s j) : (constantI S_ 32 8#32 : (Proc.devRef .tc main_while0b_c_30 : DevRef τ sig).ty.Contents (Elt F)) = Cert.ReferenceIdeal.Step.b115 j s := by
  unfold Cert.ReferenceIdeal.Step.b115
  rfl
set_option maxRecDepth 8192 in
theorem al_116 (h : Holds V0 s j) : (broadcastInDim S2048x512 ![] bcast_S_S2048x512 (constantI S_ 32 8#32) : (Proc.devRef .tc main_while0b_v88 : DevRef τ sig).ty.Contents (Elt F)) = Cert.ReferenceIdeal.Step.b116 j s := by
  unfold Cert.ReferenceIdeal.Step.b116
  rw [← al_115 h]
  try rfl
set_option maxRecDepth 8192 in
theorem al_117 (h : Holds V0 s j) : (xori (andi (res_main_while0b_v85 V0) (broadcastInDim S2048x512 ![] bcast_S_S2048x512 (constantI S_ 32 15#32))) (broadcastInDim S2048x512 ![] bcast_S_S2048x512 (constantI S_ 32 8#32)) : (Proc.devRef .tc main_while0b_v89 : DevRef τ sig).ty.Contents (Elt F)) = Cert.ReferenceIdeal.Step.b117 j s := by
  unfold Cert.ReferenceIdeal.Step.b117
  rw [← al_114 h, ← al_116 h]
  try rfl
set_option maxRecDepth 8192 in
theorem al_118 (h : Holds V0 s j) : (constantI S_ 32 8#32 : (Proc.devRef .tc main_while0b_c_31 : DevRef τ sig).ty.Contents (Elt F)) = Cert.ReferenceIdeal.Step.b118 j s := by
  unfold Cert.ReferenceIdeal.Step.b118
  rfl
set_option maxRecDepth 8192 in
theorem al_119 (h : Holds V0 s j) : (broadcastInDim S2048x512 ![] bcast_S_S2048x512 (constantI S_ 32 8#32) : (Proc.devRef .tc main_while0b_v90 : DevRef τ sig).ty.Contents (Elt F)) = Cert.ReferenceIdeal.Step.b119 j s := by
  unfold Cert.ReferenceIdeal.Step.b119
  rw [← al_118 h]
  try rfl
set_option maxRecDepth 8192 in
theorem al_120 (h : Holds V0 s j) : (subi (xori (andi (res_main_while0b_v85 V0) (broadcastInDim S2048x512 ![] bcast_S_S2048x512 (constantI S_ 32 15#32))) (broadcastInDim S2048x512 ![] bcast_S_S2048x512 (constantI S_ 32 8#32))) (broadcastInDim S2048x512 ![] bcast_S_S2048x512 (constantI S_ 32 8#32)) : (Proc.devRef .tc main_while0b_v91 : DevRef τ sig).ty.Contents (Elt F)) = Cert.ReferenceIdeal.Step.b120 j s := by
  unfold Cert.ReferenceIdeal.Step.b120
  rw [← al_117 h, ← al_119 h]
  try rfl
set_option maxRecDepth 8192 in
theorem al_121 (h : Holds V0 s j) : (constantI S_ 32 4#32 : (Proc.devRef .tc main_while0b_c_32 : DevRef τ sig).ty.Contents (Elt F)) = Cert.ReferenceIdeal.Step.b121 j s := by
  unfold Cert.ReferenceIdeal.Step.b121
  rfl
set_option maxRecDepth 8192 in
theorem al_122 (h : Holds V0 s j) : (broadcastInDim S2048x512 ![] bcast_S_S2048x512 (constantI S_ 32 4#32) : (Proc.devRef .tc main_while0b_v92 : DevRef τ sig).ty.Contents (Elt F)) = Cert.ReferenceIdeal.Step.b122 j s := by
  unfold Cert.ReferenceIdeal.Step.b122
  rw [← al_121 h]
  try rfl
set_option maxRecDepth 8192 in
theorem al_123 (h : Holds V0 s j) : (Host.shrsi (res_main_while0b_v85 V0) (broadcastInDim S2048x512 ![] bcast_S_S2048x512 (constantI S_ 32 4#32)) : (Proc.devRef .tc main_while0b_v93 : DevRef τ sig).ty.Contents (Elt F)) = Cert.ReferenceIdeal.Step.b123 j s := by
  unfold Cert.ReferenceIdeal.Step.b123
  rw [← al_111 h, ← al_122 h]
  try rfl
set_option maxRecDepth 8192 in
theorem al_124 (h : Holds V0 s j) : (constantI S_ 32 8#32 : (Proc.devRef .tc main_while0b_c_33 : DevRef τ sig).ty.Contents (Elt F)) = Cert.ReferenceIdeal.Step.b124 j s := by
  unfold Cert.ReferenceIdeal.Step.b124
  rfl
set_option maxRecDepth 8192 in
theorem al_125 (h : Holds V0 s j) : (broadcastInDim S2048x512 ![] bcast_S_S2048x512 (constantI S_ 32 8#32) : (Proc.devRef .tc main_while0b_v94 : DevRef τ sig).ty.Contents (Elt F)) = Cert.ReferenceIdeal.Step.b125 j s := by
  unfold Cert.ReferenceIdeal.Step.b125
  rw [← al_124 h]
  try rfl
set_option maxRecDepth 8192 in
theorem al_126 (h : Holds V0 s j) : (xori (Host.shrsi (res_main_while0b_v85 V0) (broadcastInDim S2048x512 ![] bcast_S_S2048x512 (constantI S_ 32 4#32))) (broadcastInDim S2048x512 ![] bcast_S_S2048x512 (constantI S_ 32 8#32)) : (Proc.devRef .tc main_while0b_v95 : DevRef τ sig).ty.Contents (Elt F)) = Cert.ReferenceIdeal.Step.b126 j s := by
  unfold Cert.ReferenceIdeal.Step.b126
  rw [← al_123 h, ← al_125 h]
  try rfl
set_option maxRecDepth 8192 in
theorem al_127 (h : Holds V0 s j) : (constantI S_ 32 8#32 : (Proc.devRef .tc main_while0b_c_34 : DevRef τ sig).ty.Contents (Elt F)) = Cert.ReferenceIdeal.Step.b127 j s := by
  unfold Cert.ReferenceIdeal.Step.b127
  rfl
set_option maxRecDepth 8192 in
theorem al_128 (h : Holds V0 s j) : (broadcastInDim S2048x512 ![] bcast_S_S2048x512 (constantI S_ 32 8#32) : (Proc.devRef .tc main_while0b_v96 : DevRef τ sig).ty.Contents (Elt F)) = Cert.ReferenceIdeal.Step.b128 j s := by
  unfold Cert.ReferenceIdeal.Step.b128
  rw [← al_127 h]
  try rfl
set_option maxRecDepth 8192 in
theorem al_129 (h : Holds V0 s j) : (subi (xori (Host.shrsi (res_main_while0b_v85 V0) (broadcastInDim S2048x512 ![] bcast_S_S2048x512 (constantI S_ 32 4#32))) (broadcastInDim S2048x512 ![] bcast_S_S2048x512 (constantI S_ 32 8#32))) (broadcastInDim S2048x512 ![] bcast_S_S2048x512 (constantI S_ 32 8#32)) : (Proc.devRef .tc main_while0b_v97 : DevRef τ sig).ty.Contents (Elt F)) = Cert.ReferenceIdeal.Step.b129 j s := by
  unfold Cert.ReferenceIdeal.Step.b129
  rw [← al_126 h, ← al_128 h]
  try rfl
set_option maxRecDepth 8192 in
theorem al_130 (h : Holds V0 s j) : (sitofp .bf16 (subi (xori (andi (res_main_while0b_v85 V0) (broadcastInDim S2048x512 ![] bcast_S_S2048x512 (constantI S_ 32 15#32))) (broadcastInDim S2048x512 ![] bcast_S_S2048x512 (constantI S_ 32 8#32))) (broadcastInDim S2048x512 ![] bcast_S_S2048x512 (constantI S_ 32 8#32))) : (Proc.devRef .tc main_while0b_v98 : DevRef τ sig).ty.Contents (Elt F)) = Cert.ReferenceIdeal.Step.b130 j s := by
  unfold Cert.ReferenceIdeal.Step.b130
  rw [← al_120 h]
  try rfl
set_option maxRecDepth 8192 in
theorem al_131 (h : Holds V0 s j) : (sitofp .bf16 (subi (xori (Host.shrsi (res_main_while0b_v85 V0) (broadcastInDim S2048x512 ![] bcast_S_S2048x512 (constantI S_ 32 4#32))) (broadcastInDim S2048x512 ![] bcast_S_S2048x512 (constantI S_ 32 8#32))) (broadcastInDim S2048x512 ![] bcast_S_S2048x512 (constantI S_ 32 8#32))) : (Proc.devRef .tc main_while0b_v99 : DevRef τ sig).ty.Contents (Elt F)) = Cert.ReferenceIdeal.Step.b131 j s := by
  unfold Cert.ReferenceIdeal.Step.b131
  rw [← al_129 h]
  try rfl
set_option maxRecDepth 8192 in
theorem al_132 (h : Holds V0 s j) : (extractStridedSlice S16x512 ![0, 0] (res_main_while0b_v12 V0) slices_S16x1024_S16x512_0_0 : (Proc.devRef .tc main_while0b_v100 : DevRef τ sig).ty.Contents (Elt F)) = Cert.ReferenceIdeal.Step.b132 j s := by
  unfold Cert.ReferenceIdeal.Step.b132
  rw [← al_21 h]
  try rfl
set_option maxRecDepth 8192 in
theorem al_133 (h : Holds V0 s j) : (shapeCast S16x128x512 (sitofp .bf16 (subi (xori (andi (res_main_while0b_v85 V0) (broadcastInDim S2048x512 ![] bcast_S_S2048x512 (constantI S_ 32 15#32))) (broadcastInDim S2048x512 ![] bcast_S_S2048x512 (constantI S_ 32 8#32))) (broadcastInDim S2048x512 ![] bcast_S_S2048x512 (constantI S_ 32 8#32)))) shapeCasts_S2048x512_S16x128x512 : (Proc.devRef .tc main_while0b_v101 : DevRef τ sig).ty.Contents (Elt F)) = Cert.ReferenceIdeal.Step.b133 j s := by
  unfold Cert.ReferenceIdeal.Step.b133
  rw [← al_130 h]
  try rfl
set_option maxRecDepth 8192 in
theorem al_134 (h : Holds V0 s j) : (broadcastInDim S16x1x512 ![0, 2] bcast_S16x512_S16x1x512_0_2 (extractStridedSlice S16x512 ![0, 0] (res_main_while0b_v12 V0) slices_S16x1024_S16x512_0_0) : (Proc.devRef .tc main_while0b_v102 : DevRef τ sig).ty.Contents (Elt F)) = Cert.ReferenceIdeal.Step.b134 j s := by
  unfold Cert.ReferenceIdeal.Step.b134
  rw [← al_132 h]
  try rfl
set_option maxRecDepth 8192 in
theorem al_135 (h : Holds V0 s j) : (broadcastInDim S16x128x512 ![0, 1, 2] bcast_S16x1x512_S16x128x512_0_1_2 (broadcastInDim S16x1x512 ![0, 2] bcast_S16x512_S16x1x512_0_2 (extractStridedSlice S16x512 ![0, 0] (res_main_while0b_v12 V0) slices_S16x1024_S16x512_0_0)) : (Proc.devRef .tc main_while0b_v103 : DevRef τ sig).ty.Contents (Elt F)) = Cert.ReferenceIdeal.Step.b135 j s := by
  unfold Cert.ReferenceIdeal.Step.b135
  rw [← al_134 h]
  try rfl
set_option maxRecDepth 8192 in
theorem al_136 (h : Holds V0 s j) : (mulf (shapeCast S16x128x512 (sitofp .bf16 (subi (xori (andi (res_main_while0b_v85 V0) (broadcastInDim S2048x512 ![] bcast_S_S2048x512 (constantI S_ 32 15#32))) (broadcastInDim S2048x512 ![] bcast_S_S2048x512 (constantI S_ 32 8#32))) (broadcastInDim S2048x512 ![] bcast_S_S2048x512 (constantI S_ 32 8#32)))) shapeCasts_S2048x512_S16x128x512) (broadcastInDim S16x128x512 ![0, 1, 2] bcast_S16x1x512_S16x128x512_0_1_2 (broadcastInDim S16x1x512 ![0, 2] bcast_S16x512_S16x1x512_0_2 (extractStridedSlice S16x512 ![0, 0] (res_main_while0b_v12 V0) slices_S16x1024_S16x512_0_0))) : (Proc.devRef .tc main_while0b_v104 : DevRef τ sig).ty.Contents (Elt F)) = Cert.ReferenceIdeal.Step.b136 j s := by
  unfold Cert.ReferenceIdeal.Step.b136
  rw [← al_133 h, ← al_135 h]
  try rfl
set_option maxRecDepth 8192 in
theorem al_137 (h : Holds V0 s j) : (shapeCast S2048x512 (mulf (shapeCast S16x128x512 (sitofp .bf16 (subi (xori (andi (res_main_while0b_v85 V0) (broadcastInDim S2048x512 ![] bcast_S_S2048x512 (constantI S_ 32 15#32))) (broadcastInDim S2048x512 ![] bcast_S_S2048x512 (constantI S_ 32 8#32))) (broadcastInDim S2048x512 ![] bcast_S_S2048x512 (constantI S_ 32 8#32)))) shapeCasts_S2048x512_S16x128x512) (broadcastInDim S16x128x512 ![0, 1, 2] bcast_S16x1x512_S16x128x512_0_1_2 (broadcastInDim S16x1x512 ![0, 2] bcast_S16x512_S16x1x512_0_2 (extractStridedSlice S16x512 ![0, 0] (res_main_while0b_v12 V0) slices_S16x1024_S16x512_0_0)))) shapeCasts_S16x128x512_S2048x512 : (Proc.devRef .tc main_while0b_v105 : DevRef τ sig).ty.Contents (Elt F)) = Cert.ReferenceIdeal.Step.b137 j s := by
  unfold Cert.ReferenceIdeal.Step.b137
  rw [← al_136 h]
  try rfl
set_option maxRecDepth 8192 in
theorem al_138 (h : Holds V0 s j) : (Host.dotGeneral dot_S144x2048_S2048x512_S144x512_1_0_0_1_n_n none (res_main_while0b_v84 V0) (shapeCast S2048x512 (mulf (shapeCast S16x128x512 (sitofp .bf16 (subi (xori (andi (res_main_while0b_v85 V0) (broadcastInDim S2048x512 ![] bcast_S_S2048x512 (constantI S_ 32 15#32))) (broadcastInDim S2048x512 ![] bcast_S_S2048x512 (constantI S_ 32 8#32))) (broadcastInDim S2048x512 ![] bcast_S_S2048x512 (constantI S_ 32 8#32)))) shapeCasts_S2048x512_S16x128x512) (broadcastInDim S16x128x512 ![0, 1, 2] bcast_S16x1x512_S16x128x512_0_1_2 (broadcastInDim S16x1x512 ![0, 2] bcast_S16x512_S16x1x512_0_2 (extractStridedSlice S16x512 ![0, 0] (res_main_while0b_v12 V0) slices_S16x1024_S16x512_0_0)))) shapeCasts_S16x128x512_S2048x512) : (Proc.devRef .tc main_while0b_v106 : DevRef τ sig).ty.Contents (Elt F)) = Cert.ReferenceIdeal.Step.b138 j s := by
  unfold Cert.ReferenceIdeal.Step.b138
  rw [← al_110 h, ← al_137 h]
  try rfl
set_option maxRecDepth 8192 in
theorem al_139 (h : Holds V0 s j) : (extractStridedSlice S16x512 ![0, 512] (res_main_while0b_v12 V0) slices_S16x1024_S16x512_0_512 : (Proc.devRef .tc main_while0b_v107 : DevRef τ sig).ty.Contents (Elt F)) = Cert.ReferenceIdeal.Step.b139 j s := by
  unfold Cert.ReferenceIdeal.Step.b139
  rw [← al_21 h]
  try rfl
set_option maxRecDepth 8192 in
theorem al_140 (h : Holds V0 s j) : (shapeCast S16x128x512 (sitofp .bf16 (subi (xori (Host.shrsi (res_main_while0b_v85 V0) (broadcastInDim S2048x512 ![] bcast_S_S2048x512 (constantI S_ 32 4#32))) (broadcastInDim S2048x512 ![] bcast_S_S2048x512 (constantI S_ 32 8#32))) (broadcastInDim S2048x512 ![] bcast_S_S2048x512 (constantI S_ 32 8#32)))) shapeCasts_S2048x512_S16x128x512 : (Proc.devRef .tc main_while0b_v108 : DevRef τ sig).ty.Contents (Elt F)) = Cert.ReferenceIdeal.Step.b140 j s := by
  unfold Cert.ReferenceIdeal.Step.b140
  rw [← al_131 h]
  try rfl
set_option maxRecDepth 8192 in
theorem al_141 (h : Holds V0 s j) : (broadcastInDim S16x1x512 ![0, 2] bcast_S16x512_S16x1x512_0_2 (extractStridedSlice S16x512 ![0, 512] (res_main_while0b_v12 V0) slices_S16x1024_S16x512_0_512) : (Proc.devRef .tc main_while0b_v109 : DevRef τ sig).ty.Contents (Elt F)) = Cert.ReferenceIdeal.Step.b141 j s := by
  unfold Cert.ReferenceIdeal.Step.b141
  rw [← al_139 h]
  try rfl
set_option maxRecDepth 8192 in
theorem al_142 (h : Holds V0 s j) : (broadcastInDim S16x128x512 ![0, 1, 2] bcast_S16x1x512_S16x128x512_0_1_2 (broadcastInDim S16x1x512 ![0, 2] bcast_S16x512_S16x1x512_0_2 (extractStridedSlice S16x512 ![0, 512] (res_main_while0b_v12 V0) slices_S16x1024_S16x512_0_512)) : (Proc.devRef .tc main_while0b_v110 : DevRef τ sig).ty.Contents (Elt F)) = Cert.ReferenceIdeal.Step.b142 j s := by
  unfold Cert.ReferenceIdeal.Step.b142
  rw [← al_141 h]
  try rfl
set_option maxRecDepth 8192 in
theorem al_143 (h : Holds V0 s j) : (mulf (shapeCast S16x128x512 (sitofp .bf16 (subi (xori (Host.shrsi (res_main_while0b_v85 V0) (broadcastInDim S2048x512 ![] bcast_S_S2048x512 (constantI S_ 32 4#32))) (broadcastInDim S2048x512 ![] bcast_S_S2048x512 (constantI S_ 32 8#32))) (broadcastInDim S2048x512 ![] bcast_S_S2048x512 (constantI S_ 32 8#32)))) shapeCasts_S2048x512_S16x128x512) (broadcastInDim S16x128x512 ![0, 1, 2] bcast_S16x1x512_S16x128x512_0_1_2 (broadcastInDim S16x1x512 ![0, 2] bcast_S16x512_S16x1x512_0_2 (extractStridedSlice S16x512 ![0, 512] (res_main_while0b_v12 V0) slices_S16x1024_S16x512_0_512))) : (Proc.devRef .tc main_while0b_v111 : DevRef τ sig).ty.Contents (Elt F)) = Cert.ReferenceIdeal.Step.b143 j s := by
  unfold Cert.ReferenceIdeal.Step.b143
  rw [← al_140 h, ← al_142 h]
  try rfl
set_option maxRecDepth 8192 in
theorem al_144 (h : Holds V0 s j) : (shapeCast S2048x512 (mulf (shapeCast S16x128x512 (sitofp .bf16 (subi (xori (Host.shrsi (res_main_while0b_v85 V0) (broadcastInDim S2048x512 ![] bcast_S_S2048x512 (constantI S_ 32 4#32))) (broadcastInDim S2048x512 ![] bcast_S_S2048x512 (constantI S_ 32 8#32))) (broadcastInDim S2048x512 ![] bcast_S_S2048x512 (constantI S_ 32 8#32)))) shapeCasts_S2048x512_S16x128x512) (broadcastInDim S16x128x512 ![0, 1, 2] bcast_S16x1x512_S16x128x512_0_1_2 (broadcastInDim S16x1x512 ![0, 2] bcast_S16x512_S16x1x512_0_2 (extractStridedSlice S16x512 ![0, 512] (res_main_while0b_v12 V0) slices_S16x1024_S16x512_0_512)))) shapeCasts_S16x128x512_S2048x512 : (Proc.devRef .tc main_while0b_v112 : DevRef τ sig).ty.Contents (Elt F)) = Cert.ReferenceIdeal.Step.b144 j s := by
  unfold Cert.ReferenceIdeal.Step.b144
  rw [← al_143 h]
  try rfl
set_option maxRecDepth 8192 in
theorem al_145 (h : Holds V0 s j) : (Host.dotGeneral dot_S144x2048_S2048x512_S144x512_1_0_0_1_n_n none (res_main_while0b_v84 V0) (shapeCast S2048x512 (mulf (shapeCast S16x128x512 (sitofp .bf16 (subi (xori (Host.shrsi (res_main_while0b_v85 V0) (broadcastInDim S2048x512 ![] bcast_S_S2048x512 (constantI S_ 32 4#32))) (broadcastInDim S2048x512 ![] bcast_S_S2048x512 (constantI S_ 32 8#32))) (broadcastInDim S2048x512 ![] bcast_S_S2048x512 (constantI S_ 32 8#32)))) shapeCasts_S2048x512_S16x128x512) (broadcastInDim S16x128x512 ![0, 1, 2] bcast_S16x1x512_S16x128x512_0_1_2 (broadcastInDim S16x1x512 ![0, 2] bcast_S16x512_S16x1x512_0_2 (extractStridedSlice S16x512 ![0, 512] (res_main_while0b_v12 V0) slices_S16x1024_S16x512_0_512)))) shapeCasts_S16x128x512_S2048x512) : (Proc.devRef .tc main_while0b_v113 : DevRef τ sig).ty.Contents (Elt F)) = Cert.ReferenceIdeal.Step.b145 j s := by
  unfold Cert.ReferenceIdeal.Step.b145
  rw [← al_110 h, ← al_144 h]
  try rfl
set_option maxRecDepth 8192 in
theorem al_146 (h : Holds V0 s j) : (concatenate S144x1024 1 [⟨S144x512, (Host.dotGeneral dot_S144x2048_S2048x512_S144x512_1_0_0_1_n_n none (res_main_while0b_v84 V0) (shapeCast S2048x512 (mulf (shapeCast S16x128x512 (sitofp .bf16 (subi (xori (andi (res_main_while0b_v85 V0) (broadcastInDim S2048x512 ![] bcast_S_S2048x512 (constantI S_ 32 15#32))) (broadcastInDim S2048x512 ![] bcast_S_S2048x512 (constantI S_ 32 8#32))) (broadcastInDim S2048x512 ![] bcast_S_S2048x512 (constantI S_ 32 8#32)))) shapeCasts_S2048x512_S16x128x512) (broadcastInDim S16x128x512 ![0, 1, 2] bcast_S16x1x512_S16x128x512_0_1_2 (broadcastInDim S16x1x512 ![0, 2] bcast_S16x512_S16x1x512_0_2 (extractStridedSlice S16x512 ![0, 0] (res_main_while0b_v12 V0) slices_S16x1024_S16x512_0_0)))) shapeCasts_S16x128x512_S2048x512))⟩, ⟨S144x512, (Host.dotGeneral dot_S144x2048_S2048x512_S144x512_1_0_0_1_n_n none (res_main_while0b_v84 V0) (shapeCast S2048x512 (mulf (shapeCast S16x128x512 (sitofp .bf16 (subi (xori (Host.shrsi (res_main_while0b_v85 V0) (broadcastInDim S2048x512 ![] bcast_S_S2048x512 (constantI S_ 32 4#32))) (broadcastInDim S2048x512 ![] bcast_S_S2048x512 (constantI S_ 32 8#32))) (broadcastInDim S2048x512 ![] bcast_S_S2048x512 (constantI S_ 32 8#32)))) shapeCasts_S2048x512_S16x128x512) (broadcastInDim S16x128x512 ![0, 1, 2] bcast_S16x1x512_S16x128x512_0_1_2 (broadcastInDim S16x1x512 ![0, 2] bcast_S16x512_S16x1x512_0_2 (extractStridedSlice S16x512 ![0, 512] (res_main_while0b_v12 V0) slices_S16x1024_S16x512_0_512)))) shapeCasts_S16x128x512_S2048x512))⟩] concatenates_S144x512_S144x512_S144x1024_d1 : (Proc.devRef .tc main_while0b_v114 : DevRef τ sig).ty.Contents (Elt F)) = Cert.ReferenceIdeal.Step.b146 j s := by
  unfold Cert.ReferenceIdeal.Step.b146
  rw [← al_138 h, ← al_145 h]
  try rfl
set_option maxRecDepth 8192 in
theorem al_147 (h : Holds V0 s j) : (res_main_while0b_v115 V0 : (Proc.devRef .tc main_while0b_v115 : DevRef τ sig).ty.Contents (Elt F)) = Cert.ReferenceIdeal.Step.b147 j s := by
  unfold res_main_while0b_v115 Cert.ReferenceIdeal.Step.b147
  rw [← al_146 h, h.f_8]
  try rfl
set_option maxRecDepth 8192 in
theorem al_148 (h : Holds V0 s j) : (broadcastInDim S1x144x1024 ![1, 2] bcast_S144x1024_S1x144x1024_1_2 (res_main_while0b_v115 V0) : (Proc.devRef .tc main_while0b_call7_v0 : DevRef τ sig).ty.Contents (Elt F)) = Cert.ReferenceIdeal.Step.b148 j s := by
  unfold Cert.ReferenceIdeal.Step.b148
  rw [← al_147 h]
  try rfl
set_option maxRecDepth 8192 in
theorem al_149 (h : Holds V0 s j) : (constantI S_ 32 0#32 : (Proc.devRef .tc main_while0b_call7_c : DevRef τ sig).ty.Contents (Elt F)) = Cert.ReferenceIdeal.Step.b149 j s := by
  unfold Cert.ReferenceIdeal.Step.b149
  rfl
set_option maxRecDepth 8192 in
theorem al_150 (h : Holds V0 s j) : (constantI S_ 32 0#32 : (Proc.devRef .tc main_while0b_call7_c_0 : DevRef τ sig).ty.Contents (Elt F)) = Cert.ReferenceIdeal.Step.b150 j s := by
  unfold Cert.ReferenceIdeal.Step.b150
  rfl
set_option maxRecDepth 8192 in
theorem al_151 (h : Holds V0 s j) : (Host.dynamicUpdateSlice (V0 (Proc.devRef .tc main_v6_9)) (broadcastInDim S1x144x1024 ![1, 2] bcast_S144x1024_S1x144x1024_1_2 (res_main_while0b_v115 V0)) (fun k => (((![V0 (Proc.devRef .tc main_v6_7), constantI S_ 32 0#32, constantI S_ 32 0#32] : Fin 3 → (⟨S_, .i32⟩ : BufTy).Contents (Elt F))) k (Shape.Idx.first h_S_)).toInt) updateFits_S14x144x1024_S1x144x1024 : (Proc.devRef .tc main_while0b_v116 : DevRef τ sig).ty.Contents (Elt F)) = Cert.ReferenceIdeal.Step.b151 j s := by
  unfold Cert.ReferenceIdeal.Step.b151
  rw [← al_148 h, ← al_149 h, ← al_150 h, h.f_9, h.n_7]
  try rfl
set_option maxRecDepth 8192 in
theorem al_152 (h : Holds V0 s j) : (broadcastInDim S1x144x2048 ![1, 2] bcast_S144x2048_S1x144x2048_1_2 (res_main_while0b_v84 V0) : (Proc.devRef .tc main_while0b_call8_v0 : DevRef τ sig).ty.Contents (Elt F)) = Cert.ReferenceIdeal.Step.b152 j s := by
  unfold Cert.ReferenceIdeal.Step.b152
  rw [← al_110 h]
  try rfl
set_option maxRecDepth 8192 in
theorem al_153 (h : Holds V0 s j) : (constantI S_ 32 0#32 : (Proc.devRef .tc main_while0b_call8_c : DevRef τ sig).ty.Contents (Elt F)) = Cert.ReferenceIdeal.Step.b153 j s := by
  unfold Cert.ReferenceIdeal.Step.b153
  rfl
set_option maxRecDepth 8192 in
theorem al_154 (h : Holds V0 s j) : (constantI S_ 32 0#32 : (Proc.devRef .tc main_while0b_call8_c_0 : DevRef τ sig).ty.Contents (Elt F)) = Cert.ReferenceIdeal.Step.b154 j s := by
  unfold Cert.ReferenceIdeal.Step.b154
  rfl
set_option maxRecDepth 8192 in
theorem al_155 (h : Holds V0 s j) : (Host.dynamicUpdateSlice (V0 (Proc.devRef .tc main_v6_10)) (broadcastInDim S1x144x2048 ![1, 2] bcast_S144x2048_S1x144x2048_1_2 (res_main_while0b_v84 V0)) (fun k => (((![V0 (Proc.devRef .tc main_v6_7), constantI S_ 32 0#32, constantI S_ 32 0#32] : Fin 3 → (⟨S_, .i32⟩ : BufTy).Contents (Elt F))) k (Shape.Idx.first h_S_)).toInt) updateFits_S14x144x2048_S1x144x2048 : (Proc.devRef .tc main_while0b_v117 : DevRef τ sig).ty.Contents (Elt F)) = Cert.ReferenceIdeal.Step.b155 j s := by
  unfold Cert.ReferenceIdeal.Step.b155
  rw [← al_152 h, ← al_153 h, ← al_154 h, h.f_10, h.n_7]
  try rfl
set_option maxRecDepth 8192 in
theorem al_156 (h : Holds V0 s j) : (broadcastInDim S1x144x2304 ![1, 2] bcast_S144x2304_S1x144x2304_1_2 (extractStridedSlice S144x2304 ![0, 2048] (res_main_while0b_v59 V0) slices_S144x4384_S144x2304_0_2048) : (Proc.devRef .tc main_while0b_call9_v0 : DevRef τ sig).ty.Contents (Elt F)) = Cert.ReferenceIdeal.Step.b156 j s := by
  unfold Cert.ReferenceIdeal.Step.b156
  rw [← al_82 h]
  try rfl
set_option maxRecDepth 8192 in
theorem al_157 (h : Holds V0 s j) : (constantI S_ 32 0#32 : (Proc.devRef .tc main_while0b_call9_c : DevRef τ sig).ty.Contents (Elt F)) = Cert.ReferenceIdeal.Step.b157 j s := by
  unfold Cert.ReferenceIdeal.Step.b157
  rfl
set_option maxRecDepth 8192 in
theorem al_158 (h : Holds V0 s j) : (constantI S_ 32 0#32 : (Proc.devRef .tc main_while0b_call9_c_0 : DevRef τ sig).ty.Contents (Elt F)) = Cert.ReferenceIdeal.Step.b158 j s := by
  unfold Cert.ReferenceIdeal.Step.b158
  rfl
set_option maxRecDepth 8192 in
theorem al_159 (h : Holds V0 s j) : (Host.dynamicUpdateSlice (V0 (Proc.devRef .tc main_v6_11)) (broadcastInDim S1x144x2304 ![1, 2] bcast_S144x2304_S1x144x2304_1_2 (extractStridedSlice S144x2304 ![0, 2048] (res_main_while0b_v59 V0) slices_S144x4384_S144x2304_0_2048)) (fun k => (((![V0 (Proc.devRef .tc main_v6_7), constantI S_ 32 0#32, constantI S_ 32 0#32] : Fin 3 → (⟨S_, .i32⟩ : BufTy).Contents (Elt F))) k (Shape.Idx.first h_S_)).toInt) updateFits_S14x144x2304_S1x144x2304 : (Proc.devRef .tc main_while0b_v118 : DevRef τ sig).ty.Contents (Elt F)) = Cert.ReferenceIdeal.Step.b159 j s := by
  unfold Cert.ReferenceIdeal.Step.b159
  rw [← al_156 h, ← al_157 h, ← al_158 h, h.f_11, h.n_7]
  try rfl
set_option maxRecDepth 8192 in
theorem al_160 (h : Holds V0 s j) : (broadcastInDim S1x144x32 ![1, 2] bcast_S144x32_S1x144x32_1_2 (extractStridedSlice S144x32 ![0, 4352] (res_main_while0b_v59 V0) slices_S144x4384_S144x32_0_4352) : (Proc.devRef .tc main_while0b_call10_v0 : DevRef τ sig).ty.Contents (Elt F)) = Cert.ReferenceIdeal.Step.b160 j s := by
  unfold Cert.ReferenceIdeal.Step.b160
  rw [← al_83 h]
  try rfl
set_option maxRecDepth 8192 in
theorem al_161 (h : Holds V0 s j) : (constantI S_ 32 0#32 : (Proc.devRef .tc main_while0b_call10_c : DevRef τ sig).ty.Contents (Elt F)) = Cert.ReferenceIdeal.Step.b161 j s := by
  unfold Cert.ReferenceIdeal.Step.b161
  rfl
set_option maxRecDepth 8192 in
theorem al_162 (h : Holds V0 s j) : (constantI S_ 32 0#32 : (Proc.devRef .tc main_while0b_call10_c_0 : DevRef τ sig).ty.Contents (Elt F)) = Cert.ReferenceIdeal.Step.b162 j s := by
  unfold Cert.ReferenceIdeal.Step.b162
  rfl
set_option maxRecDepth 8192 in
theorem al_163 (h : Holds V0 s j) : (Host.dynamicUpdateSlice (V0 (Proc.devRef .tc main_v6_12)) (broadcastInDim S1x144x32 ![1, 2] bcast_S144x32_S1x144x32_1_2 (extractStridedSlice S144x32 ![0, 4352] (res_main_while0b_v59 V0) slices_S144x4384_S144x32_0_4352)) (fun k => (((![V0 (Proc.devRef .tc main_v6_7), constantI S_ 32 0#32, constantI S_ 32 0#32] : Fin 3 → (⟨S_, .i32⟩ : BufTy).Contents (Elt F))) k (Shape.Idx.first h_S_)).toInt) updateFits_S14x144x32_S1x144x32 : (Proc.devRef .tc main_while0b_v119 : DevRef τ sig).ty.Contents (Elt F)) = Cert.ReferenceIdeal.Step.b163 j s := by
  unfold Cert.ReferenceIdeal.Step.b163
  rw [← al_160 h, ← al_161 h, ← al_162 h, h.f_12, h.n_7]
  try rfl

/-! One trip's step of the carried values is `step`, field by field; a counter steps to the next number. -/

theorem step_8 (h : Holds V0 s j) : step_main_v6_8 V0 = (step j s).main_v6_8 := by
  unfold step_main_v6_8 Cert.ReferenceIdeal.Step.step
  show id (res_main_while0b_v115 V0) = _
  rw [al_147 h]
  try rfl
theorem step_9 (h : Holds V0 s j) : step_main_v6_9 V0 = (step j s).main_v6_9 := by
  unfold step_main_v6_9 Cert.ReferenceIdeal.Step.step
  show id (Host.dynamicUpdateSlice (V0 (Proc.devRef .tc main_v6_9)) (broadcastInDim S1x144x1024 ![1, 2] bcast_S144x1024_S1x144x1024_1_2 (res_main_while0b_v115 V0)) (fun k => (((![V0 (Proc.devRef .tc main_v6_7), constantI S_ 32 0#32, constantI S_ 32 0#32] : Fin 3 → (⟨S_, .i32⟩ : BufTy).Contents (Elt F))) k (Shape.Idx.first h_S_)).toInt) updateFits_S14x144x1024_S1x144x1024) = _
  exact al_151 h
  try rfl
theorem step_10 (h : Holds V0 s j) : step_main_v6_10 V0 = (step j s).main_v6_10 := by
  unfold step_main_v6_10 Cert.ReferenceIdeal.Step.step
  show id (Host.dynamicUpdateSlice (V0 (Proc.devRef .tc main_v6_10)) (broadcastInDim S1x144x2048 ![1, 2] bcast_S144x2048_S1x144x2048_1_2 (res_main_while0b_v84 V0)) (fun k => (((![V0 (Proc.devRef .tc main_v6_7), constantI S_ 32 0#32, constantI S_ 32 0#32] : Fin 3 → (⟨S_, .i32⟩ : BufTy).Contents (Elt F))) k (Shape.Idx.first h_S_)).toInt) updateFits_S14x144x2048_S1x144x2048) = _
  exact al_155 h
  try rfl
theorem step_11 (h : Holds V0 s j) : step_main_v6_11 V0 = (step j s).main_v6_11 := by
  unfold step_main_v6_11 Cert.ReferenceIdeal.Step.step
  show id (Host.dynamicUpdateSlice (V0 (Proc.devRef .tc main_v6_11)) (broadcastInDim S1x144x2304 ![1, 2] bcast_S144x2304_S1x144x2304_1_2 (extractStridedSlice S144x2304 ![0, 2048] (res_main_while0b_v59 V0) slices_S144x4384_S144x2304_0_2048)) (fun k => (((![V0 (Proc.devRef .tc main_v6_7), constantI S_ 32 0#32, constantI S_ 32 0#32] : Fin 3 → (⟨S_, .i32⟩ : BufTy).Contents (Elt F))) k (Shape.Idx.first h_S_)).toInt) updateFits_S14x144x2304_S1x144x2304) = _
  exact al_159 h
  try rfl
theorem step_12 (h : Holds V0 s j) : step_main_v6_12 V0 = (step j s).main_v6_12 := by
  unfold step_main_v6_12 Cert.ReferenceIdeal.Step.step
  show id (Host.dynamicUpdateSlice (V0 (Proc.devRef .tc main_v6_12)) (broadcastInDim S1x144x32 ![1, 2] bcast_S144x32_S1x144x32_1_2 (extractStridedSlice S144x32 ![0, 4352] (res_main_while0b_v59 V0) slices_S144x4384_S144x32_0_4352)) (fun k => (((![V0 (Proc.devRef .tc main_v6_7), constantI S_ 32 0#32, constantI S_ 32 0#32] : Fin 3 → (⟨S_, .i32⟩ : BufTy).Contents (Elt F))) k (Shape.Idx.first h_S_)).toInt) updateFits_S14x144x32_S1x144x32) = _
  exact al_163 h
  try rfl
theorem step_7 (h : Holds V0 s j) : step_main_v6_7 V0 = constantI S_ 32 (BitVec.ofNat 32 (j + 1)) := by
  unfold step_main_v6_7
  rw [h.n_7]
  funext i
  show BitVec.ofNat 32 j + 1#32 = BitVec.ofNat 32 (j + 1)
  simp only [BitVec.ofNat_add]

/-- One trip keeps the valuation holding: `step` of the state, the same set-up values, the next number. -/
theorem holds_step (h : Holds V0 s j) : Holds (STEP V0) (step j s) (j + 1) where
  f_8 := (STEP_main_v6_8 V0).trans (step_8 h)
  f_9 := (STEP_main_v6_9 V0).trans (step_9 h)
  f_10 := (STEP_main_v6_10 V0).trans (step_10 h)
  f_11 := (STEP_main_v6_11 V0).trans (step_11 h)
  f_12 := (STEP_main_v6_12 V0).trans (step_12 h)
  n_7 := (STEP_main_v6_7 V0).trans (step_7 h)
  f_0 := (STEP_main_v6_0 V0).trans h.f_0
  f_1 := (STEP_main_v6_1 V0).trans h.f_1
  f_2 := (STEP_main_v6_2 V0).trans h.f_2
  f_3 := (STEP_main_v6_3 V0).trans h.f_3
  f_4 := (STEP_main_v6_4 V0).trans h.f_4
  f_5 := (STEP_main_v6_5 V0).trans h.f_5
  f_6 := (STEP_main_v6_6 V0).trans h.f_6

/-- The state the first trip starts from, of the memory the run starts from. -/
abbrev initState (m : (ℓ : Loc nD τ sig) → Buf (Elt F) ℓ) (c : Dev nD) : State F :=
  init (m ((c.tc : Thread nD τ).loc main_arg6)) (m ((c.tc : Thread nD τ).loc main_arg7)) (m ((c.tc : Thread nD τ).loc main_arg8)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg0))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 14 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v6_9) = (it c 14).main_v6_9
      ∧ r.2.mem ((c.tc : Thread nD τ).loc main_v6_10) = (it c 14).main_v6_10
      ∧ r.2.mem ((c.tc : Thread nD τ).loc main_v6_11) = (it c 14).main_v6_11
      ∧ r.2.mem ((c.tc : Thread nD τ).loc main_v6_12) = (it c 14).main_v6_12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c =>
    have hk := holds_iter m c (it c) (h0 c) (hs c) 14
    ⟨(h c).1.trans hk.f_9, (h c).2.1.trans hk.f_10, (h c).2.2.1.trans hk.f_11, (h c).2.2.2.1.trans hk.f_12, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2.1, (h c).2.2.2.2.2.2.2.2.2.2.2.2.2.2.2.2.2.2.2.2.1, (h c).2.2.2.2.2.2.2.2.2.2.2.2.2.2.2.2.2.2.2.2.2⟩) (Value.run m ρ)

end Cert.ReferenceIdeal.StepRun

end
-- ==== Proof.Nibble.lean ====
/- The kernel's arithmetic on packed weights, read at one index over the extended reals: a packed byte's two four-bit
   codes, the group scales laid over the rows, and one product of 512 rows of weights. -/
module

public import proofs.«01_k».proof.Proof.Gen.KernelIdeal.Skeleton
public import Idealize.ShloMosaic.Lib.Pointwise
public import Idealize.ShloMosaic.Lib.BitcastFour
public import Idealize.ShloMosaic.Lib.BitcastPair
public import Idealize.ShloMosaic.Lib.IdealHost

@[expose] public section

set_option maxRecDepth 16384

noncomputable section

open Idealize.ShloMosaic Idealize.ShloMosaic.TcCoe

namespace Cert.KernelIdeal.Nib

open Cert.KernelIdeal Cert.KernelIdeal.Gen

/-- The low code of a packed byte, with its sign, as the reference reads it. -/
def lo (w : BitVec 8) : ℤ := (IntOp.subi (IntOp.xori (IntOp.andi (w.setWidth 32) 15#32) 8#32) 8#32).toInt

/-- The high code of a packed byte, with its sign, as the reference reads it. -/
def hi (w : BitVec 8) : ℤ := (IntOp.subi (IntOp.xori ((w.setWidth 32).sshiftRight 4) 8#32) 8#32).toInt

/-- Sixteen times the low code: the byte moved up by four bits. -/
theorem lo_eq : ∀ w : BitVec 8, ((w <<< 4) &&& 240#8).toInt = 16 * lo w := by
  decide +kernel

/-- Sixteen times the high code: the byte with its low four bits cleared. -/
theorem hi_eq : ∀ w : BitVec 8, (w &&& 240#8).toInt = 16 * hi w := by
  decide +kernel

/-- A word taken apart into four rows of bytes: bit `q` of row `k` is bit `8 (k % 4) + q` of word row `k / 4`. -/
theorem bitcast_32_8 {R r n : Nat} (y : (⟨2, ![r, n]⟩ : Shape).Idx → BitVec 32)
    (h : (⟨2, ![r, n]⟩ : Shape).Bitcasts 32 ⟨2, ![R, n]⟩ 8) (k : Fin R) (c : Fin n) (p : Fin r) (hp : p.val = k.val / 4)
    (q : Nat) (hq : q < 8) :
    (bitcast ⟨2, ![R, n]⟩ 8 y h (ix2 k c)).getLsbD q = (y (ix2 p c)).getLsbD (8 * (k.val % 4) + q) := by
  rw [ix2_eq_valueIdx, ix2_eq_valueIdx, bitcast_getLsbD y h _ q hq (by decide)]
  have hr : (⟨2, ![R, n]⟩ : Shape).row (ValueIdx.ix2 k c) = k.val := rfl
  have e : ((⟨2, ![R, n]⟩ : Shape).row (ValueIdx.ix2 k c) * 8 + q) % 32 = 8 * (k.val % 4) + q := by rw [hr]; omega
  rw [e]
  congr 2
  funext a
  match a with
  | ⟨0, _⟩ => exact Fin.ext ((h.srcIdx_row _ _ _ ⟨0, Nat.zero_lt_two⟩ rfl).trans (by rw [hr, hp]; omega))
  | ⟨1, _⟩ => exact Fin.ext (h.srcIdx_other _ _ _ ⟨1, Nat.one_lt_two⟩ (by show ¬ 1 + 2 = 2; omega))

/-- The mask keeps the high four bits of every byte of a word. -/
theorem mask_bit : ∀ m : Fin 4, ∀ q : Fin 8, (4042322160#32).getLsbD (8 * m.val + q.val) = decide (4 ≤ q.val) := by
  decide +kernel

/-- The same of one byte. -/
theorem mask_bit8 : ∀ q : Fin 8, (240#8).getLsbD q.val = decide (4 ≤ q.val) := by
  decide +kernel

/-- Four rows of bytes as one row of words, masked and taken apart again: each byte masked. -/
theorem unpackHi_bits {R r n : Nat} (v : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (hR : R = 4 * r) (k : Fin R) (c : Fin n) :
    bitcast ⟨2, ![R, n]⟩ 8 (andi (bitcast ⟨2, ![r, n]⟩ 32 v h) (broadcast _ 4042322160#32)) h' (ix2 k c)
      = v (ix2 k c) &&& 240#8 := by
  have hp : k.val / 4 < r := by have := k.isLt; omega
  apply BitVec.eq_of_getLsbD_eq
  intro q hq
  rw [bitcast_32_8 _ h' k c ⟨k.val / 4, hp⟩ rfl q hq]
  show (_ &&& _ : BitVec 32).getLsbD _ = _
  rw [BitVec.getLsbD_and, BitVec.getLsbD_and, mask_bit8 ⟨q, hq⟩, ix2_eq_valueIdx, ix2_eq_valueIdx,
    bitcast_8_32_getLsbD_ix2 v h ⟨k.val / 4, hp⟩ c (8 * (k.val % 4) + q) (by omega) k
      (by show k.val = 4 * (k.val / 4) + (8 * (k.val % 4) + q) / 8; omega)]
  show (_ && (4042322160#32).getLsbD (8 * (⟨k.val % 4, by omega⟩ : Fin 4).val + (⟨q, hq⟩ : Fin 8).val)) = _
  rw [mask_bit, show (8 * (k.val % 4) + q) % 8 = q by omega]

/-- … and with the words first moved up by four bits: each byte moved up and masked, the bits that cross from one byte
    into the next being among those cleared. -/
theorem unpackLo_bits {R r n : Nat} (v : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (hR : R = 4 * r) (k : Fin R) (c : Fin n) :
    bitcast ⟨2, ![R, n]⟩ 8 (andi (shli (bitcast ⟨2, ![r, n]⟩ 32 v h) (broadcast _ 4#32)) (broadcast _ 4042322160#32)) h' (ix2 k c)
      = (v (ix2 k c) <<< 4) &&& 240#8 := by
  have hp : k.val / 4 < r := by have := k.isLt; omega
  apply BitVec.eq_of_getLsbD_eq
  intro q hq
  rw [bitcast_32_8 _ h' k c ⟨k.val / 4, hp⟩ rfl q hq]
  show ((bitcast ⟨2, ![r, n]⟩ 32 v h (ix2 ⟨k.val / 4, hp⟩ c)) <<< 4 &&& _ : BitVec 32).getLsbD _ = _
  rw [BitVec.getLsbD_and, BitVec.getLsbD_and, mask_bit8 ⟨q, hq⟩]
  show (_ && (4042322160#32).getLsbD (8 * (⟨k.val % 4, by omega⟩ : Fin 4).val + (⟨q, hq⟩ : Fin 8).val)) = _
  rw [mask_bit]
  by_cases h4 : 4 ≤ q
  · rw [BitVec.getLsbD_shiftLeft, BitVec.getLsbD_shiftLeft, ix2_eq_valueIdx, ix2_eq_valueIdx,
      bitcast_8_32_getLsbD_ix2 v h ⟨k.val / 4, hp⟩ c (8 * (k.val % 4) + q - 4) (by omega) k
        (by show k.val = 4 * (k.val / 4) + (8 * (k.val % 4) + q - 4) / 8; omega),
      show (8 * (k.val % 4) + q - 4) % 8 = q - 4 by omega]
    simp only [show 8 * (k.val % 4) + q < 32 by omega, show ¬ 8 * (k.val % 4) + q < 4 by omega, hq, show ¬ q < 4 by omega]
  · simp only [h4, decide_false, Bool.and_false]

/-- Four groups of 128 rows of codes, each multiplied by its own row of scales, as the kernel multiplies them. -/
def scaled (w : FVec Ideal S512x256 .bf16) (s : FVec Ideal S4x256 .bf16) : FVec Ideal S512x256 .bf16 :=
  concatenate S512x256 0 [
    ⟨S128x256, mulf (extractStridedSlice S128x256 ![0, 0] w slices_S512x256_o0_0_S128x256)
      (broadcastTo S128x256 (extractStridedSlice S1x256 ![0, 0] s slices_S4x256_o0_0_S1x256) broadcasts_S1x256_S128x256)⟩,
    ⟨S128x256, mulf (extractStridedSlice S128x256 ![128, 0] w slices_S512x256_o128_0_S128x256)
      (broadcastTo S128x256 (extractStridedSlice S1x256 ![1, 0] s slices_S4x256_o1_0_S1x256) broadcasts_S1x256_S128x256)⟩,
    ⟨S128x256, mulf (extractStridedSlice S128x256 ![256, 0] w slices_S512x256_o256_0_S128x256)
      (broadcastTo S128x256 (extractStridedSlice S1x256 ![2, 0] s slices_S4x256_o2_0_S1x256) broadcasts_S1x256_S128x256)⟩,
    ⟨S128x256, mulf (extractStridedSlice S128x256 ![384, 0] w slices_S512x256_o384_0_S128x256)
      (broadcastTo S128x256 (extractStridedSlice S1x256 ![3, 0] s slices_S4x256_o3_0_S1x256) broadcasts_S1x256_S128x256)⟩]
    concatenates_S128x256_S128x256_S128x256_S128x256_S512x256_d0

/-- Row `k` of the scaled codes carries the scale of group `k / 128`. -/
theorem scaled_apply (w : FVec Ideal S512x256 .bf16) (s : FVec Ideal S4x256 .bf16) (k : Fin 512) (c : Fin 256) :
    scaled w s (ix2 k c) = w (ix2 k c) * s (ix2 ⟨k.val / 128, by omega⟩ c) := by
  pointwise [scaled]
  by_cases h1 : k.val < 128
  · rw [dif_pos h1]
    exact congrArg (w (ix2 k c) * s ·) (congrArg (ix2 · c) (Fin.ext (show 0 = k.val / 128 by omega)))
  by_cases h2 : k.val - 128 < 128
  · rw [dif_neg h1, dif_pos h2]
    exact congrArg₂ (w · * s ·) (congrArg (ix2 · c) (Fin.ext (show 128 + (k.val - 128) = k.val by omega)))
      (congrArg (ix2 · c) (Fin.ext (show 1 = k.val / 128 by omega)))
  by_cases h3 : k.val - 128 - 128 < 128
  · rw [dif_neg h1, dif_neg h2, dif_pos h3]
    exact congrArg₂ (w · * s ·) (congrArg (ix2 · c) (Fin.ext (show 256 + (k.val - 128 - 128) = k.val by omega)))
      (congrArg (ix2 · c) (Fin.ext (show 2 = k.val / 128 by omega)))
  · rw [dif_neg h1, dif_neg h2, dif_neg h3]
    exact congrArg₂ (w · * s ·) (congrArg (ix2 · c) (Fin.ext (show 384 + (k.val - 128 - 128 - 128) = k.val by omega)))
      (congrArg (ix2 · c) (Fin.ext (show 3 = k.val / 128 by omega)))

/-- One product of the kernel: 512 columns of the left operand against 512 rows of scaled codes. -/
def hdot (u : FVec Ideal S144x512 .bf16) (w : IVec S512x256 8) (s : FVec Ideal S4x256 .bf16) : FVec Ideal S144x256 .f32 :=
  matmul dot_S144x512_S512x256_S144x256_1_0_0_1_n_n none u (scaled (sitofp .bf16 w) s) (constant S144x256 .f32 0x00000000#32)

theorem hdot_apply (u : FVec Ideal S144x512 .bf16) (w : IVec S512x256 8) (s : FVec Ideal S4x256 .bf16) (r : Fin 144) (c : Fin 256) :
    hdot u w s (ix2 r c)
      = ∑ k : Fin 512, u (ix2 r k) * ((((w (ix2 k c)).toInt : ℝ) : EReal) * s (ix2 ⟨k.val / 128, by omega⟩ c)) := by
  pointwise [hdot, scaled_apply]
  rfl

/-- The low codes of 512 rows of packed bytes, times sixteen, as the kernel takes them out of the words. -/
def codesLo (v : IVec S512x256 8) : IVec S512x256 8 :=
  bitcast S512x256 8 (andi (shli (bitcast S128x256 32 v bitcasts_S512x256_w8_S128x256_w32) (broadcast S128x256 4#32))
    (broadcast S128x256 4042322160#32)) bitcasts_S128x256_w32_S512x256_w8

/-- The high codes. -/
def codesHi (v : IVec S512x256 8) : IVec S512x256 8 :=
  bitcast S512x256 8 (andi (bitcast S128x256 32 v bitcasts_S512x256_w8_S128x256_w32)
    (broadcast S128x256 4042322160#32)) bitcasts_S128x256_w32_S512x256_w8

theorem codesLo_toInt (v : IVec S512x256 8) (k : Fin 512) (c : Fin 256) :
    (codesLo v (ix2 k c)).toInt = 16 * lo (v (ix2 k c)) := by
  rw [← lo_eq]
  exact congrArg BitVec.toInt (unpackLo_bits v _ _ rfl k c)

theorem codesHi_toInt (v : IVec S512x256 8) (k : Fin 512) (c : Fin 256) :
    (codesHi v (ix2 k c)).toInt = 16 * hi (v (ix2 k c)) := by
  rw [← hi_eq]
  exact congrArg BitVec.toInt (unpackHi_bits v _ _ rfl k c)

/-- Sixteen times a code, times a sixteenth of a scale: the code times the scale. -/
theorem sixteen_cancel (n : ℤ) (s : EReal) :
    (((16 * n : ℤ) : ℝ) : EReal) * (s * Ideal.ofBits .bf16 0x3D80#16) = ((n : ℝ) : EReal) * s := by
  rw [Ideal.ofBits_sixteenth_bf16, Int.cast_mul, EReal.coe_mul, mul_comm (((16 : ℤ) : ℝ) : EReal), mul_mul_mul_comm, ← EReal.coe_mul]
  norm_num

/-- A product with the low codes, the scales read as a sixteenth of `S`: the codes times `S`. -/
theorem hdot_lo (u : FVec Ideal S144x512 .bf16) (v : IVec S512x256 8) (s : FVec Ideal S4x256 .bf16) (S : Fin 4 → Fin 256 → EReal)
    (hs : ∀ g c, s (ix2 g c) = S g c * Ideal.ofBits .bf16 0x3D80#16) (r : Fin 144) (c : Fin 256) :
    hdot u (codesLo v) s (ix2 r c)
      = ∑ k : Fin 512, u (ix2 r k) * (((lo (v (ix2 k c)) : ℝ) : EReal) * S ⟨k.val / 128, by omega⟩ c) := by
  rw [hdot_apply]
  exact Finset.sum_congr rfl fun k _ => by rw [codesLo_toInt, hs, sixteen_cancel]

/-- … and with the high codes. -/
theorem hdot_hi (u : FVec Ideal S144x512 .bf16) (v : IVec S512x256 8) (s : FVec Ideal S4x256 .bf16) (S : Fin 4 → Fin 256 → EReal)
    (hs : ∀ g c, s (ix2 g c) = S g c * Ideal.ofBits .bf16 0x3D80#16) (r : Fin 144) (c : Fin 256) :
    hdot u (codesHi v) s (ix2 r c)
      = ∑ k : Fin 512, u (ix2 r k) * (((hi (v (ix2 k c)) : ℝ) : EReal) * S ⟨k.val / 128, by omega⟩ c) := by
  rw [hdot_apply]
  exact Finset.sum_congr rfl fun k _ => by rw [codesHi_toInt, hs, sixteen_cancel]

/-! The same for the last tile of the in-projection, 32 columns wide. -/

/-- Four groups of 128 rows of codes, each multiplied by its own row of scales, as the kernel multiplies them. -/
def scaledN (w : FVec Ideal S512x32 .bf16) (s : FVec Ideal S4x32 .bf16) : FVec Ideal S512x32 .bf16 :=
  concatenate S512x32 0 [
    ⟨S128x32, mulf (extractStridedSlice S128x32 ![0, 0] w slices_S512x32_o0_0_S128x32)
      (broadcastTo S128x32 (extractStridedSlice S1x32 ![0, 0] s slices_S4x32_o0_0_S1x32) broadcasts_S1x32_S128x32)⟩,
    ⟨S128x32, mulf (extractStridedSlice S128x32 ![128, 0] w slices_S512x32_o128_0_S128x32)
      (broadcastTo S128x32 (extractStridedSlice S1x32 ![1, 0] s slices_S4x32_o1_0_S1x32) broadcasts_S1x32_S128x32)⟩,
    ⟨S128x32, mulf (extractStridedSlice S128x32 ![256, 0] w slices_S512x32_o256_0_S128x32)
      (broadcastTo S128x32 (extractStridedSlice S1x32 ![2, 0] s slices_S4x32_o2_0_S1x32) broadcasts_S1x32_S128x32)⟩,
    ⟨S128x32, mulf (extractStridedSlice S128x32 ![384, 0] w slices_S512x32_o384_0_S128x32)
      (broadcastTo S128x32 (extractStridedSlice S1x32 ![3, 0] s slices_S4x32_o3_0_S1x32) broadcasts_S1x32_S128x32)⟩]
    concatenates_S128x32_S128x32_S128x32_S128x32_S512x32_d0

/-- Row `k` of the scaledN codes carries the scale of group `k / 128`. -/
theorem scaledN_apply (w : FVec Ideal S512x32 .bf16) (s : FVec Ideal S4x32 .bf16) (k : Fin 512) (c : Fin 32) :
    scaledN w s (ix2 k c) = w (ix2 k c) * s (ix2 ⟨k.val / 128, by omega⟩ c) := by
  pointwise [scaledN]
  by_cases h1 : k.val < 128
  · rw [dif_pos h1]
    exact congrArg (w (ix2 k c) * s ·) (congrArg (ix2 · c) (Fin.ext (show 0 = k.val / 128 by omega)))
  by_cases h2 : k.val - 128 < 128
  · rw [dif_neg h1, dif_pos h2]
    exact congrArg₂ (w · * s ·) (congrArg (ix2 · c) (Fin.ext (show 128 + (k.val - 128) = k.val by omega)))
      (congrArg (ix2 · c) (Fin.ext (show 1 = k.val / 128 by omega)))
  by_cases h3 : k.val - 128 - 128 < 128
  · rw [dif_neg h1, dif_neg h2, dif_pos h3]
    exact congrArg₂ (w · * s ·) (congrArg (ix2 · c) (Fin.ext (show 256 + (k.val - 128 - 128) = k.val by omega)))
      (congrArg (ix2 · c) (Fin.ext (show 2 = k.val / 128 by omega)))
  · rw [dif_neg h1, dif_neg h2, dif_neg h3]
    exact congrArg₂ (w · * s ·) (congrArg (ix2 · c) (Fin.ext (show 384 + (k.val - 128 - 128 - 128) = k.val by omega)))
      (congrArg (ix2 · c) (Fin.ext (show 3 = k.val / 128 by omega)))

/-- One product of the kernel: 512 columns of the left operand against 512 rows of scaledN codes. -/
def hdotN (u : FVec Ideal S144x512 .bf16) (w : IVec S512x32 8) (s : FVec Ideal S4x32 .bf16) : FVec Ideal S144x32 .f32 :=
  matmul dot_S144x512_S512x32_S144x32_1_0_0_1_n_n none u (scaledN (sitofp .bf16 w) s) (constant S144x32 .f32 0x00000000#32)

theorem hdotN_apply (u : FVec Ideal S144x512 .bf16) (w : IVec S512x32 8) (s : FVec Ideal S4x32 .bf16) (r : Fin 144) (c : Fin 32) :
    hdotN u w s (ix2 r c)
      = ∑ k : Fin 512, u (ix2 r k) * ((((w (ix2 k c)).toInt : ℝ) : EReal) * s (ix2 ⟨k.val / 128, by omega⟩ c)) := by
  pointwise [hdotN, scaledN_apply]
  rfl

/-- The low codes of 512 rows of packed bytes, times sixteen, as the kernel takes them out of the words. -/
def codesLoN (v : IVec S512x32 8) : IVec S512x32 8 :=
  bitcast S512x32 8 (andi (shli (bitcast S128x32 32 v bitcasts_S512x32_w8_S128x32_w32) (broadcast S128x32 4#32))
    (broadcast S128x32 4042322160#32)) bitcasts_S128x32_w32_S512x32_w8

/-- The high codes. -/
def codesHiN (v : IVec S512x32 8) : IVec S512x32 8 :=
  bitcast S512x32 8 (andi (bitcast S128x32 32 v bitcasts_S512x32_w8_S128x32_w32)
    (broadcast S128x32 4042322160#32)) bitcasts_S128x32_w32_S512x32_w8

theorem codesLoN_toInt (v : IVec S512x32 8) (k : Fin 512) (c : Fin 32) :
    (codesLoN v (ix2 k c)).toInt = 16 * lo (v (ix2 k c)) := by
  rw [← lo_eq]
  exact congrArg BitVec.toInt (unpackLo_bits v _ _ rfl k c)

theorem codesHiN_toInt (v : IVec S512x32 8) (k : Fin 512) (c : Fin 32) :
    (codesHiN v (ix2 k c)).toInt = 16 * hi (v (ix2 k c)) := by
  rw [← hi_eq]
  exact congrArg BitVec.toInt (unpackHi_bits v _ _ rfl k c)

/-- A product with the low codes, the scales read as a sixteenth of `S`: the codes times `S`. -/
theorem hdotN_lo (u : FVec Ideal S144x512 .bf16) (v : IVec S512x32 8) (s : FVec Ideal S4x32 .bf16) (S : Fin 4 → Fin 32 → EReal)
    (hs : ∀ g c, s (ix2 g c) = S g c * Ideal.ofBits .bf16 0x3D80#16) (r : Fin 144) (c : Fin 32) :
    hdotN u (codesLoN v) s (ix2 r c)
      = ∑ k : Fin 512, u (ix2 r k) * (((lo (v (ix2 k c)) : ℝ) : EReal) * S ⟨k.val / 128, by omega⟩ c) := by
  rw [hdotN_apply]
  exact Finset.sum_congr rfl fun k _ => by rw [codesLoN_toInt, hs, sixteen_cancel]

/-- … and with the high codes. -/
theorem hdotN_hi (u : FVec Ideal S144x512 .bf16) (v : IVec S512x32 8) (s : FVec Ideal S4x32 .bf16) (S : Fin 4 → Fin 32 → EReal)
    (hs : ∀ g c, s (ix2 g c) = S g c * Ideal.ofBits .bf16 0x3D80#16) (r : Fin 144) (c : Fin 32) :
    hdotN u (codesHiN v) s (ix2 r c)
      = ∑ k : Fin 512, u (ix2 r k) * (((hi (v (ix2 k c)) : ℝ) : EReal) * S ⟨k.val / 128, by omega⟩ c) := by
  rw [hdotN_apply]
  exact Finset.sum_congr rfl fun k _ => by rw [codesHiN_toInt, hs, sixteen_cancel]

end Cert.KernelIdeal.Nib

end
-- ==== Proof.Layer.lean ====
/- One layer of the model's projection phases, as functions of plain indices over the extended reals: the gated
   normalisation, the two products with packed four-bit weights, and the gate. Both programs are read against these. -/
module

public import proofs.«01_k».proof.Proof.Nibble

@[expose] public section

noncomputable section

open Idealize.ShloMosaic

namespace Cert.Layer

open Cert.KernelIdeal.Nib (lo hi)

/-- The constant added to a mean of squares, as both programs print it. -/
def eps : EReal := Ideal.ofBits .f32 0x3727C5AC#32

theorem ofBits_1024 : Ideal.ofBits .f32 0x44800000#32 = ((1024 : ℝ) : EReal) := by
  simp [Ideal.ofBits, Ideal.ieee, -EReal.coe_mul]; norm_num

theorem ofBits_2048 : Ideal.ofBits .f32 0x45000000#32 = ((2048 : ℝ) : EReal) := by
  simp [Ideal.ofBits, Ideal.ieee, -EReal.coe_mul]; norm_num

theorem eps_pos : 0 < eps := by
  have : ∃ r : ℝ, 0 < r ∧ eps = (r : EReal) := by
    refine ⟨_, ?_, by simp [eps, Ideal.ofBits, Ideal.ieee, -EReal.coe_mul]; rfl⟩
    norm_num
  obtain ⟨r, hr, e⟩ := this
  rw [e]
  exact_mod_cast hr

/-- A square is not negative. -/
theorem sq_nonneg (x : EReal) : 0 ≤ x * x := by
  induction x using EReal.rec with
  | bot => simp
  | top => simp
  | coe r => exact_mod_cast mul_self_nonneg r

/-- A mean of squares plus the constant is positive. -/
theorem mean_pos {n : Nat} (x : Fin n → EReal) (d : ℝ) (hd : 0 < d) :
    0 < Ideal.div (∑ j, x j * x j) (d : EReal) + eps := by
  refine lt_of_lt_of_le eps_pos (le_add_of_nonneg_left ?_)
  have hs : 0 ≤ ∑ j, x j * x j := Finset.sum_nonneg fun j _ => sq_nonneg (x j)
  rw [Ideal.div_coe hd.ne']
  exact mul_nonneg hs (by exact_mod_cast (by positivity : (0 : ℝ) ≤ 1 / d))

/-- The product with a reciprocal square root is the quotient by the square root, of a positive number. -/
theorem mul_rsqrt (x a : EReal) (ha : 0 < a) : x * Ideal.rsqrt a = Ideal.div x (Ideal.sqrt a) := by
  induction a using EReal.rec with
  | bot => exact absurd ha (by simp)
  | top =>
    have e1 : Ideal.rsqrt ⊤ = 0 := rfl
    have e2 : Ideal.sqrt ⊤ = ⊤ := rfl
    rw [e1, e2, Ideal.div, if_neg (by simp), EReal.inv_top]
  | coe r =>
    have hr : 0 < r := by exact_mod_cast ha
    have h1 : ¬ r < 0 := not_lt.mpr hr.le
    show x * (if r < 0 then ⊥ else if r = 0 then ⊤ else (((Real.sqrt r)⁻¹ : ℝ) : EReal))
      = Ideal.div x (if r < 0 then ⊥ else ((Real.sqrt r : ℝ) : EReal))
    rw [if_neg h1, if_neg h1, if_neg hr.ne', Ideal.div_coe (Real.sqrt_pos.mpr hr).ne', one_div]

/-- The root-mean-square normalisation of a row, times a gain. -/
def normed {n : Nat} (d : ℝ) (x : Fin 144 → Fin n → EReal) (g : Fin n → EReal) (r : Fin 144) (k : Fin n) : EReal :=
  Ideal.div (x r k) (Ideal.sqrt (Ideal.div (∑ j, x r j * x r j) (d : EReal) + eps)) * g k

/-- The same, written with the reciprocal square root. -/
theorem normed_eq {n : Nat} (d : ℝ) (hd : 0 < d) (x : Fin 144 → Fin n → EReal) (g : Fin n → EReal) (r : Fin 144) (k : Fin n) :
    x r k * Ideal.rsqrt (Ideal.div (∑ j, x r j * x r j) (d : EReal) + eps) * g k = normed d x g r k :=
  congrArg (· * g k) (mul_rsqrt _ _ (mean_pos (x r) d hd))

/-- The in-projection: the first 512 columns of the left operand meet the low codes, the others the high codes, each
    code times the scale of its group of 128 rows. -/
def inProj (u : Fin 144 → Fin 1024 → EReal) (w : Fin 512 → Fin 4384 → BitVec 8) (s : Fin 8 → Fin 4384 → EReal)
    (r : Fin 144) (c : Fin 4384) : EReal :=
  (∑ k : Fin 512, u r ⟨k.val, by omega⟩ * (((lo (w k c) : ℝ) : EReal) * s ⟨k.val / 128, by omega⟩ c))
    + ∑ k : Fin 512, u r ⟨512 + k.val, by omega⟩ * (((hi (w k c) : ℝ) : EReal) * s ⟨4 + k.val / 128, by omega⟩ c)

/-- The out-projection: the low codes give the first 512 columns, the high codes the others. -/
def outProj (m : Fin 144 → Fin 2048 → EReal) (w : Fin 2048 → Fin 512 → BitVec 8) (s : Fin 16 → Fin 1024 → EReal)
    (r : Fin 144) (c : Fin 1024) : EReal :=
  if h : c.val < 512 then
    ∑ k : Fin 2048, m r k * (((lo (w k ⟨c.val, h⟩) : ℝ) : EReal) * s ⟨k.val / 128, by omega⟩ c)
  else
    ∑ k : Fin 2048, m r k * (((hi (w k ⟨c.val - 512, by omega⟩) : ℝ) : EReal) * s ⟨k.val / 128, by omega⟩ c)

/-- The logistic function, as both programs compute it over the extended reals. -/
def sig (z : EReal) : EReal := Ideal.div 1 (1 + Ideal.exp (-z))

/-- The gate: the scan's output times the gate columns times their logistic. -/
def gate (y z : EReal) : EReal := y * z * sig z

/-- What one layer reads of its own: the two gains, the packed weights and scales, and the scan's output. -/
structure Par where
  g1 : Fin 1024 → EReal
  wi : Fin 512 → Fin 4384 → BitVec 8
  si : Fin 8 → Fin 4384 → EReal
  g2 : Fin 2048 → EReal
  wo : Fin 2048 → Fin 512 → BitVec 8
  so : Fin 16 → Fin 1024 → EReal
  y : Fin 144 → Fin 2048 → EReal

/-- The in-projection of the normalised residual. -/
def proj (p : Par) (R : Fin 144 → Fin 1024 → EReal) : Fin 144 → Fin 4384 → EReal :=
  inProj (normed 1024 R p.g1) p.wi p.si

/-- The gated columns. -/
def gated (p : Par) (R : Fin 144 → Fin 1024 → EReal) (r : Fin 144) (k : Fin 2048) : EReal :=
  gate (p.y r k) (proj p R r ⟨k.val, by omega⟩)

/-- The mix: the gated columns, normalised. -/
def mix (p : Par) (R : Fin 144 → Fin 1024 → EReal) : Fin 144 → Fin 2048 → EReal :=
  normed 2048 (gated p R) p.g2

/-- The residual after the layer. -/
def next (p : Par) (R : Fin 144 → Fin 1024 → EReal) (r : Fin 144) (c : Fin 1024) : EReal :=
  R r c + outProj (mix p R) p.wo p.so r c

/-- What layer `n` reads, of the arrays that hold all layers. -/
def parOf (x6 : Vec Ideal ⟨2, ![14, 1024]⟩ .f32) (x7 : Vec Ideal ⟨3, ![14, 512, 4384]⟩ .i8)
    (x8 : Vec Ideal ⟨3, ![14, 8, 4384]⟩ .bf16) (x14 : Vec Ideal ⟨2, ![14, 2048]⟩ .f32)
    (x15 : Vec Ideal ⟨3, ![14, 2048, 512]⟩ .i8) (x16 : Vec Ideal ⟨3, ![14, 16, 1024]⟩ .bf16)
    (x17 : Vec Ideal ⟨3, ![14, 144, 2048]⟩ .f32) (l : Fin 14) : Par where
  g1 k := x6 (ix2 l k)
  wi k c := x7 (ix3 l k c)
  si g c := x8 (ix3 l g c)
  g2 k := x14 (ix2 l k)
  wo k c := x15 (ix3 l k c)
  so g c := x16 (ix3 l g c)
  y r k := x17 (ix3 l r k)

/-- The residual as layer `n` finds it. -/
def resAt (p : Fin 14 → Par) (x : Fin 144 → Fin 1024 → EReal) : ℕ → Fin 144 → Fin 1024 → EReal
  | 0 => x
  | n + 1 => next (p (Fin.ofNat 14 n)) (resAt p x n)

theorem ofNat_val (l : Fin 14) : Fin.ofNat 14 l.val = l := Fin.ext (Nat.mod_eq_of_lt l.isLt)

/-- A sum of 2048 terms, in four runs of 512 added from the left. -/
theorem sum_four (f : Fin 2048 → EReal) :
    (∑ k, f k) = (((∑ k : Fin 512, f ⟨k.val, by omega⟩) + ∑ k : Fin 512, f ⟨512 + k.val, by omega⟩)
      + ∑ k : Fin 512, f ⟨1024 + k.val, by omega⟩) + ∑ k : Fin 512, f ⟨1536 + k.val, by omega⟩ := by
  have h1 := Fin.sum_univ_add (a := 1536) (b := 512) f
  have h2 := Fin.sum_univ_add (a := 1024) (b := 512) fun i : Fin 1536 => f (Fin.castAdd 512 i)
  have h3 := Fin.sum_univ_add (a := 512) (b := 512) fun i : Fin 1024 => f (Fin.castAdd 512 (Fin.castAdd 512 i))
  rw [h1, h2, h3]
  rfl

end Cert.Layer

end
-- ==== Proof.RefStep.lean ====
/- One trip of the reference's loop over the layers, read at an index: the projections, the gate and the two
   normalisations as the functions of `Cert.Layer`. -/
module

public import proofs.«01_k».proof.Proof.Layer
public import proofs.«01_k».proof.Proof.Gen.ReferenceIdeal.Step
public import Idealize.ShloMosaic.Lib.DynamicIndex
public import Idealize.ShloMosaic.Lib.Pointwise
public import Idealize.ShloMosaic.Lib.IdealHost

@[expose] public section

set_option maxRecDepth 16384
set_option maxHeartbeats 1000000

noncomputable section

open Idealize.ShloMosaic Idealize.ShloMosaic.TcCoe

namespace Cert.ReferenceIdeal.RefStep

open Cert.ReferenceIdeal Cert.ReferenceIdeal.Gen Cert.ReferenceIdeal.Step Cert.Layer
open Cert.KernelIdeal.Nib (lo hi)

theorem toInt_trip (j : Fin 14) : (BitVec.ofNat 32 j.val).toInt = (j.val : Int) := by
  revert j; decide

/-- The block of layer `j`, cut from an array of rank 2. -/
theorem cut2 {α : Type} {n : Nat} (x : (⟨2, ![14, n]⟩ : Shape).Idx → α) (start : Fin 2 → Int) (j : Fin 14)
    (h : (⟨2, ![14, n]⟩ : Shape).Slices (fun _ => 0) ⟨2, ![1, n]⟩) (h0 : start 0 = (j.val : Int)) (h1 : start 1 = 0) (k : Fin n) :
    Host.dynamicSlice ⟨2, ![1, n]⟩ x start h (ix2 0 k) = x (ix2 j k) := by
  have hs : (⟨2, ![14, n]⟩ : Shape).Slices ![j.val, 0] ⟨2, ![1, n]⟩ :=
    ⟨rfl, fun a => by
      match a with
      | ⟨0, _⟩ => show j.val + 1 ≤ 14; omega
      | ⟨1, _⟩ => show 0 + n ≤ n; omega⟩
  rw [Host.dynamicSlice_eq_extractStridedSlice ⟨2, ![1, n]⟩ x start ![j.val, 0] h hs (fun a => by
    match a with
    | ⟨0, _⟩ => exact h0
    | ⟨1, _⟩ => exact h1)]
  unfold extractStridedSlice
  congr 1
  funext a
  apply Fin.ext
  match a with
  | ⟨0, _⟩ => show j.val + 0 = j.val; omega
  | ⟨1, _⟩ => show 0 + k.val = k.val; omega

/-- The block of layer `j`, cut from an array of rank 3. -/
theorem cut3 {α : Type} {n p : Nat} (x : (⟨3, ![14, n, p]⟩ : Shape).Idx → α) (start : Fin 3 → Int) (j : Fin 14)
    (h : (⟨3, ![14, n, p]⟩ : Shape).Slices (fun _ => 0) ⟨3, ![1, n, p]⟩) (h0 : start 0 = (j.val : Int)) (h1 : start 1 = 0)
    (h2 : start 2 = 0) (k : Fin n) (q : Fin p) :
    Host.dynamicSlice ⟨3, ![1, n, p]⟩ x start h (ix3 0 k q) = x (ix3 j k q) := by
  have hs : (⟨3, ![14, n, p]⟩ : Shape).Slices ![j.val, 0, 0] ⟨3, ![1, n, p]⟩ :=
    ⟨rfl, fun a => by
      match a with
      | ⟨0, _⟩ => show j.val + 1 ≤ 14; omega
      | ⟨1, _⟩ => show 0 + n ≤ n; omega
      | ⟨2, _⟩ => show 0 + p ≤ p; omega⟩
  rw [Host.dynamicSlice_eq_extractStridedSlice ⟨3, ![1, n, p]⟩ x start ![j.val, 0, 0] h hs (fun a => by
    match a with
    | ⟨0, _⟩ => exact h0
    | ⟨1, _⟩ => exact h1
    | ⟨2, _⟩ => exact h2)]
  unfold extractStridedSlice
  congr 1
  funext a
  apply Fin.ext
  match a with
  | ⟨0, _⟩ => show j.val + 0 = j.val; omega
  | ⟨1, _⟩ => show 0 + k.val = k.val; omega
  | ⟨2, _⟩ => show 0 + q.val = q.val; omega

variable (j : Fin 14) (s : State Ideal)

/-- What trip `j` reads of the arrays that hold all layers. -/
def par : Par where
  g1 k := s.main_v6_0 (ix2 j k)
  wi k c := s.main_v6_1 (ix3 j k c)
  si g c := s.main_v6_2 (ix3 j g c)
  g2 k := s.main_v6_3 (ix2 j k)
  wo k c := s.main_v6_4 (ix3 j k c)
  so g c := s.main_v6_5 (ix3 j g c)
  y r k := s.main_v6_6 (ix3 j r k)

/-- The residual the trip finds. -/
def res (r : Fin 144) (k : Fin 1024) : EReal := s.main_v6_8 (ix2 r k)

theorem b2_apply (k : Fin 1024) : b2 j.val s (ix1 k) = (par j s).g1 k := by
  pointwise [b2]
  unfold b1
  refine cut2 _ _ j _ ?_ ?_ k
  · exact toInt_trip j
  · rfl

theorem b6_apply (k : Fin 512) (c : Fin 4384) : b6 j.val s (ix2 k c) = (par j s).wi k c := by
  pointwise [b6]
  unfold b5
  refine cut3 _ _ j _ ?_ ?_ ?_ k c
  · exact toInt_trip j
  · rfl
  · rfl

theorem b10_apply (k : Fin 8) (c : Fin 4384) : b10 j.val s (ix2 k c) = (par j s).si k c := by
  pointwise [b10]
  unfold b9
  refine cut3 _ _ j _ ?_ ?_ ?_ k c
  · exact toInt_trip j
  · rfl
  · rfl

theorem b13_apply (k : Fin 2048) : b13 j.val s (ix1 k) = (par j s).g2 k := by
  pointwise [b13]
  unfold b12
  refine cut2 _ _ j _ ?_ ?_ k
  · exact toInt_trip j
  · rfl

theorem b17_apply (k : Fin 2048) (c : Fin 512) : b17 j.val s (ix2 k c) = (par j s).wo k c := by
  pointwise [b17]
  unfold b16
  refine cut3 _ _ j _ ?_ ?_ ?_ k c
  · exact toInt_trip j
  · rfl
  · rfl

theorem b21_apply (k : Fin 16) (c : Fin 1024) : b21 j.val s (ix2 k c) = (par j s).so k c := by
  pointwise [b21]
  unfold b20
  refine cut3 _ _ j _ ?_ ?_ ?_ k c
  · exact toInt_trip j
  · rfl
  · rfl

theorem b25_apply (k : Fin 144) (c : Fin 2048) : b25 j.val s (ix2 k c) = (par j s).y k c := by
  pointwise [b25]
  unfold b24
  refine cut3 _ _ j _ ?_ ?_ ?_ k c
  · exact toInt_trip j
  · rfl
  · rfl

/-- The normalised residual. -/
theorem b42_apply (r : Fin 144) (k : Fin 1024) : b42 j.val s (ix2 r k) = normed 1024 (res s) (par j s).g1 r k := by
  pointwise [b42, b41, b40, b39, b38, b37, b36, b35, b34, b33, b32, b31, b30, b29, b28, b27, b26, b2_apply]
  rw [ofBits_1024]
  rfl

/-- The low codes of the in-projection's weights. -/
theorem b62_apply (k : Fin 512) (c : Fin 4384) : b62 j.val s (ix2 k c) = (((lo ((par j s).wi k c) : ℤ) : ℝ) : EReal) := by
  pointwise [b62, b52, b51, b50, b49, b48, b47, b46, b45, b44, b43, b6_apply]
  rfl

theorem b63_apply (k : Fin 512) (c : Fin 4384) : b63 j.val s (ix2 k c) = (((hi ((par j s).wi k c) : ℤ) : ℝ) : EReal) := by
  pointwise [b63, b61, b60, b59, b58, b57, b56, b55, b54, b53, b43, b6_apply]
  rfl

theorem b70_apply (k : Fin 512) (c : Fin 4384) : b70 j.val s (ix2 k c)
    = ((lo ((par j s).wi k c) : ℝ) : EReal) * (par j s).si ⟨k.val / 128, by omega⟩ c := by
  pointwise [b70, b69, b68, b67, b66, b65, b62_apply, b10_apply]

theorem b71_apply (r : Fin 144) (c : Fin 4384) : b71 j.val s (ix2 r c)
    = ∑ k : Fin 512, normed 1024 (res s) (par j s).g1 r ⟨k.val, by omega⟩
        * (((lo ((par j s).wi k c) : ℝ) : EReal) * (par j s).si ⟨k.val / 128, by omega⟩ c) := by
  pointwise [b71, b64, b70_apply, b42_apply]

theorem b78_apply (k : Fin 512) (c : Fin 4384) : b78 j.val s (ix2 k c)
    = ((hi ((par j s).wi k c) : ℝ) : EReal) * (par j s).si ⟨4 + k.val / 128, by omega⟩ c := by
  pointwise [b78, b77, b76, b75, b74, b73, b63_apply, b10_apply]

theorem b79_apply (r : Fin 144) (c : Fin 4384) : b79 j.val s (ix2 r c)
    = ∑ k : Fin 512, normed 1024 (res s) (par j s).g1 r ⟨512 + k.val, by omega⟩
        * (((hi ((par j s).wi k c) : ℝ) : EReal) * (par j s).si ⟨4 + k.val / 128, by omega⟩ c) := by
  pointwise [b79, b72, b78_apply, b42_apply]

/-- The in-projection. -/
theorem b80_apply (r : Fin 144) (c : Fin 4384) : b80 j.val s (ix2 r c) = proj (par j s) (res s) r c := by
  pointwise [b80, b71_apply, b79_apply]
  rfl

/-- The gated columns. -/
theorem b93_apply (r : Fin 144) (c : Fin 2048) : b93 j.val s (ix2 r c) = gated (par j s) (res s) r c := by
  pointwise [b93, b92, b91, b90, b89, b88, b87, b86, b85, b84, b81, b25_apply, b80_apply]
  rfl

/-- The mix. -/
theorem b110_apply (r : Fin 144) (k : Fin 2048) : b110 j.val s (ix2 r k) = mix (par j s) (res s) r k := by
  pointwise [b110, b109, b108, b107, b106, b105, b104, b103, b102, b101, b100, b99, b98, b97, b96, b95, b94, b93_apply, b13_apply]
  rw [ofBits_2048]
  rfl

theorem b130_apply (k : Fin 2048) (c : Fin 512) : b130 j.val s (ix2 k c) = (((lo ((par j s).wo k c) : ℤ) : ℝ) : EReal) := by
  pointwise [b130, b120, b119, b118, b117, b116, b115, b114, b113, b112, b111, b17_apply]
  rfl

theorem b131_apply (k : Fin 2048) (c : Fin 512) : b131 j.val s (ix2 k c) = (((hi ((par j s).wo k c) : ℤ) : ℝ) : EReal) := by
  pointwise [b131, b129, b128, b127, b126, b125, b124, b123, b122, b121, b111, b17_apply]
  rfl

theorem b138_apply (r : Fin 144) (c : Fin 512) : b138 j.val s (ix2 r c)
    = ∑ k : Fin 2048, mix (par j s) (res s) r k
        * (((lo ((par j s).wo k c) : ℝ) : EReal) * (par j s).so ⟨k.val / 128, by omega⟩ ⟨c.val, by omega⟩) := by
  pointwise [b138, b137, b136, b135, b134, b133, b132, b130_apply, b21_apply, b110_apply]

theorem b145_apply (r : Fin 144) (c : Fin 512) : b145 j.val s (ix2 r c)
    = ∑ k : Fin 2048, mix (par j s) (res s) r k
        * (((hi ((par j s).wo k c) : ℝ) : EReal) * (par j s).so ⟨k.val / 128, by omega⟩ ⟨512 + c.val, by omega⟩) := by
  pointwise [b145, b144, b143, b142, b141, b140, b139, b131_apply, b21_apply, b110_apply]

theorem b146_apply (r : Fin 144) (c : Fin 1024) : b146 j.val s (ix2 r c)
    = outProj (mix (par j s) (res s)) (par j s).wo (par j s).so r c := by
  unfold b146 outProj
  by_cases h : c.val < 512
  · rw [dif_pos h]
    refine (concatenate_pair_apply_left (t := S144x1024) (s₁ := S144x512) (s₂ := S144x512) 1 _ _ _ (ix2 r c) rfl (ix2 r ⟨c.val, h⟩) (fun b => ?_)).trans (b138_apply j s r ⟨c.val, h⟩)
    match b with
    | ⟨0, _⟩ => rfl
    | ⟨1, _⟩ => rfl
  · rw [dif_neg h]
    refine (concatenate_pair_apply_right (t := S144x1024) (s₁ := S144x512) (s₂ := S144x512) 1 _ _ _ (ix2 r c) rfl rfl (ix2 r ⟨c.val - 512, by omega⟩) (fun b hb => ?_) ?_).trans ((b145_apply j s r ⟨c.val - 512, by omega⟩).trans ?_)
    · match b with
      | ⟨0, _⟩ => rfl
      | ⟨1, _⟩ => exact absurd rfl hb
    · show c.val - 512 + 512 = c.val
      omega
    · have e : (⟨512 + (c.val - 512), by omega⟩ : Fin 1024) = c := Fin.ext (by show 512 + (c.val - 512) = c.val; omega)
      simp only [e]

/-- The residual the trip hands on. -/
theorem b147_apply (r : Fin 144) (c : Fin 1024) : b147 j.val s (ix2 r c) = next (par j s) (res s) r c := by
  pointwise [b147, b146_apply]
  rfl

/-- Layer `j`'s block of a stacked array, set. -/
theorem put3 {α : Type} {n p : Nat} (x : (⟨3, ![14, n, p]⟩ : Shape).Idx → α) (u : (⟨3, ![1, n, p]⟩ : Shape).Idx → α)
    (start : Fin 3 → Int) (j : Fin 14) (h : (⟨3, ![14, n, p]⟩ : Shape).Slices (fun _ => 0) ⟨3, ![1, n, p]⟩)
    (h0 : start 0 = (j.val : Int)) (h1 : start 1 = 0) (h2 : start 2 = 0) (l : Fin 14) (k : Fin n) (q : Fin p) :
    Host.dynamicUpdateSlice x u start h (ix3 l k q) = if l = j then u (ix3 0 k q) else x (ix3 l k q) := by
  have hs : (⟨3, ![14, n, p]⟩ : Shape).Slices ![j.val, 0, 0] ⟨3, ![1, n, p]⟩ :=
    ⟨rfl, fun a => by
      match a with
      | ⟨0, _⟩ => show j.val + 1 ≤ 14; omega
      | ⟨1, _⟩ => show 0 + n ≤ n; omega
      | ⟨2, _⟩ => show 0 + p ≤ p; omega⟩
  rw [Host.dynamicUpdateSlice_eq_updateSlice x u start h ![j.val, 0, 0] (fun a => by
    match a with
    | ⟨0, _⟩ =>
      show (min (max (start 0) 0) ((14 - 1 : Nat) : Int)).toNat = j.val
      rw [h0]; omega
    | ⟨1, _⟩ =>
      show (min (max (start 1) 0) ((n - n : Nat) : Int)).toNat = 0
      rw [h1]; omega
    | ⟨2, _⟩ =>
      show (min (max (start 2) 0) ((p - p : Nat) : Int)).toNat = 0
      rw [h2]; omega) hs]
  unfold updateSlice
  by_cases e : l = j
  · subst e
    rw [if_pos rfl, dif_pos (fun a => by
      match a with
      | ⟨0, _⟩ => show l.val ≤ l.val ∧ l.val < l.val + 1; omega
      | ⟨1, _⟩ => show 0 ≤ k.val ∧ k.val < 0 + n; omega
      | ⟨2, _⟩ => show 0 ≤ q.val ∧ q.val < 0 + p; omega)]
    congr 1
    funext a
    apply Fin.ext
    match a with
    | ⟨0, _⟩ => show l.val - l.val = 0; omega
    | ⟨1, _⟩ => rfl
    | ⟨2, _⟩ => rfl
  · rw [if_neg e, dif_neg]
    intro H
    have H0 : j.val ≤ l.val ∧ l.val < j.val + 1 := H 0
    exact e (Fin.ext (by omega))

theorem b151_apply (l : Fin 14) (k : Fin 144) (q : Fin 1024) : b151 j.val s (ix3 l k q)
    = if l = j then next (par j s) (res s) k q else s.main_v6_9 (ix3 l k q) := by
  have e : b148 j.val s (ix3 0 k q) = next (par j s) (res s) k q := by pointwise [b148, b147_apply]
  unfold b151
  refine (put3 _ _ _ j _ ?_ ?_ ?_ l k q).trans ?_
  · exact toInt_trip j
  · rfl
  · rfl
  · rw [e]

theorem b155_apply (l : Fin 14) (k : Fin 144) (q : Fin 2048) : b155 j.val s (ix3 l k q)
    = if l = j then mix (par j s) (res s) k q else s.main_v6_10 (ix3 l k q) := by
  have e : b152 j.val s (ix3 0 k q) = mix (par j s) (res s) k q := by pointwise [b152, b110_apply]
  unfold b155
  refine (put3 _ _ _ j _ ?_ ?_ ?_ l k q).trans ?_
  · exact toInt_trip j
  · rfl
  · rfl
  · rw [e]

theorem b159_apply (l : Fin 14) (k : Fin 144) (q : Fin 2304) : b159 j.val s (ix3 l k q)
    = if l = j then proj (par j s) (res s) k ⟨2048 + q.val, by omega⟩ else s.main_v6_11 (ix3 l k q) := by
  have e : b156 j.val s (ix3 0 k q) = proj (par j s) (res s) k ⟨2048 + q.val, by omega⟩ := by pointwise [b156, b82, b80_apply]
  unfold b159
  refine (put3 _ _ _ j _ ?_ ?_ ?_ l k q).trans ?_
  · exact toInt_trip j
  · rfl
  · rfl
  · rw [e]

theorem b163_apply (l : Fin 14) (k : Fin 144) (q : Fin 32) : b163 j.val s (ix3 l k q)
    = if l = j then proj (par j s) (res s) k ⟨4352 + q.val, by omega⟩ else s.main_v6_12 (ix3 l k q) := by
  have e : b160 j.val s (ix3 0 k q) = proj (par j s) (res s) k ⟨4352 + q.val, by omega⟩ := by pointwise [b160, b83, b80_apply]
  unfold b163
  refine (put3 _ _ _ j _ ?_ ?_ ?_ l k q).trans ?_
  · exact toInt_trip j
  · rfl
  · rfl
  · rw [e]

/-- What the loop holds after `n` trips: the layers' parameters as they came, the residual after `n` layers, and the
    first `n` layers' results. -/
structure Inv (p : Fin 14 → Par) (x : Fin 144 → Fin 1024 → EReal) (n : ℕ) (s : State Ideal) : Prop where
  par : ∀ l, par l s = p l
  res : res s = resAt p x n
  r9 : ∀ (l : Fin 14) (k : Fin 144) (q : Fin 1024), l.val < n → s.main_v6_9 (ix3 l k q) = next (p l) (resAt p x l.val) k q
  r10 : ∀ (l : Fin 14) (k : Fin 144) (q : Fin 2048), l.val < n → s.main_v6_10 (ix3 l k q) = mix (p l) (resAt p x l.val) k q
  r11 : ∀ (l : Fin 14) (k : Fin 144) (q : Fin 2304), l.val < n →
    s.main_v6_11 (ix3 l k q) = proj (p l) (resAt p x l.val) k ⟨2048 + q.val, by omega⟩
  r12 : ∀ (l : Fin 14) (k : Fin 144) (q : Fin 32), l.val < n →
    s.main_v6_12 (ix3 l k q) = proj (p l) (resAt p x l.val) k ⟨4352 + q.val, by omega⟩

theorem inv_step (p : Fin 14 → Par) (x : Fin 144 → Fin 1024 → EReal) (j : Fin 14) (s : State Ideal) (h : Inv p x j.val s) :
    Inv p x (j.val + 1) (step j.val s) where
  par l := (show RefStep.par l (step j.val s) = RefStep.par l s from rfl).trans (h.par l)
  res := by
    funext r k
    refine (b147_apply j s r k).trans ?_
    rw [h.par, h.res]
    show _ = next (p (Fin.ofNat 14 j.val)) _ r k
    rw [ofNat_val]
  r9 l k q hl := by
    refine (b151_apply j s l k q).trans ?_
    by_cases e : l = j
    · rw [if_pos e, h.par, h.res, e]
    · rw [if_neg e]; exact h.r9 l k q (by have : l.val ≠ j.val := fun h => e (Fin.ext h); omega)
  r10 l k q hl := by
    refine (b155_apply j s l k q).trans ?_
    by_cases e : l = j
    · rw [if_pos e, h.par, h.res, e]
    · rw [if_neg e]; exact h.r10 l k q (by have : l.val ≠ j.val := fun h => e (Fin.ext h); omega)
  r11 l k q hl := by
    refine (b159_apply j s l k q).trans ?_
    by_cases e : l = j
    · rw [if_pos e, h.par, h.res, e]
    · rw [if_neg e]; exact h.r11 l k q (by have : l.val ≠ j.val := fun h => e (Fin.ext h); omega)
  r12 l k q hl := by
    refine (b163_apply j s l k q).trans ?_
    by_cases e : l = j
    · rw [if_pos e, h.par, h.res, e]
    · rw [if_neg e]; exact h.r12 l k q (by have : l.val ≠ j.val := fun h => e (Fin.ext h); omega)

/-- After `n` trips from a state that holds the parameters and the input. -/
theorem inv_of (it : ℕ → State Ideal) (hs : ∀ n, it (n + 1) = step n (it n)) (p : Fin 14 → Par) (x : Fin 144 → Fin 1024 → EReal)
    (hp : ∀ l, par l (it 0) = p l) (hx : res (it 0) = x) : ∀ n, n ≤ 14 → Inv p x n (it n)
  | 0, _ => ⟨hp, hx, fun _ _ _ h => absurd h (Nat.not_lt_zero _), fun _ _ _ h => absurd h (Nat.not_lt_zero _),
      fun _ _ _ h => absurd h (Nat.not_lt_zero _), fun _ _ _ h => absurd h (Nat.not_lt_zero _)⟩
  | n + 1, hn => by
    rw [hs]
    exact inv_step p x ⟨n, hn⟩ (it n) (inv_of it hs p x hp hx n (Nat.le_of_succ_le hn))

end Cert.ReferenceIdeal.RefStep

end
-- ==== Proof.Tiles.lean ====
/- The kernel's tiles: what one tile of the in-projection and one tile of the out-projection hold, for any column the
   tile starts at. -/
module

public import proofs.«01_k».proof.Proof.Layer

@[expose] public section

set_option maxRecDepth 16384

noncomputable section

open Idealize.ShloMosaic Idealize.ShloMosaic.TcCoe

namespace Cert.KernelIdeal.Tiles

open Cert.KernelIdeal Cert.KernelIdeal.Gen Cert.KernelIdeal.Nib Cert.Layer

/-- A tile of 256 columns of the in-projection, from column `c0`, as the kernel computes it. -/
def inTile (u0 u1 : FVec Ideal S144x512 .bf16) (V : Vec Ideal S1x512x256 .i8) (s8 : Vec Ideal S1x8x4384 .bf16) (c0 : Nat)
    (h0 : S8x4384.Slices ![0, c0] S4x256) (h4 : S8x4384.Slices ![4, c0] S4x256) : FVec Ideal S144x256 .f32 :=
  addf (hdot u0 (codesLo (shapeCast S512x256 V shapeCasts_S1x512x256_S512x256)) (extractStridedSlice S4x256 ![0, c0] (k0_pay6 s8) h0))
    (hdot u1 (codesHi (shapeCast S512x256 V shapeCasts_S1x512x256_S512x256)) (extractStridedSlice S4x256 ![4, c0] (k0_pay6 s8) h4))

theorem scales_apply (s8 : Vec Ideal S1x8x4384 .bf16) (g : Fin 8) (c : Fin 4384) :
    k0_pay6 (F := Ideal) s8 (ix2 g c) = s8 (ix3 0 g c) * Ideal.ofBits .bf16 0x3D80#16 := by
  pointwise [k0_pay6]

theorem inTile_apply (u0 u1 : FVec Ideal S144x512 .bf16) (V : Vec Ideal S1x512x256 .i8) (s8 : Vec Ideal S1x8x4384 .bf16) (c0 : Nat)
    (hc : c0 + 256 ≤ 4384) (h0 : S8x4384.Slices ![0, c0] S4x256) (h4 : S8x4384.Slices ![4, c0] S4x256)
    (U : Fin 144 → Fin 1024 → EReal) (w : Fin 512 → Fin 4384 → BitVec 8) (s : Fin 8 → Fin 4384 → EReal)
    (hu0 : ∀ (r : Fin 144) (k : Fin 512), u0 (ix2 r k) = U r ⟨k.val, by omega⟩)
    (hu1 : ∀ (r : Fin 144) (k : Fin 512), u1 (ix2 r k) = U r ⟨512 + k.val, by omega⟩)
    (hV : ∀ (k : Fin 512) (c : Fin 256), V (ix3 0 k c) = w k ⟨c0 + c.val, by omega⟩)
    (hs : ∀ (g : Fin 8) (c : Fin 4384), s8 (ix3 0 g c) = s g c) (r : Fin 144) (c : Fin 256) :
    inTile u0 u1 V s8 c0 h0 h4 (ix2 r c) = inProj U w s r ⟨c0 + c.val, by omega⟩ := by
  have hv : ∀ (k : Fin 512) (c : Fin 256), shapeCast S512x256 V shapeCasts_S1x512x256_S512x256 (ix2 k c) = w k ⟨c0 + c.val, by omega⟩ := by
    intro k c
    rw [← hV]
    pointwise
  show hdot _ _ _ _ + hdot _ _ _ _ = _
  rw [hdot_lo _ _ _ (fun g c => s ⟨g.val, by omega⟩ ⟨c0 + c.val, by omega⟩) ?_ r c,
    hdot_hi _ _ _ (fun g c => s ⟨4 + g.val, by omega⟩ ⟨c0 + c.val, by omega⟩) ?_ r c]
  · exact congrArg₂ (· + ·) (Finset.sum_congr rfl fun k _ => by rw [hu0, hv]) (Finset.sum_congr rfl fun k _ => by rw [hu1, hv])
  · intro g c
    rw [← hs, ← scales_apply]
    exact congrArg (k0_pay6 s8) (funext fun a => by match a with | ⟨0, _⟩ => rfl | ⟨1, _⟩ => rfl)
  · intro g c
    rw [← hs, ← scales_apply]
    exact congrArg (k0_pay6 s8) (funext fun a => by
      match a with | ⟨0, _⟩ => exact Fin.ext (Nat.zero_add _) | ⟨1, _⟩ => rfl)

/-- The last tile of the in-projection, 32 columns from column 4352. -/
def inTileN (u0 u1 : FVec Ideal S144x512 .bf16) (V : Vec Ideal S1x512x32 .i8) (s8 : Vec Ideal S1x8x4384 .bf16) : FVec Ideal S144x32 .f32 :=
  addf (hdotN u0 (codesLoN (shapeCast S512x32 V shapeCasts_S1x512x32_S512x32)) (extractStridedSlice S4x32 ![0, 4352] (k0_pay6 s8) slices_S8x4384_o0_4352_S4x32))
    (hdotN u1 (codesHiN (shapeCast S512x32 V shapeCasts_S1x512x32_S512x32)) (extractStridedSlice S4x32 ![4, 4352] (k0_pay6 s8) slices_S8x4384_o4_4352_S4x32))

theorem inTileN_apply (u0 u1 : FVec Ideal S144x512 .bf16) (V : Vec Ideal S1x512x32 .i8) (s8 : Vec Ideal S1x8x4384 .bf16)
    (U : Fin 144 → Fin 1024 → EReal) (w : Fin 512 → Fin 4384 → BitVec 8) (s : Fin 8 → Fin 4384 → EReal)
    (hu0 : ∀ (r : Fin 144) (k : Fin 512), u0 (ix2 r k) = U r ⟨k.val, by omega⟩)
    (hu1 : ∀ (r : Fin 144) (k : Fin 512), u1 (ix2 r k) = U r ⟨512 + k.val, by omega⟩)
    (hV : ∀ (k : Fin 512) (c : Fin 32), V (ix3 0 k c) = w k ⟨4352 + c.val, by omega⟩)
    (hs : ∀ (g : Fin 8) (c : Fin 4384), s8 (ix3 0 g c) = s g c) (r : Fin 144) (c : Fin 32) :
    inTileN u0 u1 V s8 (ix2 r c) = inProj U w s r ⟨4352 + c.val, by omega⟩ := by
  have hv : ∀ (k : Fin 512) (c : Fin 32), shapeCast S512x32 V shapeCasts_S1x512x32_S512x32 (ix2 k c) = w k ⟨4352 + c.val, by omega⟩ := by
    intro k c
    rw [← hV]
    pointwise
  show hdotN _ _ _ _ + hdotN _ _ _ _ = _
  rw [hdotN_lo _ _ _ (fun g c => s ⟨g.val, by omega⟩ ⟨4352 + c.val, by omega⟩) ?_ r c,
    hdotN_hi _ _ _ (fun g c => s ⟨4 + g.val, by omega⟩ ⟨4352 + c.val, by omega⟩) ?_ r c]
  · exact congrArg₂ (· + ·) (Finset.sum_congr rfl fun k _ => by rw [hu0, hv]) (Finset.sum_congr rfl fun k _ => by rw [hu1, hv])
  · intro g c
    rw [← hs, ← scales_apply]
    exact congrArg (k0_pay6 s8) (funext fun a => by match a with | ⟨0, _⟩ => rfl | ⟨1, _⟩ => rfl)
  · intro g c
    rw [← hs, ← scales_apply]
    exact congrArg (k0_pay6 s8) (funext fun a => by
      match a with | ⟨0, _⟩ => exact Fin.ext (Nat.zero_add _) | ⟨1, _⟩ => rfl)

/-- The first product's left operand: the normalised residual, as the kernel computes it. -/
theorem pay5_apply (R : Vec Ideal S144x1024 .f32) (g : Vec Ideal S1x1024 .f32) (r : Fin 144) (k : Fin 1024) :
    k0_pay5 (F := Ideal) R g (ix2 r k) = normed 1024 (fun r k => R (ix2 r k)) (fun k => g (ix2 0 k)) r k := by
  rw [← normed_eq 1024 (by norm_num), ← ofBits_1024]
  pointwise [k0_pay5]
  rfl

/-- The out-projection's scales, each a sixteenth. -/
theorem scalesOut_apply (s16 : Vec Ideal S1x16x1024 .bf16) (g : Fin 16) (c : Fin 1024) :
    k0_pay312 (F := Ideal) s16 (ix2 g c) = s16 (ix3 0 g c) * Ideal.ofBits .bf16 0x3D80#16 := by
  pointwise [k0_pay312]

/-- One product of the out-projection: 512 columns of the mix against one slab of codes, its scales at column `c0` of
    the rows from `g0`. -/
def outDot (codes : IVec S512x256 8 → IVec S512x256 8) (m : Vec Ideal S1x144x512 .bf16) (V : Vec Ideal S1x512x256 .i8)
    (s16 : Vec Ideal S1x16x1024 .bf16) (g0 c0 : Nat) (h : S16x1024.Slices ![g0, c0] S4x256) : FVec Ideal S144x256 .f32 :=
  hdot (shapeCast S144x512 m shapeCasts_S1x144x512_S144x512) (codes (shapeCast S512x256 V shapeCasts_S1x512x256_S512x256))
    (extractStridedSlice S4x256 ![g0, c0] (k0_pay312 s16) h)

/-- Its value with the low codes. -/
theorem outDot_lo (m : Vec Ideal S1x144x512 .bf16) (V : Vec Ideal S1x512x256 .i8)
    (s16 : Vec Ideal S1x16x1024 .bf16) (g0 c0 : Nat) (hg : g0 + 4 ≤ 16) (hc : c0 + 256 ≤ 1024)
    (h : S16x1024.Slices ![g0, c0] S4x256) (M : Fin 144 → Fin 512 → EReal) (w : Fin 512 → Fin 256 → BitVec 8)
    (s : Fin 16 → Fin 1024 → EReal)
    (hm : ∀ (r : Fin 144) (k : Fin 512), m (ix3 0 r k) = M r k) (hV : ∀ (k : Fin 512) (c : Fin 256), V (ix3 0 k c) = w k c)
    (hs : ∀ (g : Fin 16) (c : Fin 1024), s16 (ix3 0 g c) = s g c) (r : Fin 144) (c : Fin 256) :
    outDot codesLo m V s16 g0 c0 h (ix2 r c)
      = ∑ k : Fin 512, M r k * (((lo (w k c) : ℝ) : EReal) * s ⟨g0 + k.val / 128, by omega⟩ ⟨c0 + c.val, by omega⟩) := by
  have hv : ∀ (k : Fin 512) (c : Fin 256), shapeCast S512x256 V shapeCasts_S1x512x256_S512x256 (ix2 k c) = w k c := by
    intro k c
    rw [← hV]
    pointwise
  have hm' : ∀ (r : Fin 144) (k : Fin 512), shapeCast S144x512 m shapeCasts_S1x144x512_S144x512 (ix2 r k) = M r k := by
    intro r k
    rw [← hm]
    pointwise
  rw [outDot, hdot_lo _ _ _ (fun g c => s ⟨g0 + g.val, by omega⟩ ⟨c0 + c.val, by omega⟩) ?_ r c]
  · exact Finset.sum_congr rfl fun k _ => by rw [hm', hv]
  · intro g c
    rw [← hs, ← scalesOut_apply]
    exact congrArg (k0_pay312 s16) (funext fun a => by match a with | ⟨0, _⟩ => rfl | ⟨1, _⟩ => rfl)

/-- … and with the high codes. -/
theorem outDot_hi (m : Vec Ideal S1x144x512 .bf16) (V : Vec Ideal S1x512x256 .i8)
    (s16 : Vec Ideal S1x16x1024 .bf16) (g0 c0 : Nat) (hg : g0 + 4 ≤ 16) (hc : c0 + 256 ≤ 1024)
    (h : S16x1024.Slices ![g0, c0] S4x256) (M : Fin 144 → Fin 512 → EReal) (w : Fin 512 → Fin 256 → BitVec 8)
    (s : Fin 16 → Fin 1024 → EReal)
    (hm : ∀ (r : Fin 144) (k : Fin 512), m (ix3 0 r k) = M r k) (hV : ∀ (k : Fin 512) (c : Fin 256), V (ix3 0 k c) = w k c)
    (hs : ∀ (g : Fin 16) (c : Fin 1024), s16 (ix3 0 g c) = s g c) (r : Fin 144) (c : Fin 256) :
    outDot codesHi m V s16 g0 c0 h (ix2 r c)
      = ∑ k : Fin 512, M r k * (((hi (w k c) : ℝ) : EReal) * s ⟨g0 + k.val / 128, by omega⟩ ⟨c0 + c.val, by omega⟩) := by
  have hv : ∀ (k : Fin 512) (c : Fin 256), shapeCast S512x256 V shapeCasts_S1x512x256_S512x256 (ix2 k c) = w k c := by
    intro k c
    rw [← hV]
    pointwise
  have hm' : ∀ (r : Fin 144) (k : Fin 512), shapeCast S144x512 m shapeCasts_S1x144x512_S144x512 (ix2 r k) = M r k := by
    intro r k
    rw [← hm]
    pointwise
  rw [outDot, hdot_hi _ _ _ (fun g c => s ⟨g0 + g.val, by omega⟩ ⟨c0 + c.val, by omega⟩) ?_ r c]
  · exact Finset.sum_congr rfl fun k _ => by rw [hm', hv]
  · intro g c
    rw [← hs, ← scalesOut_apply]
    exact congrArg (k0_pay312 s16) (funext fun a => by match a with | ⟨0, _⟩ => rfl | ⟨1, _⟩ => rfl)

/-- A tile of the out-projection: the residual's tile plus four products, of the four runs of 512 columns of the mix. -/
def outTile (codes : IVec S512x256 8 → IVec S512x256 8) (R : FVec Ideal S144x256 .f32) (m : Fin 4 → Vec Ideal S1x144x512 .bf16)
    (V : Fin 4 → Vec Ideal S1x512x256 .i8) (s16 : Vec Ideal S1x16x1024 .bf16) (c0 : Nat)
    (h0 : S16x1024.Slices ![0, c0] S4x256) (h4 : S16x1024.Slices ![4, c0] S4x256)
    (h8 : S16x1024.Slices ![8, c0] S4x256) (h12 : S16x1024.Slices ![12, c0] S4x256) : FVec Ideal S144x256 .f32 :=
  addf R (addf (addf (addf (outDot codes (m 0) (V 0) s16 0 c0 h0) (outDot codes (m 1) (V 1) s16 4 c0 h4))
    (outDot codes (m 2) (V 2) s16 8 c0 h8)) (outDot codes (m 3) (V 3) s16 12 c0 h12))

/-- One term of a product, its indices written in two ways. -/
theorem term_eq (M : Fin 2048 → EReal) (code : BitVec 8 → EReal) (w : Fin 2048 → Fin 512 → BitVec 8) (s : Fin 16 → EReal)
    {a b : Fin 2048} {g g' : Fin 16} {c c' : Fin 512} (ha : a.val = b.val) (hg : g.val = g'.val) (hc : c.val = c'.val) :
    M a * (code (w a c) * s g) = M b * (code (w b c') * s g') := by
  obtain rfl := Fin.ext ha
  obtain rfl := Fin.ext hg
  obtain rfl := Fin.ext hc
  rfl

/-- A low tile holds the residual plus the out-projection, at its columns. -/
theorem outTile_lo (R : FVec Ideal S144x256 .f32) (m : Fin 4 → Vec Ideal S1x144x512 .bf16)
    (V : Fin 4 → Vec Ideal S1x512x256 .i8) (s16 : Vec Ideal S1x16x1024 .bf16) (c0 : Nat) (hc : c0 + 256 ≤ 512)
    (h0 : S16x1024.Slices ![0, c0] S4x256) (h4 : S16x1024.Slices ![4, c0] S4x256)
    (h8 : S16x1024.Slices ![8, c0] S4x256) (h12 : S16x1024.Slices ![12, c0] S4x256)
    (M : Fin 144 → Fin 2048 → EReal) (w : Fin 2048 → Fin 512 → BitVec 8) (s : Fin 16 → Fin 1024 → EReal)
    (hm : ∀ (q : Fin 4) (r : Fin 144) (k : Fin 512), m q (ix3 0 r k) = M r ⟨512 * q.val + k.val, by omega⟩)
    (hV : ∀ (q : Fin 4) (k : Fin 512) (c : Fin 256), V q (ix3 0 k c) = w ⟨512 * q.val + k.val, by omega⟩ ⟨c0 + c.val, by omega⟩)
    (hs : ∀ (g : Fin 16) (c : Fin 1024), s16 (ix3 0 g c) = s g c) (r : Fin 144) (c : Fin 256) :
    outTile codesLo R m V s16 c0 h0 h4 h8 h12 (ix2 r c) = R (ix2 r c) + outProj M w s r ⟨c0 + c.val, by omega⟩ := by
  rw [outProj, dif_pos (show c0 + c.val < 512 by omega), sum_four]
  show R (ix2 r c) + (((_ + _) + _) + _) = _
  rw [outDot_lo _ _ _ _ _ (by omega) (by omega) _ _ _ _ (hm 0) (hV 0) hs, outDot_lo _ _ _ _ _ (by omega) (by omega) _ _ _ _ (hm 1) (hV 1) hs,
    outDot_lo _ _ _ _ _ (by omega) (by omega) _ _ _ _ (hm 2) (hV 2) hs, outDot_lo _ _ _ _ _ (by omega) (by omega) _ _ _ _ (hm 3) (hV 3) hs]
  refine congrArg (R (ix2 r c) + ·) (congrArg₂ (· + ·) (congrArg₂ (· + ·) (congrArg₂ (· + ·) ?_ ?_) ?_) ?_)
  all_goals
    refine Finset.sum_congr rfl fun k _ => ?_
    have v0 : (0 : Fin 4).val = 0 := rfl
    have v1 : (1 : Fin 4).val = 1 := rfl
    have v2 : (2 : Fin 4).val = 2 := rfl
    have v3 : (3 : Fin 4).val = 3 := rfl
    exact term_eq (M r) (fun b => ((lo b : ℝ) : EReal)) w (s · _) (by dsimp only <;> omega) (by dsimp only <;> omega) (by dsimp only <;> omega)

/-- A high tile likewise, at the columns from 512. -/
theorem outTile_hi (R : FVec Ideal S144x256 .f32) (m : Fin 4 → Vec Ideal S1x144x512 .bf16)
    (V : Fin 4 → Vec Ideal S1x512x256 .i8) (s16 : Vec Ideal S1x16x1024 .bf16) (c0 : Nat) (hc : c0 + 256 ≤ 512)
    (h0 : S16x1024.Slices ![0, 512 + c0] S4x256) (h4 : S16x1024.Slices ![4, 512 + c0] S4x256)
    (h8 : S16x1024.Slices ![8, 512 + c0] S4x256) (h12 : S16x1024.Slices ![12, 512 + c0] S4x256)
    (M : Fin 144 → Fin 2048 → EReal) (w : Fin 2048 → Fin 512 → BitVec 8) (s : Fin 16 → Fin 1024 → EReal)
    (hm : ∀ (q : Fin 4) (r : Fin 144) (k : Fin 512), m q (ix3 0 r k) = M r ⟨512 * q.val + k.val, by omega⟩)
    (hV : ∀ (q : Fin 4) (k : Fin 512) (c : Fin 256), V q (ix3 0 k c) = w ⟨512 * q.val + k.val, by omega⟩ ⟨c0 + c.val, by omega⟩)
    (hs : ∀ (g : Fin 16) (c : Fin 1024), s16 (ix3 0 g c) = s g c) (r : Fin 144) (c : Fin 256) :
    outTile codesHi R m V s16 (512 + c0) h0 h4 h8 h12 (ix2 r c) = R (ix2 r c) + outProj M w s r ⟨512 + c0 + c.val, by omega⟩ := by
  rw [outProj, dif_neg (show ¬ 512 + c0 + c.val < 512 by omega), sum_four]
  show R (ix2 r c) + (((_ + _) + _) + _) = _
  rw [outDot_hi _ _ _ _ _ (by omega) (by omega) _ _ _ _ (hm 0) (hV 0) hs, outDot_hi _ _ _ _ _ (by omega) (by omega) _ _ _ _ (hm 1) (hV 1) hs,
    outDot_hi _ _ _ _ _ (by omega) (by omega) _ _ _ _ (hm 2) (hV 2) hs, outDot_hi _ _ _ _ _ (by omega) (by omega) _ _ _ _ (hm 3) (hV 3) hs]
  refine congrArg (R (ix2 r c) + ·) (congrArg₂ (· + ·) (congrArg₂ (· + ·) (congrArg₂ (· + ·) ?_ ?_) ?_) ?_)
  all_goals
    refine Finset.sum_congr rfl fun k _ => ?_
    have v0 : (0 : Fin 4).val = 0 := rfl
    have v1 : (1 : Fin 4).val = 1 := rfl
    have v2 : (2 : Fin 4).val = 2 := rfl
    have v3 : (3 : Fin 4).val = 3 := rfl
    exact term_eq (M r) (fun b => ((hi b : ℝ) : EReal)) w (s · _) (by dsimp only <;> omega) (by dsimp only <;> omega) (by dsimp only <;> omega)

/-- The gate, as the kernel computes it on one tile. -/
theorem gate_apply (y z : EReal) :
    y * z * Ideal.div (Ideal.ofBits .f32 0x3F800000#32) (Ideal.ofBits .f32 0x3F800000#32 + Ideal.exp (Ideal.ofBits .f32 0x00000000#32 - z))
      = gate y z := by
  rw [Ideal.ofBits_one_f32, Ideal.ofBits_zero_f32, zero_sub]
  rfl

theorem gateTile_apply (y : Vec Ideal S1x24x256 .f32) (z : Vec Ideal S24x256 .f32) (r : Fin 24) (c : Fin 256) :
    k0_pay237 (F := Ideal) y z (ix2 r c) = gate (y (ix3 0 r c)) (z (ix2 r c)) := by
  rw [← gate_apply]
  pointwise [k0_pay237]

/-- The mix, as the kernel computes it of the gated columns. -/
theorem mixTile_apply (G : Vec Ideal S144x2048 .f32) (g : Vec Ideal S1x2048 .f32) (r : Fin 144) (k : Fin 2048) :
    k0_pay311 (F := Ideal) G (k0_pay310 G) g (ix3 0 r k) = normed 2048 (fun r k => G (ix2 r k)) (fun k => g (ix2 0 k)) r k := by
  rw [← normed_eq 2048 (by norm_num), ← ofBits_2048]
  pointwise [k0_pay311, k0_pay310]
  rfl

end Cert.KernelIdeal.Tiles

end
-- ==== Proof.Loads.lean ====
/- The kernel's loads, read at one index. -/
module

public import proofs.«01_k».proof.Proof.Tiles
public import proofs.«01_k».proof.Proof.Gen.KernelIdeal.Frame
public import Idealize.ShloMosaic.Lib.Pipeline.ReadBack
public import Idealize.ShloMosaic.Lib.Pipeline.Value

@[expose] public section

set_option maxRecDepth 16384

noncomputable section

open Idealize.ShloMosaic Idealize.ShloMosaic.TcCoe

namespace Cert.KernelIdeal.Loads

open Cert.KernelIdeal Cert.KernelIdeal.Gen Cert.KernelIdeal.Nib Cert.KernelIdeal.Tiles Cert.Layer

/-- What a grid point reads of its own layer, from its blocks and the rows of the two gains it takes. -/
def blkPar (l : Fin 14) (x6 : Vec Ideal S14x1024 .f32) (x7 : Vec Ideal S1x512x4384 .i8) (x8 : Vec Ideal S1x8x4384 .bf16)
    (x14 : Vec Ideal S14x2048 .f32) (x15 : Vec Ideal S1x2048x512 .i8) (x16 : Vec Ideal S1x16x1024 .bf16)
    (x17 : Vec Ideal S1x144x2048 .f32) : Par where
  g1 k := x6 (ix2 l k)
  wi k c := x7 (ix3 0 k c)
  si g c := x8 (ix3 0 g c)
  g2 k := x14 (ix2 l k)
  wo k c := x15 (ix3 0 k c)
  so g c := x16 (ix3 0 g c)
  y r k := x17 (ix3 0 r k)

/-- A rank-2 load at a literal offset, at an index. -/
theorem ld2 {e : EltTy} {n0 n1 m0 m1 : Nat} (X : Vec Ideal ⟨2, ![n0, n1]⟩ e) (o0 o1 : Nat) (inb : ∀ a, ![o0, o1] a + ![m0, m1] a ≤ (⟨2, ![n0, n1]⟩ : Shape).size a)
    (r : Fin m0) (c : Fin m1) (r' : Fin n0) (c' : Fin n1) (hr : r'.val = o0 + r.val) (hc : c'.val = o1 + c.val) :
    View.ld (Val := Elt Ideal) X (Rect.unit ![o0, o1] ![m0, m1] inb) (ix2 r c) = X (ix2 r' c') :=
  congrArg X (funext fun a => by
    match a with
    | ⟨0, _⟩ => exact Fin.ext (by show o0 + 1 * r.val = r'.val; omega)
    | ⟨1, _⟩ => exact Fin.ext (by show o1 + 1 * c.val = c'.val; omega))

/-- A rank-3 load at a literal offset, at an index. -/
theorem ld3 {e : EltTy} {n0 n1 n2 m0 m1 m2 : Nat} (X : Vec Ideal ⟨3, ![n0, n1, n2]⟩ e) (o0 o1 o2 : Nat)
    (inb : ∀ a, ![o0, o1, o2] a + ![m0, m1, m2] a ≤ (⟨3, ![n0, n1, n2]⟩ : Shape).size a)
    (q : Fin m0) (r : Fin m1) (c : Fin m2) (q' : Fin n0) (r' : Fin n1) (c' : Fin n2) (hq : q'.val = o0 + q.val) (hr : r'.val = o1 + r.val)
    (hc : c'.val = o2 + c.val) :
    View.ld (Val := Elt Ideal) X (Rect.unit ![o0, o1, o2] ![m0, m1, m2] inb) (ix3 q r c) = X (ix3 q' r' c') :=
  congrArg X (funext fun a => by
    match a with
    | ⟨0, _⟩ => exact Fin.ext (by show o0 + 1 * q.val = q'.val; omega)
    | ⟨1, _⟩ => exact Fin.ext (by show o1 + 1 * r.val = r'.val; omega)
    | ⟨2, _⟩ => exact Fin.ext (by show o2 + 1 * c.val = c'.val; omega))

/-- The row of a gain that the grid point reads is its layer's. -/
theorem row_toNat : ∀ l : Fin 14, (Scalar.indexCast (BitVec.ofNat 32 l.val)).toNat = l.val := by decide +kernel

/-- A tile of 256 columns given a leading axis of one. -/
theorem up256 (T : FVec Ideal S144x256 .f32) (x : S1x144x256.Idx) :
    shapeCast S1x144x256 T shapeCasts_S144x256_S1x144x256 x = T (ix2 (x 1) (x 2)) := by
  rw [eq_ix3 x]
  pointwise

/-- The same, of 32 columns. -/
theorem up32 (T : FVec Ideal S144x32 .f32) (x : S1x144x32.Idx) :
    shapeCast S1x144x32 T shapeCasts_S144x32_S1x144x32 x = T (ix2 (x 1) (x 2)) := by
  rw [eq_ix3 x]
  pointwise

/-- The first product's left operand, of the residual and the layer's row of the gain. -/
theorem u_apply (i : grid0.Coords) (R : Vec Ideal S144x1024 .f32) (x6 : Vec Ideal S14x1024 .f32)
    (inb : ∀ a, k0_off1 i a + S1x1024.size a ≤ S14x1024.size a) (r : Fin 144) (k : Fin 1024) :
    k0_pay5 (F := Ideal) R (View.ld (Val := Elt Ideal) x6 (Rect.unit (k0_off1 i) S1x1024.size inb)) (ix2 r k)
      = normed 1024 (fun r k => R (ix2 r k)) (fun k => x6 (ix2 (i 0) k)) r k := by
  rw [pay5_apply]
  refine congrArg (fun g => normed 1024 (fun r k => R (ix2 r k)) g r k) (funext fun k => congrArg x6 (funext fun a => ?_))
  match a with
  | ⟨0, _⟩ => exact Fin.ext (by show (Scalar.indexCast (BitVec.ofNat 32 (i 0).val)).toNat + 1 * 0 = _; rw [row_toNat (i 0)]; rfl)
  | ⟨1, _⟩ => exact Fin.ext (by show 0 + 1 * k.val = k.val; omega)

/-- A load from the first product's left operand after the one store of the whole. -/
theorem uFill {sp : Space} (v : View sig .tc sp S144x1024 .bf16) (Z : Vec Ideal S144x1024 .bf16)
    (inb : ∀ a, ![0, 0] a + ![144, 1024] a ≤ S144x1024.size a) (r : Rect S144x1024) :
    v.readCov (Val := Elt Ideal) [⟨Rect.unit (s := S144x1024) ![0, 0] ![144, 1024] inb, Z⟩] r.toLoadRect = View.ld Z r :=
  View.readCov_fill v inb Z [] r (fun a => by fin_cases a <;> rfl)

/-- What stores that are all blocks of `G` leave, at an index that one of them holds. -/
theorem canon_of {S : Shape} {e : EltTy} (G : S.Idx → Elt Ideal e) (L : List (View.Piece (Elt Ideal) S e)) (h : View.PiecesOf G L) (y : S.Idx)
    (hc : ∃ p ∈ L, y ∈ p.1.set) : View.canon L y = G y :=
  View.canon_apply_of_pieces G L h.mem y hc

/-- The convolution's input columns of the in-projection, as the block of the third output. -/
def xbcOf (p : Par) (R : Fin 144 → Fin 1024 → EReal) (y : S1x144x2304.Idx) : EReal :=
  proj p R (y 1) ⟨2048 + (y 2).val, by have := (y 2).isLt; change _ < 2304 at this; omega⟩

/-- The step columns, as the block of the fourth output. -/
def dtOf (p : Par) (R : Fin 144 → Fin 1024 → EReal) (y : S1x144x32.Idx) : EReal :=
  proj p R (y 1) ⟨4352 + (y 2).val, by have := (y 2).isLt; change _ < 32 at this; omega⟩

/-- The mix, as the block of the second output. -/
def mixOf (p : Par) (R : Fin 144 → Fin 1024 → EReal) (y : S1x144x2048.Idx) : EReal := mix p R (y 1) (y 2)

/-- The next residual, as the block of the first output. -/
def resOf (p : Par) (R : Fin 144 → Fin 1024 → EReal) (y : S1x144x1024.Idx) : EReal := next p R (y 1) (y 2)

/-- The next residual, as the carried buffer holds it. -/
def carryOf (p : Par) (R : Fin 144 → Fin 1024 → EReal) (y : S144x1024.Idx) : EReal := next p R (y 0) (y 1)

/-- A tile stored into the third output is a block of it. -/
theorem inPiece20 (o c0 : Nat) (hc0 : c0 = 2048 + o) (ho : o + 256 ≤ 2304) (inb) (Uv : Vec Ideal S144x1024 .bf16) (i0 i1)
    (x6 : Vec Ideal S14x1024 .f32) (x7 : Vec Ideal S1x512x4384 .i8) (x8 : Vec Ideal S1x8x4384 .bf16)
    (x14 : Vec Ideal S14x2048 .f32) (x15 : Vec Ideal S1x2048x512 .i8) (x16 : Vec Ideal S1x16x1024 .bf16)
    (x17 : Vec Ideal S1x144x2048 .f32) (l : Fin 14) (inb7)
    (h0 : S8x4384.Slices ![0, c0] S4x256) (h4 : S8x4384.Slices ![4, c0] S4x256)
    (R : Fin 144 → Fin 1024 → EReal)
    (hU : ∀ (r : Fin 144) (k : Fin 1024), Uv (ix2 r k) = normed 1024 R (fun k => x6 (ix2 l k)) r k)
    (x : S1x144x256.Idx) :
    shapeCast S1x144x256 (inTile (View.ld (Val := Elt Ideal) Uv (Rect.unit (s := S144x1024) ![0, 0] S144x512.size i0))
        (View.ld (Val := Elt Ideal) Uv (Rect.unit (s := S144x1024) ![0, 512] S144x512.size i1)) (View.ld (Val := Elt Ideal) x7 (Rect.unit (s := S1x512x4384) ![0, 0, c0] S1x512x256.size inb7)) x8 c0 h0 h4)
        shapeCasts_S144x256_S1x144x256 x
      = xbcOf (blkPar l x6 x7 x8 x14 x15 x16 x17) R ((Rect.unit (s := S1x144x2304) ![0, 0, o] S1x144x256.size inb).emb x) := by
  subst hc0
  have hx : (x 2).val < 256 := (x 2).isLt
  refine (up256 _ x).trans ((inTile_apply _ _ _ x8 (2048 + o) (by omega) h0 h4 _ (fun k c => x7 (ix3 0 k c)) (fun g c => x8 (ix3 0 g c))
    (fun r k => (ld2 Uv 0 0 i0 r k r ⟨k.val, by omega⟩ (Nat.zero_add _).symm (Nat.zero_add _).symm).trans (hU _ _))
    (fun r k => (ld2 Uv 0 512 i1 r k r ⟨512 + k.val, by omega⟩ (Nat.zero_add _).symm rfl).trans (hU _ _))
    (fun k c => ld3 x7 0 0 (2048 + o) inb7 0 k c 0 k _ rfl (Nat.zero_add _).symm rfl) (fun _ _ => rfl) (x 1) (x 2)).trans ?_)
  exact congrArg₂ (inProj _ (fun k c => x7 (ix3 0 k c)) (fun g c => x8 (ix3 0 g c)))
    (Fin.ext (by show (x 1).val = 0 + 1 * (x 1).val; omega)) (Fin.ext (by show 2048 + o + (x 2).val = 2048 + (o + 1 * (x 2).val); omega))

end Cert.KernelIdeal.Loads

end
-- ==== Proof.Pieces.lean ====
/- What each tile that the kernel stores holds, as a block of the buffer it goes to. -/
module

public import proofs.«01_k».proof.Proof.Loads
public import Idealize.ShloMosaic.Lib.Pipeline.CanonAppend

@[expose] public section

set_option maxRecDepth 16384

noncomputable section

open Idealize.ShloMosaic Idealize.ShloMosaic.TcCoe

namespace Cert.KernelIdeal.Loads

open Cert.KernelIdeal Cert.KernelIdeal.Gen Cert.KernelIdeal.Nib Cert.KernelIdeal.Tiles Cert.Layer

/-- A load after stores that cover the buffer and are all blocks of `G` reads `G`. -/
theorem read_of {S : Shape} {e : EltTy} (G : S.Idx → Elt Ideal e) (L : List (View.Piece (Elt Ideal) S e)) (h : View.PiecesOf G L)
    (hc : ∀ y, ∃ p ∈ L, y ∈ p.1.set) {sp : Space} (v : View sig .tc sp S e) (r : Rect S) :
    v.readCov (Val := Elt Ideal) L r.toLoadRect = View.ld (Val := Elt Ideal) G r :=
  (View.readCov_eq_canon_ld (Val := Elt Ideal) v L r hc).trans
    (congrArg (fun g => View.ld (Val := Elt Ideal) g r) (funext fun y => canon_of G L h y (hc y)))

/-- The last stores that cover an index and are blocks of `G` leave `G` there, whatever was stored before. -/
theorem canon_take {S : Shape} {e : EltTy} (G : S.Idx → Elt Ideal e) (n : Nat) (L : List (View.Piece (Elt Ideal) S e))
    (h : View.PiecesOf G (L.take n)) (y : S.Idx) (hc : ∃ p ∈ L.take n, y ∈ p.1.set) : View.canon L y = G y :=
  (congrArg (fun l => View.canon l y) (List.take_append_drop n L).symm).trans (View.canon_append_of_pieces G _ _ h.mem y hc)

/-- The gate columns of the in-projection, as their buffer holds them. -/
def zOf (l : Fin 14) (x6 : Vec Ideal S14x1024 .f32) (x7 : Vec Ideal S1x512x4384 .i8) (x8 : Vec Ideal S1x8x4384 .bf16)
    (R : Fin 144 → Fin 1024 → EReal) : Vec Ideal S144x2048 .f32 := fun y =>
  inProj (normed 1024 R fun k => x6 (ix2 l k)) (fun k c => x7 (ix3 0 k c)) (fun g c => x8 (ix3 0 g c)) (y 0)
    ⟨(y 1).val, by have := (y 1).isLt; change _ < 2048 at this; omega⟩

/-- The gated columns, as their buffer holds them. -/
def aOf (l : Fin 14) (x6 : Vec Ideal S14x1024 .f32) (x7 : Vec Ideal S1x512x4384 .i8) (x8 : Vec Ideal S1x8x4384 .bf16)
    (x17 : Vec Ideal S1x144x2048 .f32) (R : Fin 144 → Fin 1024 → EReal) : Vec Ideal S144x2048 .f32 := fun y =>
  gate (x17 (ix3 0 (y 0) (y 1))) (zOf l x6 x7 x8 R y)

/-- The mix, as its block holds it. -/
def mOf (l : Fin 14) (x6 : Vec Ideal S14x1024 .f32) (x7 : Vec Ideal S1x512x4384 .i8) (x8 : Vec Ideal S1x8x4384 .bf16)
    (x14 : Vec Ideal S14x2048 .f32) (x17 : Vec Ideal S1x144x2048 .f32) (R : Fin 144 → Fin 1024 → EReal) : Vec Ideal S1x144x2048 .bf16 := fun y =>
  normed 2048 (fun r k => aOf l x6 x7 x8 x17 R (ix2 r k)) (fun k => x14 (ix2 l k)) (y 1) (y 2)

/-- A tile stored into the gate columns is a block of them. -/
theorem inPieceZ (c0 : Nat) (ho : c0 + 256 ≤ 2048) (inb) (Uv : Vec Ideal S144x1024 .bf16) (i0 i1)
    (x6 : Vec Ideal S14x1024 .f32) (x7 : Vec Ideal S1x512x4384 .i8) (x8 : Vec Ideal S1x8x4384 .bf16) (l : Fin 14) (inb7)
    (h0 : S8x4384.Slices ![0, c0] S4x256) (h4 : S8x4384.Slices ![4, c0] S4x256)
    (R : Fin 144 → Fin 1024 → EReal)
    (hU : ∀ (r : Fin 144) (k : Fin 1024), Uv (ix2 r k) = normed 1024 R (fun k => x6 (ix2 l k)) r k)
    (x : S144x256.Idx) :
    shapeCast S144x256 (inTile (View.ld (Val := Elt Ideal) Uv (Rect.unit (s := S144x1024) ![0, 0] S144x512.size i0))
        (View.ld (Val := Elt Ideal) Uv (Rect.unit (s := S144x1024) ![0, 512] S144x512.size i1)) (View.ld (Val := Elt Ideal) x7 (Rect.unit (s := S1x512x4384) ![0, 0, c0] S1x512x256.size inb7)) x8 c0 h0 h4) shapeCasts_S144x256_S144x256 x
      = zOf l x6 x7 x8 R ((Rect.unit (s := S144x2048) ![0, c0] S144x256.size inb).emb x) := by
  have hx : (x 1).val < 256 := (x 1).isLt
  refine (congrArg (fun t => t x) (shapeCast_self _ shapeCasts_S144x256_S144x256)).trans ((congrArg _ (eq_ix2 x)).trans ((inTile_apply _ _ _ x8 c0 (by omega) h0 h4 _ (fun k c => x7 (ix3 0 k c)) (fun g c => x8 (ix3 0 g c))
    (fun r k => (ld2 Uv 0 0 i0 r k r ⟨k.val, by omega⟩ (Nat.zero_add _).symm (Nat.zero_add _).symm).trans (hU _ _))
    (fun r k => (ld2 Uv 0 512 i1 r k r ⟨512 + k.val, by omega⟩ (Nat.zero_add _).symm rfl).trans (hU _ _))
    (fun k c => ld3 x7 0 0 c0 inb7 0 k c 0 k _ rfl (Nat.zero_add _).symm rfl) (fun _ _ => rfl) (x 0) (x 1)).trans ?_))
  exact congrArg₂ (inProj _ (fun k c => x7 (ix3 0 k c)) (fun g c => x8 (ix3 0 g c)))
    (Fin.ext (by show (x 0).val = 0 + 1 * (x 0).val; omega)) (Fin.ext (by show c0 + (x 1).val = c0 + 1 * (x 1).val; omega))

/-- The tile stored into the fourth output is the whole of it. -/
theorem inPiece21 (inb) (Uv : Vec Ideal S144x1024 .bf16) (i0 i1)
    (x6 : Vec Ideal S14x1024 .f32) (x7 : Vec Ideal S1x512x4384 .i8) (x8 : Vec Ideal S1x8x4384 .bf16)
    (x14 : Vec Ideal S14x2048 .f32) (x15 : Vec Ideal S1x2048x512 .i8) (x16 : Vec Ideal S1x16x1024 .bf16)
    (x17 : Vec Ideal S1x144x2048 .f32) (l : Fin 14) (inb7)
    (R : Fin 144 → Fin 1024 → EReal)
    (hU : ∀ (r : Fin 144) (k : Fin 1024), Uv (ix2 r k) = normed 1024 R (fun k => x6 (ix2 l k)) r k)
    (x : S1x144x32.Idx) :
    shapeCast S1x144x32 (inTileN (View.ld (Val := Elt Ideal) Uv (Rect.unit (s := S144x1024) ![0, 0] S144x512.size i0))
        (View.ld (Val := Elt Ideal) Uv (Rect.unit (s := S144x1024) ![0, 512] S144x512.size i1)) (View.ld (Val := Elt Ideal) x7 (Rect.unit (s := S1x512x4384) ![0, 0, 4352] S1x512x32.size inb7)) x8)
        shapeCasts_S144x32_S1x144x32 x
      = dtOf (blkPar l x6 x7 x8 x14 x15 x16 x17) R ((Rect.unit (s := S1x144x32) ![0, 0, 0] S1x144x32.size inb).emb x) := by
  have hx : (x 2).val < 32 := (x 2).isLt
  refine (up32 _ x).trans ((inTileN_apply _ _ _ x8 _ (fun k c => x7 (ix3 0 k c)) (fun g c => x8 (ix3 0 g c))
    (fun r k => (ld2 Uv 0 0 i0 r k r ⟨k.val, by omega⟩ (Nat.zero_add _).symm (Nat.zero_add _).symm).trans (hU _ _))
    (fun r k => (ld2 Uv 0 512 i1 r k r ⟨512 + k.val, by omega⟩ (Nat.zero_add _).symm rfl).trans (hU _ _))
    (fun k c => ld3 x7 0 0 4352 inb7 0 k c 0 k _ rfl (Nat.zero_add _).symm rfl) (fun _ _ => rfl) (x 1) (x 2)).trans ?_)
  exact congrArg₂ (inProj _ (fun k c => x7 (ix3 0 k c)) (fun g c => x8 (ix3 0 g c)))
    (Fin.ext (by show (x 1).val = 0 + 1 * (x 1).val; omega)) (Fin.ext (by show 4352 + (x 2).val = 4352 + (0 + 1 * (x 2).val); omega))

/-- A tile stored into the gated columns is a block of them. -/
theorem gatePiece (r0 c0 : Nat) (hr : r0 + 24 ≤ 144) (hc : c0 + 256 ≤ 2048) (inb) (l : Fin 14) (x6 : Vec Ideal S14x1024 .f32)
    (x7 : Vec Ideal S1x512x4384 .i8) (x8 : Vec Ideal S1x8x4384 .bf16)
    (x17 : Vec Ideal S1x144x2048 .f32) (R : Fin 144 → Fin 1024 → EReal) (inb7) (inbz) (x : S24x256.Idx) :
    k0_pay237 (F := Ideal) (View.ld (Val := Elt Ideal) x17 (Rect.unit (s := S1x144x2048) ![0, r0, c0] S1x24x256.size inb7))
        (View.ld (Val := Elt Ideal) (zOf l x6 x7 x8 R) (Rect.unit (s := S144x2048) ![r0, c0] S24x256.size inbz)) x
      = aOf l x6 x7 x8 x17 R ((Rect.unit (s := S144x2048) ![r0, c0] S24x256.size inb).emb x) := by
  have h0 : (x 0).val < 24 := (x 0).isLt
  have h1 : (x 1).val < 256 := (x 1).isLt
  refine (congrArg _ (eq_ix2 x)).trans ((gateTile_apply _ _ (x 0) (x 1)).trans ?_)
  refine congrArg₂ gate ((ld3 x17 0 r0 c0 inb7 0 (x 0) (x 1) 0 ⟨r0 + (x 0).val, by omega⟩ ⟨c0 + (x 1).val, by omega⟩ rfl rfl rfl).trans ?_)
    (congrArg (zOf l x6 x7 x8 R) (funext fun a => ?_))
  · refine congrArg₂ (fun r c => x17 (ix3 0 r c)) (Fin.ext ?_) (Fin.ext ?_)
    · show r0 + (x 0).val = r0 + 1 * (x 0).val; omega
    · show c0 + (x 1).val = c0 + 1 * (x 1).val; omega
  · match a with
    | ⟨0, _⟩ => rfl
    | ⟨1, _⟩ => rfl

/-- A row of a gain, loaded. -/
theorem gain_apply (i : grid0.Coords) (x14 : Vec Ideal S14x2048 .f32) (inb : ∀ a, k0_off2 i a + S1x2048.size a ≤ S14x2048.size a) (k : Fin 2048) :
    View.ld (Val := Elt Ideal) x14 (Rect.unit (k0_off2 i) S1x2048.size inb) (ix2 0 k) = x14 (ix2 (i 0) k) :=
  congrArg x14 (funext fun a => by
    match a with
    | ⟨0, _⟩ => exact Fin.ext (by show (Scalar.indexCast (BitVec.ofNat 32 (i 0).val)).toNat + 1 * 0 = _; rw [row_toNat (i 0)]; rfl)
    | ⟨1, _⟩ => exact Fin.ext (by show 0 + 1 * k.val = k.val; omega))

/-- The mix stored is the whole of its block. -/
theorem mixPiece (inb) (i : grid0.Coords) (x6 : Vec Ideal S14x1024 .f32)
    (x7 : Vec Ideal S1x512x4384 .i8) (x8 : Vec Ideal S1x8x4384 .bf16) (x14 : Vec Ideal S14x2048 .f32)
    (x17 : Vec Ideal S1x144x2048 .f32) (R : Fin 144 → Fin 1024 → EReal) (inb2) (x : S1x144x2048.Idx) :
    k0_pay311 (F := Ideal) (aOf (i 0) x6 x7 x8 x17 R) (k0_pay310 (aOf (i 0) x6 x7 x8 x17 R))
        (View.ld (Val := Elt Ideal) x14 (Rect.unit (k0_off2 i) S1x2048.size inb2)) x
      = mOf (i 0) x6 x7 x8 x14 x17 R ((Rect.unit (s := S1x144x2048) ![0, 0, 0] S1x144x2048.size inb).emb x) := by
  have e : x = ix3 0 (x 1) (x 2) := (eq_ix3 x).trans (congrArg (fun q : Fin 1 => ix3 q (x 1) (x 2)) (Subsingleton.elim _ _))
  refine (congrArg _ e).trans ((mixTile_apply _ _ (x 1) (x 2)).trans ?_)
  rw [show (fun k => View.ld (Val := Elt Ideal) x14 (Rect.unit (k0_off2 i) S1x2048.size inb2) (ix2 0 k)) = fun k => x14 (ix2 (i 0) k) from
    funext fun k => gain_apply i x14 inb2 k]
  exact congrArg₂ (normed 2048 (fun r k => aOf (i 0) x6 x7 x8 x17 R (ix2 r k)) fun k => x14 (ix2 (i 0) k))
    (Fin.ext (by show (x 1).val = 0 + 1 * (x 1).val; omega)) (Fin.ext (by show (x 2).val = 0 + 1 * (x 2).val; omega))

/-- The four loads of a row block of the mix. -/
def mLd (M : Vec Ideal S1x144x2048 .bf16) (m0 : ∀ a, ![0, 0, 0] a + S1x144x512.size a ≤ S1x144x2048.size a) (m1 : ∀ a, ![0, 0, 512] a + S1x144x512.size a ≤ S1x144x2048.size a) (m2 : ∀ a, ![0, 0, 1024] a + S1x144x512.size a ≤ S1x144x2048.size a) (m3 : ∀ a, ![0, 0, 1536] a + S1x144x512.size a ≤ S1x144x2048.size a) : Fin 4 → Vec Ideal S1x144x512 .bf16 :=
  ![View.ld (Val := Elt Ideal) M (Rect.unit (s := S1x144x2048) ![0, 0, 0] S1x144x512.size m0),
    View.ld (Val := Elt Ideal) M (Rect.unit (s := S1x144x2048) ![0, 0, 512] S1x144x512.size m1),
    View.ld (Val := Elt Ideal) M (Rect.unit (s := S1x144x2048) ![0, 0, 1024] S1x144x512.size m2),
    View.ld (Val := Elt Ideal) M (Rect.unit (s := S1x144x2048) ![0, 0, 1536] S1x144x512.size m3)]

/-- The four loads of a column tile of the packed weights. -/
def wLd (x15 : Vec Ideal S1x2048x512 .i8) (c0 : Nat) (w0 : ∀ a, ![0, 0, c0] a + S1x512x256.size a ≤ S1x2048x512.size a) (w1 : ∀ a, ![0, 512, c0] a + S1x512x256.size a ≤ S1x2048x512.size a) (w2 : ∀ a, ![0, 1024, c0] a + S1x512x256.size a ≤ S1x2048x512.size a) (w3 : ∀ a, ![0, 1536, c0] a + S1x512x256.size a ≤ S1x2048x512.size a) : Fin 4 → Vec Ideal S1x512x256 .i8 :=
  ![View.ld (Val := Elt Ideal) x15 (Rect.unit (s := S1x2048x512) ![0, 0, c0] S1x512x256.size w0),
    View.ld (Val := Elt Ideal) x15 (Rect.unit (s := S1x2048x512) ![0, 512, c0] S1x512x256.size w1),
    View.ld (Val := Elt Ideal) x15 (Rect.unit (s := S1x2048x512) ![0, 1024, c0] S1x512x256.size w2),
    View.ld (Val := Elt Ideal) x15 (Rect.unit (s := S1x2048x512) ![0, 1536, c0] S1x512x256.size w3)]

theorem mLd_apply (M : Vec Ideal S1x144x2048 .bf16) (m0 : ∀ a, ![0, 0, 0] a + S1x144x512.size a ≤ S1x144x2048.size a) (m1 : ∀ a, ![0, 0, 512] a + S1x144x512.size a ≤ S1x144x2048.size a) (m2 : ∀ a, ![0, 0, 1024] a + S1x144x512.size a ≤ S1x144x2048.size a) (m3 : ∀ a, ![0, 0, 1536] a + S1x144x512.size a ≤ S1x144x2048.size a) (q : Fin 4) (r : Fin 144) (k : Fin 512) :
    mLd M m0 m1 m2 m3 q (ix3 0 r k) = M (ix3 0 r ⟨512 * q.val + k.val, by omega⟩) := by
  match q with
  | ⟨0, _⟩ => exact ld3 M 0 0 0 m0 0 r k 0 r _ rfl (Nat.zero_add _).symm rfl
  | ⟨1, _⟩ => exact ld3 M 0 0 512 m1 0 r k 0 r _ rfl (Nat.zero_add _).symm rfl
  | ⟨2, _⟩ => exact ld3 M 0 0 1024 m2 0 r k 0 r _ rfl (Nat.zero_add _).symm rfl
  | ⟨3, _⟩ => exact ld3 M 0 0 1536 m3 0 r k 0 r _ rfl (Nat.zero_add _).symm rfl

theorem wLd_apply (x15 : Vec Ideal S1x2048x512 .i8) (c0 : Nat) (hc : c0 + 256 ≤ 512) (w0 : ∀ a, ![0, 0, c0] a + S1x512x256.size a ≤ S1x2048x512.size a) (w1 : ∀ a, ![0, 512, c0] a + S1x512x256.size a ≤ S1x2048x512.size a) (w2 : ∀ a, ![0, 1024, c0] a + S1x512x256.size a ≤ S1x2048x512.size a) (w3 : ∀ a, ![0, 1536, c0] a + S1x512x256.size a ≤ S1x2048x512.size a) (q : Fin 4) (k : Fin 512) (c : Fin 256) :
    wLd x15 c0 w0 w1 w2 w3 q (ix3 0 k c) = x15 (ix3 0 ⟨512 * q.val + k.val, by omega⟩ ⟨c0 + c.val, by omega⟩) := by
  match q with
  | ⟨0, _⟩ => exact ld3 x15 0 0 c0 w0 0 k c 0 _ _ rfl rfl rfl
  | ⟨1, _⟩ => exact ld3 x15 0 512 c0 w1 0 k c 0 _ _ rfl rfl rfl
  | ⟨2, _⟩ => exact ld3 x15 0 1024 c0 w2 0 k c 0 _ _ rfl rfl rfl
  | ⟨3, _⟩ => exact ld3 x15 0 1536 c0 w3 0 k c 0 _ _ rfl rfl rfl

/-- A low tile of the next residual, at an index. -/
theorem loTile (Rv : Vec Ideal S144x1024 .f32) (c0 : Nat) (hc : c0 + 256 ≤ 512) (inbR) (l : Fin 14) (x6 : Vec Ideal S14x1024 .f32)
    (x7 : Vec Ideal S1x512x4384 .i8) (x8 : Vec Ideal S1x8x4384 .bf16)
    (x14 : Vec Ideal S14x2048 .f32) (x15 : Vec Ideal S1x2048x512 .i8) (x16 : Vec Ideal S1x16x1024 .bf16)
    (x17 : Vec Ideal S1x144x2048 .f32) (m0 m1 m2 m3) (w0 w1 w2 w3) (h0 h4 h8 h12) (r : Fin 144) (c : Fin 256) :
    outTile codesLo (View.ld (Val := Elt Ideal) Rv (Rect.unit (s := S144x1024) ![0, c0] S144x256.size inbR))
        (mLd (mOf l x6 x7 x8 x14 x17 fun r k => Rv (ix2 r k)) m0 m1 m2 m3) (wLd x15 c0 w0 w1 w2 w3) x16 c0 h0 h4 h8 h12 (ix2 r c)
      = next (blkPar l x6 x7 x8 x14 x15 x16 x17) (fun r k => Rv (ix2 r k)) r ⟨c0 + c.val, by omega⟩ := by
  refine (outTile_lo _ _ _ x16 c0 hc h0 h4 h8 h12 (fun r k => mOf l x6 x7 x8 x14 x17 (fun r k => Rv (ix2 r k)) (ix3 0 r k)) (fun k c => x15 (ix3 0 k c))
    (fun g c => x16 (ix3 0 g c)) (fun q r k => mLd_apply _ m0 m1 m2 m3 q r k) (fun q k c => wLd_apply x15 c0 hc w0 w1 w2 w3 q k c) (fun _ _ => rfl) r c).trans ?_
  rw [ld2 Rv 0 c0 inbR r c r ⟨c0 + c.val, by omega⟩ (Nat.zero_add _).symm rfl]
  rfl

/-- A high tile of the next residual, at an index. -/
theorem hiTile (Rv : Vec Ideal S144x1024 .f32) (c0 : Nat) (hc : c0 + 256 ≤ 512) (inbR) (l : Fin 14) (x6 : Vec Ideal S14x1024 .f32)
    (x7 : Vec Ideal S1x512x4384 .i8) (x8 : Vec Ideal S1x8x4384 .bf16)
    (x14 : Vec Ideal S14x2048 .f32) (x15 : Vec Ideal S1x2048x512 .i8) (x16 : Vec Ideal S1x16x1024 .bf16)
    (x17 : Vec Ideal S1x144x2048 .f32) (m0 m1 m2 m3) (w0 w1 w2 w3) (h0 h4 h8 h12) (r : Fin 144) (c : Fin 256) :
    outTile codesHi (View.ld (Val := Elt Ideal) Rv (Rect.unit (s := S144x1024) ![0, 512 + c0] S144x256.size inbR))
        (mLd (mOf l x6 x7 x8 x14 x17 fun r k => Rv (ix2 r k)) m0 m1 m2 m3) (wLd x15 c0 w0 w1 w2 w3) x16 (512 + c0) h0 h4 h8 h12 (ix2 r c)
      = next (blkPar l x6 x7 x8 x14 x15 x16 x17) (fun r k => Rv (ix2 r k)) r ⟨512 + c0 + c.val, by omega⟩ := by
  refine (outTile_hi _ _ _ x16 c0 hc h0 h4 h8 h12 (fun r k => mOf l x6 x7 x8 x14 x17 (fun r k => Rv (ix2 r k)) (ix3 0 r k)) (fun k c => x15 (ix3 0 k c))
    (fun g c => x16 (ix3 0 g c)) (fun q r k => mLd_apply _ m0 m1 m2 m3 q r k) (fun q k c => wLd_apply x15 c0 hc w0 w1 w2 w3 q k c) (fun _ _ => rfl) r c).trans ?_
  rw [ld2 Rv 0 (512 + c0) inbR r c r ⟨512 + c0 + c.val, by omega⟩ (Nat.zero_add _).symm rfl]
  rfl

/-- A tile that holds the next residual at its columns, stored into the first output, is a block of it. -/
theorem up18 (p : Par) (R : Fin 144 → Fin 1024 → EReal) (c0 : Nat) (hc : c0 + 256 ≤ 1024) (inb) (T : FVec Ideal S144x256 .f32)
    (hT : ∀ (r : Fin 144) (c : Fin 256), T (ix2 r c) = next p R r ⟨c0 + c.val, by omega⟩) (x : S1x144x256.Idx) :
    shapeCast S1x144x256 T shapeCasts_S144x256_S1x144x256 x
      = resOf p R ((Rect.unit (s := S1x144x1024) ![0, 0, c0] S1x144x256.size inb).emb x) := by
  have hx : (x 2).val < 256 := (x 2).isLt
  refine (up256 T x).trans ((hT _ _).trans ?_)
  exact congrArg₂ (next p R) (Fin.ext (by show (x 1).val = 0 + 1 * (x 1).val; omega)) (Fin.ext (by show c0 + (x 2).val = c0 + 1 * (x 2).val; omega))

/-- The same tile, stored into the carried residual. -/
theorem upS (p : Par) (R : Fin 144 → Fin 1024 → EReal) (c0 : Nat) (hc : c0 + 256 ≤ 1024) (inb) (T : FVec Ideal S144x256 .f32)
    (hT : ∀ (r : Fin 144) (c : Fin 256), T (ix2 r c) = next p R r ⟨c0 + c.val, by omega⟩) (x : S144x256.Idx) :
    shapeCast S144x256 T shapeCasts_S144x256_S144x256 x
      = carryOf p R ((Rect.unit (s := S144x1024) ![0, c0] S144x256.size inb).emb x) := by
  have hx : (x 1).val < 256 := (x 1).isLt
  refine (congrArg (fun t => t x) (shapeCast_self T shapeCasts_S144x256_S144x256)).trans ((congrArg T (eq_ix2 x)).trans ((hT _ _).trans ?_))
  exact congrArg₂ (next p R) (Fin.ext (by show (x 0).val = 0 + 1 * (x 0).val; omega)) (Fin.ext (by show c0 + (x 1).val = c0 + 1 * (x 1).val; omega))

end Cert.KernelIdeal.Loads

end
-- ==== Proof.BlkA.lean ====
/- What a grid point leaves in each of its blocks, at the first point. -/
module

public import proofs.«01_k».proof.Proof.Pieces

@[expose] public section

set_option maxRecDepth 16384
set_option maxHeartbeats 4000000

noncomputable section

open Idealize.ShloMosaic Idealize.ShloMosaic.TcCoe

namespace Cert.KernelIdeal.BlkA

open Cert.KernelIdeal Cert.KernelIdeal.Gen Cert.KernelIdeal.Nib Cert.KernelIdeal.Tiles Cert.KernelIdeal.Loads Cert.Layer

theorem z2 : (![0, 0] : Fin 2 → Nat) = fun _ => 0 := funext fun a => by fin_cases a <;> rfl

theorem z3 : (![0, 0, 0] : Fin 3 → Nat) = fun _ => 0 := funext fun a => by fin_cases a <;> rfl

/-- A load from the residual after the one store of the whole. -/
theorem rFill {sp : Space} (v : View sig .tc sp S144x1024 .f32) (Z : Vec Ideal S144x1024 .f32)
    (inb : ∀ a, ![0, 0] a + ![144, 1024] a ≤ S144x1024.size a) (r : Rect S144x1024) :
    v.readCov (Val := Elt Ideal) [⟨Rect.unit (s := S144x1024) ![0, 0] ![144, 1024] inb, Z⟩] r.toLoadRect = View.ld Z r :=
  View.readCov_fill v inb Z [] r (fun a => by fin_cases a <;> rfl)

/-- A load of a column tile of the residual does not see a store into another one. -/
theorem rSkip {sp : Space} (v : View sig .tc sp S144x1024 .f32) (a b : Nat) (ha : ∀ q, ![0, a] q + ![144, 256] q ≤ S144x1024.size q)
    (hb : ∀ q, ![0, b] q + ![144, 256] q ≤ S144x1024.size q) (Z : Vec Ideal S144x256 .f32) (L : List (View.Piece (Elt Ideal) S144x1024 .f32))
    (h : a + 256 ≤ b ∨ b + 256 ≤ a) :
    v.readCov (Val := Elt Ideal) (⟨Rect.unit (s := S144x1024) ![0, a] ![144, 256] ha, Z⟩ :: L) (Rect.unit (s := S144x1024) ![0, b] ![144, 256] hb).toLoadRect
      = v.readCov (Val := Elt Ideal) L (Rect.unit (s := S144x1024) ![0, b] ![144, 256] hb).toLoadRect :=
  View.readCov_cons_of_disjoint v _ L _ (Rect.disjoint_of_separated _ _ 1 (by
    show (256 = 0 ∨ a + 1 * (256 - 1) < b) ∨ (256 = 0 ∨ b + 1 * (256 - 1) < a)
    omega))

/-- The gate columns' buffer, read after its eight tiles are stored. -/
theorem zWord (c : Dev nD) (i : grid0.Coords) (arg2 : Memref sig .tc .vmem S144x1024 .bf16) (harg2 : arg2.IsWhole) (arg7 : Memref sig .tc .vmem S14x1024 .f32) (harg7 : arg7.IsWhole) (arg8 : Memref sig .tc .vmem S1x512x4384 .i8) (harg8 : arg8.IsWhole) (arg9 : Memref sig .tc .vmem S1x8x4384 .bf16) (harg9 : arg9.IsWhole) (arg23 : Memref sig .tc .vmem S144x1024 .f32) (arg24 : Memref sig .tc .vmem S144x1024 .bf16) (x1 : Vec Ideal S144x1024 .bf16) (x6 : Vec Ideal S14x1024 .f32) (x7 : Vec Ideal S1x512x4384 .i8) (x8 : Vec Ideal S1x8x4384 .bf16)
    {sp : Space} (v : View sig .tc sp S144x2048 .f32) (r : Rect S144x2048) :
    v.readCov (Val := Elt Ideal) (kernelRun0_A.sl.HS2_8 (F := Ideal) c i arg2 harg2 arg7 harg7 arg8 harg8 arg9 harg9 arg23 arg24 x1 x6 x7 x8) r.toLoadRect
      = View.ld (Val := Elt Ideal) (zOf (i 0) x6 x7 x8 (fun r k => (k0_pay4 (F := Ideal) x1) (ix2 r k))) r := by
  refine read_of _ _ ?_ (fun y => View.cover_of_tiledL (kernelRun0_A.sl.HS2_8 (F := Ideal) c i arg2 harg2 arg7 harg7 arg8 harg8 arg9 harg9 arg23 arg24 x1 x6 x7 x8) S144x256.size (by sl_kernel_rfl) y) v r
  sl_unfold_words
  simp only [View.readAt_eq_ld, Memref.IsWhole.read_unread, View.ld_unit_zero (S := S1x8x4384) z3, View.ld_unit_zero (S := S144x1024) z2, View.ld_unit_zero (S := S1x16x1024) z3, rFill]
  simp only [uFill]
  generalize hUU : k0_pay5 (F := Ideal) (k0_pay4 (F := Ideal) x1) _ = U
  have hU : ∀ (r : Fin 144) (k : Fin 1024), U (ix2 r k) = normed 1024 (fun r k => (k0_pay4 (F := Ideal) x1) (ix2 r k)) (fun k => x6 (ix2 (i 0) k)) r k := fun r k => by
    rw [← hUU]; exact u_apply i (k0_pay4 (F := Ideal) x1) x6 (k0_off1_inb i) r k
  refine ⟨fun x => ?_, fun x => ?_, fun x => ?_, fun x => ?_, fun x => ?_, fun x => ?_, fun x => ?_, fun x => ?_, trivial⟩
  · refine Eq.trans ?_ (inPieceZ 1792 (by omega) inb_S144x2048_S144x256_0_1792 U inb_S144x1024_S144x512_0_0 inb_S144x1024_S144x512_0_512 x6 x7 x8 (i 0) inb_S1x512x4384_S1x512x256_0_0_1792 slices_S8x4384_o0_1792_S4x256 slices_S8x4384_o4_1792_S4x256 _ hU x)
    rfl
  · refine Eq.trans ?_ (inPieceZ 1536 (by omega) inb_S144x2048_S144x256_0_1536 U inb_S144x1024_S144x512_0_0 inb_S144x1024_S144x512_0_512 x6 x7 x8 (i 0) inb_S1x512x4384_S1x512x256_0_0_1536 slices_S8x4384_o0_1536_S4x256 slices_S8x4384_o4_1536_S4x256 _ hU x)
    rfl
  · refine Eq.trans ?_ (inPieceZ 1280 (by omega) inb_S144x2048_S144x256_0_1280 U inb_S144x1024_S144x512_0_0 inb_S144x1024_S144x512_0_512 x6 x7 x8 (i 0) inb_S1x512x4384_S1x512x256_0_0_1280 slices_S8x4384_o0_1280_S4x256 slices_S8x4384_o4_1280_S4x256 _ hU x)
    rfl
  · refine Eq.trans ?_ (inPieceZ 1024 (by omega) inb_S144x2048_S144x256_0_1024 U inb_S144x1024_S144x512_0_0 inb_S144x1024_S144x512_0_512 x6 x7 x8 (i 0) inb_S1x512x4384_S1x512x256_0_0_1024 slices_S8x4384_o0_1024_S4x256 slices_S8x4384_o4_1024_S4x256 _ hU x)
    rfl
  · refine Eq.trans ?_ (inPieceZ 768 (by omega) inb_S144x2048_S144x256_0_768 U inb_S144x1024_S144x512_0_0 inb_S144x1024_S144x512_0_512 x6 x7 x8 (i 0) inb_S1x512x4384_S1x512x256_0_0_768 slices_S8x4384_o0_768_S4x256 slices_S8x4384_o4_768_S4x256 _ hU x)
    rfl
  · refine Eq.trans ?_ (inPieceZ 512 (by omega) inb_S144x2048_S144x256_0_512 U inb_S144x1024_S144x512_0_0 inb_S144x1024_S144x512_0_512 x6 x7 x8 (i 0) inb_S1x512x4384_S1x512x256_0_0_512 slices_S8x4384_o0_512_S4x256 slices_S8x4384_o4_512_S4x256 _ hU x)
    rfl
  · refine Eq.trans ?_ (inPieceZ 256 (by omega) inb_S144x2048_S144x256_0_256 U inb_S144x1024_S144x512_0_0 inb_S144x1024_S144x512_0_512 x6 x7 x8 (i 0) inb_S1x512x4384_S1x512x256_0_0_256 slices_S8x4384_o0_256_S4x256 slices_S8x4384_o4_256_S4x256 _ hU x)
    rfl
  · refine Eq.trans ?_ (inPieceZ 0 (by omega) inb_S144x2048_S144x256_0_0 U inb_S144x1024_S144x512_0_0 inb_S144x1024_S144x512_0_512 x6 x7 x8 (i 0) inb_S1x512x4384_S1x512x256_0_0_0 slices_S8x4384_o0_0_S4x256 slices_S8x4384_o4_0_S4x256 _ hU x)
    rfl

/-- The gated columns' buffer, read after its tiles are stored. -/
theorem aWord (c : Dev nD) (i : grid0.Coords) (arg2 : Memref sig .tc .vmem S144x1024 .bf16) (harg2 : arg2.IsWhole) (arg7 : Memref sig .tc .vmem S14x1024 .f32) (harg7 : arg7.IsWhole) (arg8 : Memref sig .tc .vmem S1x512x4384 .i8) (harg8 : arg8.IsWhole) (arg9 : Memref sig .tc .vmem S1x8x4384 .bf16) (harg9 : arg9.IsWhole) (arg18 : Memref sig .tc .vmem S1x144x2048 .f32) (harg18 : arg18.IsWhole) (arg23 : Memref sig .tc .vmem S144x1024 .f32) (arg24 : Memref sig .tc .vmem S144x1024 .bf16) (arg25 : Memref sig .tc .vmem S144x2048 .f32) (x1 : Vec Ideal S144x1024 .bf16) (x6 : Vec Ideal S14x1024 .f32) (x7 : Vec Ideal S1x512x4384 .i8) (x8 : Vec Ideal S1x8x4384 .bf16) (x17 : Vec Ideal S1x144x2048 .f32)
    {sp : Space} (v : View sig .tc sp S144x2048 .f32) (r : Rect S144x2048) :
    v.readCov (Val := Elt Ideal) (kernelRun0_A.sl.HS12_48 (F := Ideal) c i arg2 harg2 arg7 harg7 arg8 harg8 arg9 harg9 arg18 harg18 arg23 arg24 arg25 x1 x6 x7 x8 x17) r.toLoadRect
      = View.ld (Val := Elt Ideal) (aOf (i 0) x6 x7 x8 x17 (fun r k => (k0_pay4 (F := Ideal) x1) (ix2 r k))) r := by
  refine read_of _ _ ?_ (fun y => View.cover_of_tiledL (kernelRun0_A.sl.HS12_48 (F := Ideal) c i arg2 harg2 arg7 harg7 arg8 harg8 arg9 harg9 arg18 harg18 arg23 arg24 arg25 x1 x6 x7 x8 x17) S24x256.size (by sl_kernel_rfl) y) v r
  simp only [kernelRun0_A.sl.HS12_48, kernelRun0_A.sl.v1489, kernelRun0_A.sl.v1504, kernelRun0_A.sl.v1519, kernelRun0_A.sl.v1534, kernelRun0_A.sl.v1549, kernelRun0_A.sl.v1564, kernelRun0_A.sl.v1579, kernelRun0_A.sl.v1594, kernelRun0_A.sl.v1609, kernelRun0_A.sl.v1624, kernelRun0_A.sl.v1639, kernelRun0_A.sl.v1654, kernelRun0_A.sl.v1669, kernelRun0_A.sl.v1684, kernelRun0_A.sl.v1694, kernelRun0_A.sl.v1699, kernelRun0_A.sl.v1714, kernelRun0_A.sl.v1729, kernelRun0_A.sl.v1744, kernelRun0_A.sl.v1759, kernelRun0_A.sl.v1774, kernelRun0_A.sl.v1789, kernelRun0_A.sl.v1804, kernelRun0_A.sl.v1819, kernelRun0_A.sl.v1834, kernelRun0_A.sl.v1849, kernelRun0_A.sl.v1864, kernelRun0_A.sl.v1879, kernelRun0_A.sl.v1894, kernelRun0_A.sl.v1909, kernelRun0_A.sl.v1924, kernelRun0_A.sl.v1939, kernelRun0_A.sl.v1954, kernelRun0_A.sl.v1969, kernelRun0_A.sl.v1984, kernelRun0_A.sl.v1999, kernelRun0_A.sl.v2014, kernelRun0_A.sl.v2029, kernelRun0_A.sl.v2044, kernelRun0_A.sl.v2059, kernelRun0_A.sl.v2074, kernelRun0_A.sl.v2089, kernelRun0_A.sl.v2104, kernelRun0_A.sl.v2119, kernelRun0_A.sl.v2134, kernelRun0_A.sl.v2144, kernelRun0_A.sl.v2149, kernelRun0_A.sl.v2164, kernelRun0_A.sl.v2179, kernelRun0_A.sl.v2194, kernelRun0_A.sl.r_100, kernelRun0_A.sl.r_101, kernelRun0_A.sl.r_102, kernelRun0_A.sl.r_103, kernelRun0_A.sl.r_104, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.cst_605, zWord, View.readAt_eq_ld, Memref.IsWhole.read_unread]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact Eq.trans rfl (gatePiece 120 1792 (by omega) (by omega) inb_S144x2048_S24x256_120_1792 (i 0) x6 x7 x8 x17 (fun r k => (k0_pay4 (F := Ideal) x1) (ix2 r k)) inb_S1x144x2048_S1x24x256_0_120_1792 inb_S144x2048_S24x256_120_1792 x)
  · exact Eq.trans rfl (gatePiece 120 1536 (by omega) (by omega) inb_S144x2048_S24x256_120_1536 (i 0) x6 x7 x8 x17 (fun r k => (k0_pay4 (F := Ideal) x1) (ix2 r k)) inb_S1x144x2048_S1x24x256_0_120_1536 inb_S144x2048_S24x256_120_1536 x)
  · exact Eq.trans rfl (gatePiece 120 1280 (by omega) (by omega) inb_S144x2048_S24x256_120_1280 (i 0) x6 x7 x8 x17 (fun r k => (k0_pay4 (F := Ideal) x1) (ix2 r k)) inb_S1x144x2048_S1x24x256_0_120_1280 inb_S144x2048_S24x256_120_1280 x)
  · exact Eq.trans rfl (gatePiece 120 1024 (by omega) (by omega) inb_S144x2048_S24x256_120_1024 (i 0) x6 x7 x8 x17 (fun r k => (k0_pay4 (F := Ideal) x1) (ix2 r k)) inb_S1x144x2048_S1x24x256_0_120_1024 inb_S144x2048_S24x256_120_1024 x)
  · exact Eq.trans rfl (gatePiece 120 768 (by omega) (by omega) inb_S144x2048_S24x256_120_768 (i 0) x6 x7 x8 x17 (fun r k => (k0_pay4 (F := Ideal) x1) (ix2 r k)) inb_S1x144x2048_S1x24x256_0_120_768 inb_S144x2048_S24x256_120_768 x)
  · exact Eq.trans rfl (gatePiece 120 512 (by omega) (by omega) inb_S144x2048_S24x256_120_512 (i 0) x6 x7 x8 x17 (fun r k => (k0_pay4 (F := Ideal) x1) (ix2 r k)) inb_S1x144x2048_S1x24x256_0_120_512 inb_S144x2048_S24x256_120_512 x)
  · exact Eq.trans rfl (gatePiece 120 256 (by omega) (by omega) inb_S144x2048_S24x256_120_256 (i 0) x6 x7 x8 x17 (fun r k => (k0_pay4 (F := Ideal) x1) (ix2 r k)) inb_S1x144x2048_S1x24x256_0_120_256 inb_S144x2048_S24x256_120_256 x)
  · exact Eq.trans rfl (gatePiece 120 0 (by omega) (by omega) inb_S144x2048_S24x256_120_0 (i 0) x6 x7 x8 x17 (fun r k => (k0_pay4 (F := Ideal) x1) (ix2 r k)) inb_S1x144x2048_S1x24x256_0_120_0 inb_S144x2048_S24x256_120_0 x)
  · exact Eq.trans rfl (gatePiece 96 1792 (by omega) (by omega) inb_S144x2048_S24x256_96_1792 (i 0) x6 x7 x8 x17 (fun r k => (k0_pay4 (F := Ideal) x1) (ix2 r k)) inb_S1x144x2048_S1x24x256_0_96_1792 inb_S144x2048_S24x256_96_1792 x)
  · exact Eq.trans rfl (gatePiece 96 1536 (by omega) (by omega) inb_S144x2048_S24x256_96_1536 (i 0) x6 x7 x8 x17 (fun r k => (k0_pay4 (F := Ideal) x1) (ix2 r k)) inb_S1x144x2048_S1x24x256_0_96_1536 inb_S144x2048_S24x256_96_1536 x)
  · exact Eq.trans rfl (gatePiece 96 1280 (by omega) (by omega) inb_S144x2048_S24x256_96_1280 (i 0) x6 x7 x8 x17 (fun r k => (k0_pay4 (F := Ideal) x1) (ix2 r k)) inb_S1x144x2048_S1x24x256_0_96_1280 inb_S144x2048_S24x256_96_1280 x)
  · exact Eq.trans rfl (gatePiece 96 1024 (by omega) (by omega) inb_S144x2048_S24x256_96_1024 (i 0) x6 x7 x8 x17 (fun r k => (k0_pay4 (F := Ideal) x1) (ix2 r k)) inb_S1x144x2048_S1x24x256_0_96_1024 inb_S144x2048_S24x256_96_1024 x)
  · exact Eq.trans rfl (gatePiece 96 768 (by omega) (by omega) inb_S144x2048_S24x256_96_768 (i 0) x6 x7 x8 x17 (fun r k => (k0_pay4 (F := Ideal) x1) (ix2 r k)) inb_S1x144x2048_S1x24x256_0_96_768 inb_S144x2048_S24x256_96_768 x)
  · exact Eq.trans rfl (gatePiece 96 512 (by omega) (by omega) inb_S144x2048_S24x256_96_512 (i 0) x6 x7 x8 x17 (fun r k => (k0_pay4 (F := Ideal) x1) (ix2 r k)) inb_S1x144x2048_S1x24x256_0_96_512 inb_S144x2048_S24x256_96_512 x)
  · exact Eq.trans rfl (gatePiece 96 256 (by omega) (by omega) inb_S144x2048_S24x256_96_256 (i 0) x6 x7 x8 x17 (fun r k => (k0_pay4 (F := Ideal) x1) (ix2 r k)) inb_S1x144x2048_S1x24x256_0_96_256 inb_S144x2048_S24x256_96_256 x)
  · exact Eq.trans rfl (gatePiece 96 0 (by omega) (by omega) inb_S144x2048_S24x256_96_0 (i 0) x6 x7 x8 x17 (fun r k => (k0_pay4 (F := Ideal) x1) (ix2 r k)) inb_S1x144x2048_S1x24x256_0_96_0 inb_S144x2048_S24x256_96_0 x)
  · exact Eq.trans rfl (gatePiece 72 1792 (by omega) (by omega) inb_S144x2048_S24x256_72_1792 (i 0) x6 x7 x8 x17 (fun r k => (k0_pay4 (F := Ideal) x1) (ix2 r k)) inb_S1x144x2048_S1x24x256_0_72_1792 inb_S144x2048_S24x256_72_1792 x)
  · exact Eq.trans rfl (gatePiece 72 1536 (by omega) (by omega) inb_S144x2048_S24x256_72_1536 (i 0) x6 x7 x8 x17 (fun r k => (k0_pay4 (F := Ideal) x1) (ix2 r k)) inb_S1x144x2048_S1x24x256_0_72_1536 inb_S144x2048_S24x256_72_1536 x)
  · exact Eq.trans rfl (gatePiece 72 1280 (by omega) (by omega) inb_S144x2048_S24x256_72_1280 (i 0) x6 x7 x8 x17 (fun r k => (k0_pay4 (F := Ideal) x1) (ix2 r k)) inb_S1x144x2048_S1x24x256_0_72_1280 inb_S144x2048_S24x256_72_1280 x)
  · exact Eq.trans rfl (gatePiece 72 1024 (by omega) (by omega) inb_S144x2048_S24x256_72_1024 (i 0) x6 x7 x8 x17 (fun r k => (k0_pay4 (F := Ideal) x1) (ix2 r k)) inb_S1x144x2048_S1x24x256_0_72_1024 inb_S144x2048_S24x256_72_1024 x)
  · exact Eq.trans rfl (gatePiece 72 768 (by omega) (by omega) inb_S144x2048_S24x256_72_768 (i 0) x6 x7 x8 x17 (fun r k => (k0_pay4 (F := Ideal) x1) (ix2 r k)) inb_S1x144x2048_S1x24x256_0_72_768 inb_S144x2048_S24x256_72_768 x)
  · exact Eq.trans rfl (gatePiece 72 512 (by omega) (by omega) inb_S144x2048_S24x256_72_512 (i 0) x6 x7 x8 x17 (fun r k => (k0_pay4 (F := Ideal) x1) (ix2 r k)) inb_S1x144x2048_S1x24x256_0_72_512 inb_S144x2048_S24x256_72_512 x)
  · exact Eq.trans rfl (gatePiece 72 256 (by omega) (by omega) inb_S144x2048_S24x256_72_256 (i 0) x6 x7 x8 x17 (fun r k => (k0_pay4 (F := Ideal) x1) (ix2 r k)) inb_S1x144x2048_S1x24x256_0_72_256 inb_S144x2048_S24x256_72_256 x)
  · exact Eq.trans rfl (gatePiece 72 0 (by omega) (by omega) inb_S144x2048_S24x256_72_0 (i 0) x6 x7 x8 x17 (fun r k => (k0_pay4 (F := Ideal) x1) (ix2 r k)) inb_S1x144x2048_S1x24x256_0_72_0 inb_S144x2048_S24x256_72_0 x)
  · exact Eq.trans rfl (gatePiece 48 1792 (by omega) (by omega) inb_S144x2048_S24x256_48_1792 (i 0) x6 x7 x8 x17 (fun r k => (k0_pay4 (F := Ideal) x1) (ix2 r k)) inb_S1x144x2048_S1x24x256_0_48_1792 inb_S144x2048_S24x256_48_1792 x)
  · exact Eq.trans rfl (gatePiece 48 1536 (by omega) (by omega) inb_S144x2048_S24x256_48_1536 (i 0) x6 x7 x8 x17 (fun r k => (k0_pay4 (F := Ideal) x1) (ix2 r k)) inb_S1x144x2048_S1x24x256_0_48_1536 inb_S144x2048_S24x256_48_1536 x)
  · exact Eq.trans rfl (gatePiece 48 1280 (by omega) (by omega) inb_S144x2048_S24x256_48_1280 (i 0) x6 x7 x8 x17 (fun r k => (k0_pay4 (F := Ideal) x1) (ix2 r k)) inb_S1x144x2048_S1x24x256_0_48_1280 inb_S144x2048_S24x256_48_1280 x)
  · exact Eq.trans rfl (gatePiece 48 1024 (by omega) (by omega) inb_S144x2048_S24x256_48_1024 (i 0) x6 x7 x8 x17 (fun r k => (k0_pay4 (F := Ideal) x1) (ix2 r k)) inb_S1x144x2048_S1x24x256_0_48_1024 inb_S144x2048_S24x256_48_1024 x)
  · exact Eq.trans rfl (gatePiece 48 768 (by omega) (by omega) inb_S144x2048_S24x256_48_768 (i 0) x6 x7 x8 x17 (fun r k => (k0_pay4 (F := Ideal) x1) (ix2 r k)) inb_S1x144x2048_S1x24x256_0_48_768 inb_S144x2048_S24x256_48_768 x)
  · exact Eq.trans rfl (gatePiece 48 512 (by omega) (by omega) inb_S144x2048_S24x256_48_512 (i 0) x6 x7 x8 x17 (fun r k => (k0_pay4 (F := Ideal) x1) (ix2 r k)) inb_S1x144x2048_S1x24x256_0_48_512 inb_S144x2048_S24x256_48_512 x)
  · exact Eq.trans rfl (gatePiece 48 256 (by omega) (by omega) inb_S144x2048_S24x256_48_256 (i 0) x6 x7 x8 x17 (fun r k => (k0_pay4 (F := Ideal) x1) (ix2 r k)) inb_S1x144x2048_S1x24x256_0_48_256 inb_S144x2048_S24x256_48_256 x)
  · exact Eq.trans rfl (gatePiece 48 0 (by omega) (by omega) inb_S144x2048_S24x256_48_0 (i 0) x6 x7 x8 x17 (fun r k => (k0_pay4 (F := Ideal) x1) (ix2 r k)) inb_S1x144x2048_S1x24x256_0_48_0 inb_S144x2048_S24x256_48_0 x)
  · exact Eq.trans rfl (gatePiece 24 1792 (by omega) (by omega) inb_S144x2048_S24x256_24_1792 (i 0) x6 x7 x8 x17 (fun r k => (k0_pay4 (F := Ideal) x1) (ix2 r k)) inb_S1x144x2048_S1x24x256_0_24_1792 inb_S144x2048_S24x256_24_1792 x)
  · exact Eq.trans rfl (gatePiece 24 1536 (by omega) (by omega) inb_S144x2048_S24x256_24_1536 (i 0) x6 x7 x8 x17 (fun r k => (k0_pay4 (F := Ideal) x1) (ix2 r k)) inb_S1x144x2048_S1x24x256_0_24_1536 inb_S144x2048_S24x256_24_1536 x)
  · exact Eq.trans rfl (gatePiece 24 1280 (by omega) (by omega) inb_S144x2048_S24x256_24_1280 (i 0) x6 x7 x8 x17 (fun r k => (k0_pay4 (F := Ideal) x1) (ix2 r k)) inb_S1x144x2048_S1x24x256_0_24_1280 inb_S144x2048_S24x256_24_1280 x)
  · exact Eq.trans rfl (gatePiece 24 1024 (by omega) (by omega) inb_S144x2048_S24x256_24_1024 (i 0) x6 x7 x8 x17 (fun r k => (k0_pay4 (F := Ideal) x1) (ix2 r k)) inb_S1x144x2048_S1x24x256_0_24_1024 inb_S144x2048_S24x256_24_1024 x)
  · exact Eq.trans rfl (gatePiece 24 768 (by omega) (by omega) inb_S144x2048_S24x256_24_768 (i 0) x6 x7 x8 x17 (fun r k => (k0_pay4 (F := Ideal) x1) (ix2 r k)) inb_S1x144x2048_S1x24x256_0_24_768 inb_S144x2048_S24x256_24_768 x)
  · exact Eq.trans rfl (gatePiece 24 512 (by omega) (by omega) inb_S144x2048_S24x256_24_512 (i 0) x6 x7 x8 x17 (fun r k => (k0_pay4 (F := Ideal) x1) (ix2 r k)) inb_S1x144x2048_S1x24x256_0_24_512 inb_S144x2048_S24x256_24_512 x)
  · exact Eq.trans rfl (gatePiece 24 256 (by omega) (by omega) inb_S144x2048_S24x256_24_256 (i 0) x6 x7 x8 x17 (fun r k => (k0_pay4 (F := Ideal) x1) (ix2 r k)) inb_S1x144x2048_S1x24x256_0_24_256 inb_S144x2048_S24x256_24_256 x)
  · exact Eq.trans rfl (gatePiece 24 0 (by omega) (by omega) inb_S144x2048_S24x256_24_0 (i 0) x6 x7 x8 x17 (fun r k => (k0_pay4 (F := Ideal) x1) (ix2 r k)) inb_S1x144x2048_S1x24x256_0_24_0 inb_S144x2048_S24x256_24_0 x)
  · exact Eq.trans rfl (gatePiece 0 1792 (by omega) (by omega) inb_S144x2048_S24x256_0_1792 (i 0) x6 x7 x8 x17 (fun r k => (k0_pay4 (F := Ideal) x1) (ix2 r k)) inb_S1x144x2048_S1x24x256_0_0_1792 inb_S144x2048_S24x256_0_1792 x)
  · exact Eq.trans rfl (gatePiece 0 1536 (by omega) (by omega) inb_S144x2048_S24x256_0_1536 (i 0) x6 x7 x8 x17 (fun r k => (k0_pay4 (F := Ideal) x1) (ix2 r k)) inb_S1x144x2048_S1x24x256_0_0_1536 inb_S144x2048_S24x256_0_1536 x)
  · exact Eq.trans rfl (gatePiece 0 1280 (by omega) (by omega) inb_S144x2048_S24x256_0_1280 (i 0) x6 x7 x8 x17 (fun r k => (k0_pay4 (F := Ideal) x1) (ix2 r k)) inb_S1x144x2048_S1x24x256_0_0_1280 inb_S144x2048_S24x256_0_1280 x)
  · exact Eq.trans rfl (gatePiece 0 1024 (by omega) (by omega) inb_S144x2048_S24x256_0_1024 (i 0) x6 x7 x8 x17 (fun r k => (k0_pay4 (F := Ideal) x1) (ix2 r k)) inb_S1x144x2048_S1x24x256_0_0_1024 inb_S144x2048_S24x256_0_1024 x)
  · exact Eq.trans rfl (gatePiece 0 768 (by omega) (by omega) inb_S144x2048_S24x256_0_768 (i 0) x6 x7 x8 x17 (fun r k => (k0_pay4 (F := Ideal) x1) (ix2 r k)) inb_S1x144x2048_S1x24x256_0_0_768 inb_S144x2048_S24x256_0_768 x)
  · exact Eq.trans rfl (gatePiece 0 512 (by omega) (by omega) inb_S144x2048_S24x256_0_512 (i 0) x6 x7 x8 x17 (fun r k => (k0_pay4 (F := Ideal) x1) (ix2 r k)) inb_S1x144x2048_S1x24x256_0_0_512 inb_S144x2048_S24x256_0_512 x)
  · exact Eq.trans rfl (gatePiece 0 256 (by omega) (by omega) inb_S144x2048_S24x256_0_256 (i 0) x6 x7 x8 x17 (fun r k => (k0_pay4 (F := Ideal) x1) (ix2 r k)) inb_S1x144x2048_S1x24x256_0_0_256 inb_S144x2048_S24x256_0_256 x)
  · exact Eq.trans rfl (gatePiece 0 0 (by omega) (by omega) inb_S144x2048_S24x256_0_0 (i 0) x6 x7 x8 x17 (fun r k => (k0_pay4 (F := Ideal) x1) (ix2 r k)) inb_S1x144x2048_S1x24x256_0_0_0 inb_S144x2048_S24x256_0_0 x)

/-- The mix stored is the whole of its block. -/
theorem mixPieces (c : Dev nD) (i : grid0.Coords) (arg2 : Memref sig .tc .vmem S144x1024 .bf16) (harg2 : arg2.IsWhole) (arg7 : Memref sig .tc .vmem S14x1024 .f32) (harg7 : arg7.IsWhole) (arg8 : Memref sig .tc .vmem S1x512x4384 .i8) (harg8 : arg8.IsWhole) (arg9 : Memref sig .tc .vmem S1x8x4384 .bf16) (harg9 : arg9.IsWhole) (arg15 : Memref sig .tc .vmem S14x2048 .f32) (harg15 : arg15.IsWhole) (arg18 : Memref sig .tc .vmem S1x144x2048 .f32) (harg18 : arg18.IsWhole) (arg23 : Memref sig .tc .vmem S144x1024 .f32) (arg24 : Memref sig .tc .vmem S144x1024 .bf16) (arg25 : Memref sig .tc .vmem S144x2048 .f32) (arg35 : Memref sig .tc .vmem S144x2048 .f32) (x1 : Vec Ideal S144x1024 .bf16) (x6 : Vec Ideal S14x1024 .f32) (x7 : Vec Ideal S1x512x4384 .i8) (x8 : Vec Ideal S1x8x4384 .bf16) (x14 : Vec Ideal S14x2048 .f32) (x17 : Vec Ideal S1x144x2048 .f32) :
    View.PiecesOf (mOf (i 0) x6 x7 x8 x14 x17 (fun r k => (k0_pay4 (F := Ideal) x1) (ix2 r k))) (kernelRun0_A.sl.H19_1 (F := Ideal) c i arg2 harg2 arg7 harg7 arg8 harg8 arg9 harg9 arg15 harg15 arg18 harg18 arg23 arg24 arg25 arg35 x1 x6 x7 x8 x14 x17) := by
  simp only [kernelRun0_A.sl.H19_1, kernelRun0_A.sl.v2207, kernelRun0_A.sl.r_105, aWord, View.readAt_eq_ld, Memref.IsWhole.read_unread, View.ld_unit_zero (S := S144x2048) z2]
  exact ⟨fun x => Eq.trans rfl (mixPiece inb_S1x144x2048_S1x144x2048_0_0_0 i x6 x7 x8 x14 x17 (fun r k => (k0_pay4 (F := Ideal) x1) (ix2 r k)) (k0_off2_inb i) x), trivial⟩

/-- The mix's block, read after it is stored. -/
theorem mWord (c : Dev nD) (i : grid0.Coords) (arg2 : Memref sig .tc .vmem S144x1024 .bf16) (harg2 : arg2.IsWhole) (arg7 : Memref sig .tc .vmem S14x1024 .f32) (harg7 : arg7.IsWhole) (arg8 : Memref sig .tc .vmem S1x512x4384 .i8) (harg8 : arg8.IsWhole) (arg9 : Memref sig .tc .vmem S1x8x4384 .bf16) (harg9 : arg9.IsWhole) (arg15 : Memref sig .tc .vmem S14x2048 .f32) (harg15 : arg15.IsWhole) (arg18 : Memref sig .tc .vmem S1x144x2048 .f32) (harg18 : arg18.IsWhole) (arg23 : Memref sig .tc .vmem S144x1024 .f32) (arg24 : Memref sig .tc .vmem S144x1024 .bf16) (arg25 : Memref sig .tc .vmem S144x2048 .f32) (arg35 : Memref sig .tc .vmem S144x2048 .f32) (x1 : Vec Ideal S144x1024 .bf16) (x6 : Vec Ideal S14x1024 .f32) (x7 : Vec Ideal S1x512x4384 .i8) (x8 : Vec Ideal S1x8x4384 .bf16) (x14 : Vec Ideal S14x2048 .f32) (x17 : Vec Ideal S1x144x2048 .f32)
    {sp : Space} (v : View sig .tc sp S1x144x2048 .bf16) (r : Rect S1x144x2048) :
    v.readCov (Val := Elt Ideal) (kernelRun0_A.sl.H19_1 (F := Ideal) c i arg2 harg2 arg7 harg7 arg8 harg8 arg9 harg9 arg15 harg15 arg18 harg18 arg23 arg24 arg25 arg35 x1 x6 x7 x8 x14 x17) r.toLoadRect
      = View.ld (Val := Elt Ideal) (mOf (i 0) x6 x7 x8 x14 x17 (fun r k => (k0_pay4 (F := Ideal) x1) (ix2 r k))) r :=
  read_of _ _ (mixPieces c i arg2 harg2 arg7 harg7 arg8 harg8 arg9 harg9 arg15 harg15 arg18 harg18 arg23 arg24 arg25 arg35 x1 x6 x7 x8 x14 x17) (fun y => View.cover_of_tiledL (kernelRun0_A.sl.H19_1 (F := Ideal) c i arg2 harg2 arg7 harg7 arg8 harg8 arg9 harg9 arg15 harg15 arg18 harg18 arg23 arg24 arg25 arg35 x1 x6 x7 x8 x14 x17) S1x144x2048.size (by sl_kernel_rfl) y) v r

/-- The second output's block. -/
theorem out19 (c : Dev nD) (i : grid0.Coords) (arg1 : Memref sig .tc .smem S6 .i32) (harg1 : arg1.IsWhole) (arg2 : Memref sig .tc .vmem S144x1024 .bf16) (harg2 : arg2.IsWhole) (arg3 : Memref sig .tc .vmem S1x6x2048x128 .i8) (harg3 : arg3.IsWhole) (arg4 : Memref sig .tc .vmem S1x6x32x64 .f32) (harg4 : arg4.IsWhole) (arg5 : Memref sig .tc .vmem S1x6x3x2304 .i8) (harg5 : arg5.IsWhole) (arg6 : Memref sig .tc .vmem S14x2304 .f32) (harg6 : arg6.IsWhole) (arg7 : Memref sig .tc .vmem S14x1024 .f32) (harg7 : arg7.IsWhole) (arg8 : Memref sig .tc .vmem S1x512x4384 .i8) (harg8 : arg8.IsWhole) (arg9 : Memref sig .tc .vmem S1x8x4384 .bf16) (harg9 : arg9.IsWhole) (arg10 : Memref sig .tc .vmem S1x4x2304 .f32) (harg10 : arg10.IsWhole) (arg11 : Memref sig .tc .vmem S14x2304 .f32) (harg11 : arg11.IsWhole) (arg12 : Memref sig .tc .vmem S14x32 .f32) (harg12 : arg12.IsWhole) (arg13 : Memref sig .tc .vmem S14x32 .f32) (harg13 : arg13.IsWhole) (arg14 : Memref sig .tc .vmem S14x32 .f32) (harg14 : arg14.IsWhole) (arg15 : Memref sig .tc .vmem S14x2048 .f32) (harg15 : arg15.IsWhole) (arg16 : Memref sig .tc .vmem S1x2048x512 .i8) (harg16 : arg16.IsWhole) (arg17 : Memref sig .tc .vmem S1x16x1024 .bf16) (harg17 : arg17.IsWhole) (arg18 : Memref sig .tc .vmem S1x144x2048 .f32) (harg18 : arg18.IsWhole) (arg19 : Memref sig .tc .vmem S1x144x1024 .f32) (harg19 : arg19.IsWhole) (arg20 : Memref sig .tc .vmem S1x144x2048 .bf16) (harg20 : arg20.IsWhole) (arg21 : Memref sig .tc .vmem S1x144x2304 .f32) (harg21 : arg21.IsWhole) (arg22 : Memref sig .tc .vmem S1x144x32 .f32) (harg22 : arg22.IsWhole) (arg23 : Memref sig .tc .vmem S144x1024 .f32) (harg23 : arg23.IsWhole) (arg24 : Memref sig .tc .vmem S144x1024 .bf16) (harg24 : arg24.IsWhole) (arg25 : Memref sig .tc .vmem S144x2048 .f32) (harg25 : arg25.IsWhole) (arg26 : Memref sig .tc .vmem S18x192x128 .f32) (harg26 : arg26.IsWhole) (arg27 : Memref sig .tc .vmem S144x2048 .f32) (harg27 : arg27.IsWhole) (arg28 : Memref sig .tc .vmem S2x144x128 .f32) (harg28 : arg28.IsWhole) (arg29 : Memref sig .tc .vmem S144x32 .f32) (harg29 : arg29.IsWhole) (arg30 : Memref sig .tc .vmem S96x2048 .bf16) (harg30 : arg30.IsWhole) (arg31 : Memref sig .tc .vmem S96x1024 .bf16) (harg31 : arg31.IsWhole) (arg32 : Memref sig .tc .vmem S296x2048 .f32) (harg32 : arg32.IsWhole) (arg33 : Memref sig .tc .vmem S288x1024 .f32) (harg33 : arg33.IsWhole) (arg34 : Memref sig .tc .vmem S144x144 .bf16) (harg34 : arg34.IsWhole) (arg35 : Memref sig .tc .vmem S144x2048 .f32) (harg35 : arg35.IsWhole) (hc0 : cond0_0 i)    (x0 : Vec Ideal S6 .i32) (x1 : Vec Ideal S144x1024 .bf16) (x2 : Vec Ideal S1x6x2048x128 .i8) (x3 : Vec Ideal S1x6x32x64 .f32) (x4 : Vec Ideal S1x6x3x2304 .i8) (x5 : Vec Ideal S14x2304 .f32) (x6 : Vec Ideal S14x1024 .f32) (x7 : Vec Ideal S1x512x4384 .i8) (x8 : Vec Ideal S1x8x4384 .bf16) (x9 : Vec Ideal S1x4x2304 .f32) (x10 : Vec Ideal S14x2304 .f32) (x11 : Vec Ideal S14x32 .f32) (x12 : Vec Ideal S14x32 .f32) (x13 : Vec Ideal S14x32 .f32) (x14 : Vec Ideal S14x2048 .f32) (x15 : Vec Ideal S1x2048x512 .i8) (x16 : Vec Ideal S1x16x1024 .bf16) (x17 : Vec Ideal S1x144x2048 .f32) (y : S1x144x2048.Idx) :
    out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 y = mixOf (blkPar (i 0) x6 x7 x8 x14 x15 x16 x17) (fun r k => (k0_pay4 (F := Ideal) x1) (ix2 r k)) y := by
  unfold out0_A_19
  rw [View.read_writes_eq_canon (Val := Elt Ideal) _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17)]
  refine canon_of (mOf (i 0) x6 x7 x8 x14 x17 (fun r k => (k0_pay4 (F := Ideal) x1) (ix2 r k))) _ ?_ y (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 y)
  unfold kernelRun0_A
  exact mixPieces c i arg2 harg2 arg7 harg7 arg8 harg8 arg9 harg9 arg15 harg15 arg18 harg18 arg23 arg24 arg25 arg35 x1 x6 x7 x8 x14 x17

/-- The third output's block. -/
theorem out20 (c : Dev nD) (i : grid0.Coords) (arg1 : Memref sig .tc .smem S6 .i32) (harg1 : arg1.IsWhole) (arg2 : Memref sig .tc .vmem S144x1024 .bf16) (harg2 : arg2.IsWhole) (arg3 : Memref sig .tc .vmem S1x6x2048x128 .i8) (harg3 : arg3.IsWhole) (arg4 : Memref sig .tc .vmem S1x6x32x64 .f32) (harg4 : arg4.IsWhole) (arg5 : Memref sig .tc .vmem S1x6x3x2304 .i8) (harg5 : arg5.IsWhole) (arg6 : Memref sig .tc .vmem S14x2304 .f32) (harg6 : arg6.IsWhole) (arg7 : Memref sig .tc .vmem S14x1024 .f32) (harg7 : arg7.IsWhole) (arg8 : Memref sig .tc .vmem S1x512x4384 .i8) (harg8 : arg8.IsWhole) (arg9 : Memref sig .tc .vmem S1x8x4384 .bf16) (harg9 : arg9.IsWhole) (arg10 : Memref sig .tc .vmem S1x4x2304 .f32) (harg10 : arg10.IsWhole) (arg11 : Memref sig .tc .vmem S14x2304 .f32) (harg11 : arg11.IsWhole) (arg12 : Memref sig .tc .vmem S14x32 .f32) (harg12 : arg12.IsWhole) (arg13 : Memref sig .tc .vmem S14x32 .f32) (harg13 : arg13.IsWhole) (arg14 : Memref sig .tc .vmem S14x32 .f32) (harg14 : arg14.IsWhole) (arg15 : Memref sig .tc .vmem S14x2048 .f32) (harg15 : arg15.IsWhole) (arg16 : Memref sig .tc .vmem S1x2048x512 .i8) (harg16 : arg16.IsWhole) (arg17 : Memref sig .tc .vmem S1x16x1024 .bf16) (harg17 : arg17.IsWhole) (arg18 : Memref sig .tc .vmem S1x144x2048 .f32) (harg18 : arg18.IsWhole) (arg19 : Memref sig .tc .vmem S1x144x1024 .f32) (harg19 : arg19.IsWhole) (arg20 : Memref sig .tc .vmem S1x144x2048 .bf16) (harg20 : arg20.IsWhole) (arg21 : Memref sig .tc .vmem S1x144x2304 .f32) (harg21 : arg21.IsWhole) (arg22 : Memref sig .tc .vmem S1x144x32 .f32) (harg22 : arg22.IsWhole) (arg23 : Memref sig .tc .vmem S144x1024 .f32) (harg23 : arg23.IsWhole) (arg24 : Memref sig .tc .vmem S144x1024 .bf16) (harg24 : arg24.IsWhole) (arg25 : Memref sig .tc .vmem S144x2048 .f32) (harg25 : arg25.IsWhole) (arg26 : Memref sig .tc .vmem S18x192x128 .f32) (harg26 : arg26.IsWhole) (arg27 : Memref sig .tc .vmem S144x2048 .f32) (harg27 : arg27.IsWhole) (arg28 : Memref sig .tc .vmem S2x144x128 .f32) (harg28 : arg28.IsWhole) (arg29 : Memref sig .tc .vmem S144x32 .f32) (harg29 : arg29.IsWhole) (arg30 : Memref sig .tc .vmem S96x2048 .bf16) (harg30 : arg30.IsWhole) (arg31 : Memref sig .tc .vmem S96x1024 .bf16) (harg31 : arg31.IsWhole) (arg32 : Memref sig .tc .vmem S296x2048 .f32) (harg32 : arg32.IsWhole) (arg33 : Memref sig .tc .vmem S288x1024 .f32) (harg33 : arg33.IsWhole) (arg34 : Memref sig .tc .vmem S144x144 .bf16) (harg34 : arg34.IsWhole) (arg35 : Memref sig .tc .vmem S144x2048 .f32) (harg35 : arg35.IsWhole) (hc0 : cond0_0 i)    (x0 : Vec Ideal S6 .i32) (x1 : Vec Ideal S144x1024 .bf16) (x2 : Vec Ideal S1x6x2048x128 .i8) (x3 : Vec Ideal S1x6x32x64 .f32) (x4 : Vec Ideal S1x6x3x2304 .i8) (x5 : Vec Ideal S14x2304 .f32) (x6 : Vec Ideal S14x1024 .f32) (x7 : Vec Ideal S1x512x4384 .i8) (x8 : Vec Ideal S1x8x4384 .bf16) (x9 : Vec Ideal S1x4x2304 .f32) (x10 : Vec Ideal S14x2304 .f32) (x11 : Vec Ideal S14x32 .f32) (x12 : Vec Ideal S14x32 .f32) (x13 : Vec Ideal S14x32 .f32) (x14 : Vec Ideal S14x2048 .f32) (x15 : Vec Ideal S1x2048x512 .i8) (x16 : Vec Ideal S1x16x1024 .bf16) (x17 : Vec Ideal S1x144x2048 .f32) (y : S1x144x2304.Idx) :
    out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 y = xbcOf (blkPar (i 0) x6 x7 x8 x14 x15 x16 x17) (fun r k => (k0_pay4 (F := Ideal) x1) (ix2 r k)) y := by
  unfold out0_A_20
  rw [View.read_writes_eq_canon (Val := Elt Ideal) _ _ _ (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17)]
  refine canon_of (xbcOf (blkPar (i 0) x6 x7 x8 x14 x15 x16 x17) (fun r k => (k0_pay4 (F := Ideal) x1) (ix2 r k))) _ ?_ y (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 y)
  unfold kernelRun0_A
  dsimp only
  sl_unfold_words
  simp only [View.readAt_eq_ld, Memref.IsWhole.read_unread, View.ld_unit_zero (S := S1x8x4384) z3, View.ld_unit_zero (S := S144x1024) z2, View.ld_unit_zero (S := S1x16x1024) z3, rFill]
  simp only [uFill]
  generalize hUU : k0_pay5 (F := Ideal) (k0_pay4 (F := Ideal) x1) _ = U
  have hU : ∀ (r : Fin 144) (k : Fin 1024), U (ix2 r k) = normed 1024 (fun r k => (k0_pay4 (F := Ideal) x1) (ix2 r k)) (fun k => x6 (ix2 (i 0) k)) r k := fun r k => by
    rw [← hUU]; exact u_apply i (k0_pay4 (F := Ideal) x1) x6 (k0_off1_inb i) r k
  refine ⟨fun x => ?_, fun x => ?_, fun x => ?_, fun x => ?_, fun x => ?_, fun x => ?_, fun x => ?_, fun x => ?_, fun x => ?_, trivial⟩
  · refine Eq.trans ?_ (inPiece20 2048 4096 rfl (by omega) inb_S1x144x2304_S1x144x256_0_0_2048 U inb_S144x1024_S144x512_0_0 inb_S144x1024_S144x512_0_512 x6 x7 x8 x14 x15 x16 x17 (i 0) inb_S1x512x4384_S1x512x256_0_0_4096 slices_S8x4384_o0_4096_S4x256 slices_S8x4384_o4_4096_S4x256 _ hU x)
    rfl
  · refine Eq.trans ?_ (inPiece20 1792 3840 rfl (by omega) inb_S1x144x2304_S1x144x256_0_0_1792 U inb_S144x1024_S144x512_0_0 inb_S144x1024_S144x512_0_512 x6 x7 x8 x14 x15 x16 x17 (i 0) inb_S1x512x4384_S1x512x256_0_0_3840 slices_S8x4384_o0_3840_S4x256 slices_S8x4384_o4_3840_S4x256 _ hU x)
    rfl
  · refine Eq.trans ?_ (inPiece20 1536 3584 rfl (by omega) inb_S1x144x2304_S1x144x256_0_0_1536 U inb_S144x1024_S144x512_0_0 inb_S144x1024_S144x512_0_512 x6 x7 x8 x14 x15 x16 x17 (i 0) inb_S1x512x4384_S1x512x256_0_0_3584 slices_S8x4384_o0_3584_S4x256 slices_S8x4384_o4_3584_S4x256 _ hU x)
    rfl
  · refine Eq.trans ?_ (inPiece20 1280 3328 rfl (by omega) inb_S1x144x2304_S1x144x256_0_0_1280 U inb_S144x1024_S144x512_0_0 inb_S144x1024_S144x512_0_512 x6 x7 x8 x14 x15 x16 x17 (i 0) inb_S1x512x4384_S1x512x256_0_0_3328 slices_S8x4384_o0_3328_S4x256 slices_S8x4384_o4_3328_S4x256 _ hU x)
    rfl
  · refine Eq.trans ?_ (inPiece20 1024 3072 rfl (by omega) inb_S1x144x2304_S1x144x256_0_0_1024 U inb_S144x1024_S144x512_0_0 inb_S144x1024_S144x512_0_512 x6 x7 x8 x14 x15 x16 x17 (i 0) inb_S1x512x4384_S1x512x256_0_0_3072 slices_S8x4384_o0_3072_S4x256 slices_S8x4384_o4_3072_S4x256 _ hU x)
    rfl
  · refine Eq.trans ?_ (inPiece20 768 2816 rfl (by omega) inb_S1x144x2304_S1x144x256_0_0_768 U inb_S144x1024_S144x512_0_0 inb_S144x1024_S144x512_0_512 x6 x7 x8 x14 x15 x16 x17 (i 0) inb_S1x512x4384_S1x512x256_0_0_2816 slices_S8x4384_o0_2816_S4x256 slices_S8x4384_o4_2816_S4x256 _ hU x)
    rfl
  · refine Eq.trans ?_ (inPiece20 512 2560 rfl (by omega) inb_S1x144x2304_S1x144x256_0_0_512 U inb_S144x1024_S144x512_0_0 inb_S144x1024_S144x512_0_512 x6 x7 x8 x14 x15 x16 x17 (i 0) inb_S1x512x4384_S1x512x256_0_0_2560 slices_S8x4384_o0_2560_S4x256 slices_S8x4384_o4_2560_S4x256 _ hU x)
    rfl
  · refine Eq.trans ?_ (inPiece20 256 2304 rfl (by omega) inb_S1x144x2304_S1x144x256_0_0_256 U inb_S144x1024_S144x512_0_0 inb_S144x1024_S144x512_0_512 x6 x7 x8 x14 x15 x16 x17 (i 0) inb_S1x512x4384_S1x512x256_0_0_2304 slices_S8x4384_o0_2304_S4x256 slices_S8x4384_o4_2304_S4x256 _ hU x)
    rfl
  · refine Eq.trans ?_ (inPiece20 0 2048 rfl (by omega) inb_S1x144x2304_S1x144x256_0_0_0 U inb_S144x1024_S144x512_0_0 inb_S144x1024_S144x512_0_512 x6 x7 x8 x14 x15 x16 x17 (i 0) inb_S1x512x4384_S1x512x256_0_0_2048 slices_S8x4384_o0_2048_S4x256 slices_S8x4384_o4_2048_S4x256 _ hU x)
    rfl

/-- The fourth output's block. -/
theorem out21 (c : Dev nD) (i : grid0.Coords) (arg1 : Memref sig .tc .smem S6 .i32) (harg1 : arg1.IsWhole) (arg2 : Memref sig .tc .vmem S144x1024 .bf16) (harg2 : arg2.IsWhole) (arg3 : Memref sig .tc .vmem S1x6x2048x128 .i8) (harg3 : arg3.IsWhole) (arg4 : Memref sig .tc .vmem S1x6x32x64 .f32) (harg4 : arg4.IsWhole) (arg5 : Memref sig .tc .vmem S1x6x3x2304 .i8) (harg5 : arg5.IsWhole) (arg6 : Memref sig .tc .vmem S14x2304 .f32) (harg6 : arg6.IsWhole) (arg7 : Memref sig .tc .vmem S14x1024 .f32) (harg7 : arg7.IsWhole) (arg8 : Memref sig .tc .vmem S1x512x4384 .i8) (harg8 : arg8.IsWhole) (arg9 : Memref sig .tc .vmem S1x8x4384 .bf16) (harg9 : arg9.IsWhole) (arg10 : Memref sig .tc .vmem S1x4x2304 .f32) (harg10 : arg10.IsWhole) (arg11 : Memref sig .tc .vmem S14x2304 .f32) (harg11 : arg11.IsWhole) (arg12 : Memref sig .tc .vmem S14x32 .f32) (harg12 : arg12.IsWhole) (arg13 : Memref sig .tc .vmem S14x32 .f32) (harg13 : arg13.IsWhole) (arg14 : Memref sig .tc .vmem S14x32 .f32) (harg14 : arg14.IsWhole) (arg15 : Memref sig .tc .vmem S14x2048 .f32) (harg15 : arg15.IsWhole) (arg16 : Memref sig .tc .vmem S1x2048x512 .i8) (harg16 : arg16.IsWhole) (arg17 : Memref sig .tc .vmem S1x16x1024 .bf16) (harg17 : arg17.IsWhole) (arg18 : Memref sig .tc .vmem S1x144x2048 .f32) (harg18 : arg18.IsWhole) (arg19 : Memref sig .tc .vmem S1x144x1024 .f32) (harg19 : arg19.IsWhole) (arg20 : Memref sig .tc .vmem S1x144x2048 .bf16) (harg20 : arg20.IsWhole) (arg21 : Memref sig .tc .vmem S1x144x2304 .f32) (harg21 : arg21.IsWhole) (arg22 : Memref sig .tc .vmem S1x144x32 .f32) (harg22 : arg22.IsWhole) (arg23 : Memref sig .tc .vmem S144x1024 .f32) (harg23 : arg23.IsWhole) (arg24 : Memref sig .tc .vmem S144x1024 .bf16) (harg24 : arg24.IsWhole) (arg25 : Memref sig .tc .vmem S144x2048 .f32) (harg25 : arg25.IsWhole) (arg26 : Memref sig .tc .vmem S18x192x128 .f32) (harg26 : arg26.IsWhole) (arg27 : Memref sig .tc .vmem S144x2048 .f32) (harg27 : arg27.IsWhole) (arg28 : Memref sig .tc .vmem S2x144x128 .f32) (harg28 : arg28.IsWhole) (arg29 : Memref sig .tc .vmem S144x32 .f32) (harg29 : arg29.IsWhole) (arg30 : Memref sig .tc .vmem S96x2048 .bf16) (harg30 : arg30.IsWhole) (arg31 : Memref sig .tc .vmem S96x1024 .bf16) (harg31 : arg31.IsWhole) (arg32 : Memref sig .tc .vmem S296x2048 .f32) (harg32 : arg32.IsWhole) (arg33 : Memref sig .tc .vmem S288x1024 .f32) (harg33 : arg33.IsWhole) (arg34 : Memref sig .tc .vmem S144x144 .bf16) (harg34 : arg34.IsWhole) (arg35 : Memref sig .tc .vmem S144x2048 .f32) (harg35 : arg35.IsWhole) (hc0 : cond0_0 i)    (x0 : Vec Ideal S6 .i32) (x1 : Vec Ideal S144x1024 .bf16) (x2 : Vec Ideal S1x6x2048x128 .i8) (x3 : Vec Ideal S1x6x32x64 .f32) (x4 : Vec Ideal S1x6x3x2304 .i8) (x5 : Vec Ideal S14x2304 .f32) (x6 : Vec Ideal S14x1024 .f32) (x7 : Vec Ideal S1x512x4384 .i8) (x8 : Vec Ideal S1x8x4384 .bf16) (x9 : Vec Ideal S1x4x2304 .f32) (x10 : Vec Ideal S14x2304 .f32) (x11 : Vec Ideal S14x32 .f32) (x12 : Vec Ideal S14x32 .f32) (x13 : Vec Ideal S14x32 .f32) (x14 : Vec Ideal S14x2048 .f32) (x15 : Vec Ideal S1x2048x512 .i8) (x16 : Vec Ideal S1x16x1024 .bf16) (x17 : Vec Ideal S1x144x2048 .f32) (y : S1x144x32.Idx) :
    out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 y = dtOf (blkPar (i 0) x6 x7 x8 x14 x15 x16 x17) (fun r k => (k0_pay4 (F := Ideal) x1) (ix2 r k)) y := by
  unfold out0_A_21
  rw [View.read_writes_eq_canon (Val := Elt Ideal) _ _ _ (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17)]
  refine canon_of (dtOf (blkPar (i 0) x6 x7 x8 x14 x15 x16 x17) (fun r k => (k0_pay4 (F := Ideal) x1) (ix2 r k))) _ ?_ y (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 y)
  unfold kernelRun0_A
  dsimp only
  sl_unfold_words
  simp only [View.readAt_eq_ld, Memref.IsWhole.read_unread, View.ld_unit_zero (S := S1x8x4384) z3, View.ld_unit_zero (S := S144x1024) z2, View.ld_unit_zero (S := S1x16x1024) z3, rFill]
  simp only [uFill]
  generalize hUU : k0_pay5 (F := Ideal) (k0_pay4 (F := Ideal) x1) _ = U
  have hU : ∀ (r : Fin 144) (k : Fin 1024), U (ix2 r k) = normed 1024 (fun r k => (k0_pay4 (F := Ideal) x1) (ix2 r k)) (fun k => x6 (ix2 (i 0) k)) r k := fun r k => by
    rw [← hUU]; exact u_apply i (k0_pay4 (F := Ideal) x1) x6 (k0_off1_inb i) r k
  refine ⟨fun x => ?_, trivial⟩
  refine Eq.trans ?_ (inPiece21 inb_S1x144x32_S1x144x32_0_0_0 U inb_S144x1024_S144x512_0_0 inb_S144x1024_S144x512_0_512 x6 x7 x8 x14 x15 x16 x17 (i 0) inb_S1x512x4384_S1x512x32_0_0_4352 _ hU x)
  rfl

/-- The residual's buffer, read after the first store. -/
theorem rWord (c : Dev nD) (arg2 : Memref sig .tc .vmem S144x1024 .bf16) (harg2 : arg2.IsWhole) (x1 : Vec Ideal S144x1024 .bf16) {sp : Space} (v : View sig .tc sp S144x1024 .f32) (r : Rect S144x1024) :
    v.readCov (Val := Elt Ideal) (kernelRun0_A.sl.HS0_1 (F := Ideal) c arg2 harg2 x1) r.toLoadRect = View.ld (Val := Elt Ideal) (k0_pay4 (F := Ideal) x1) r := by
  simp only [kernelRun0_A.sl.HS0_1, View.readAt_eq_ld, Memref.IsWhole.read_unread, View.ld_unit_zero (S := S1x8x4384) z3, View.ld_unit_zero (S := S144x1024) z2, View.ld_unit_zero (S := S1x16x1024) z3, rFill]

/-- The residual's columns from 512 on, read between the stores of the tiles. -/
theorem v2456 (c : Dev nD) (i : grid0.Coords) (arg2 : Memref sig .tc .vmem S144x1024 .bf16) (harg2 : arg2.IsWhole) (arg7 : Memref sig .tc .vmem S14x1024 .f32) (harg7 : arg7.IsWhole) (arg8 : Memref sig .tc .vmem S1x512x4384 .i8) (harg8 : arg8.IsWhole) (arg9 : Memref sig .tc .vmem S1x8x4384 .bf16) (harg9 : arg9.IsWhole) (arg15 : Memref sig .tc .vmem S14x2048 .f32) (harg15 : arg15.IsWhole) (arg16 : Memref sig .tc .vmem S1x2048x512 .i8) (harg16 : arg16.IsWhole) (arg17 : Memref sig .tc .vmem S1x16x1024 .bf16) (harg17 : arg17.IsWhole) (arg18 : Memref sig .tc .vmem S1x144x2048 .f32) (harg18 : arg18.IsWhole) (arg20 : Memref sig .tc .vmem S1x144x2048 .bf16) (arg23 : Memref sig .tc .vmem S144x1024 .f32) (arg24 : Memref sig .tc .vmem S144x1024 .bf16) (arg25 : Memref sig .tc .vmem S144x2048 .f32) (arg35 : Memref sig .tc .vmem S144x2048 .f32) (x1 : Vec Ideal S144x1024 .bf16) (x6 : Vec Ideal S14x1024 .f32) (x7 : Vec Ideal S1x512x4384 .i8) (x8 : Vec Ideal S1x8x4384 .bf16) (x14 : Vec Ideal S14x2048 .f32) (x15 : Vec Ideal S1x2048x512 .i8) (x16 : Vec Ideal S1x16x1024 .bf16) (x17 : Vec Ideal S1x144x2048 .f32) :
    (kernelRun0_A.sl.v2456 (F := Ideal) c i arg2 harg2 arg7 harg7 arg8 harg8 arg9 harg9 arg15 harg15 arg16 harg16 arg17 harg17 arg18 harg18 arg20 arg23 arg24 arg25 arg35 x1 x6 x7 x8 x14 x15 x16 x17) = View.ld (Val := Elt Ideal) (k0_pay4 (F := Ideal) x1) (Rect.unit (s := S144x1024) ![0, 512] S144x256.size inb_S144x1024_S144x256_0_512) :=
  (rSkip _ 0 512 inb_S144x1024_S144x256_0_0 inb_S144x1024_S144x256_0_512 _ _ (by omega)).trans (rWord c arg2 harg2 x1 arg23.view (Rect.unit (s := S144x1024) ![0, 512] S144x256.size inb_S144x1024_S144x256_0_512))

/-- The residual's columns from 256 on, read between the stores of the tiles. -/
theorem v2682 (c : Dev nD) (i : grid0.Coords) (arg2 : Memref sig .tc .vmem S144x1024 .bf16) (harg2 : arg2.IsWhole) (arg7 : Memref sig .tc .vmem S14x1024 .f32) (harg7 : arg7.IsWhole) (arg8 : Memref sig .tc .vmem S1x512x4384 .i8) (harg8 : arg8.IsWhole) (arg9 : Memref sig .tc .vmem S1x8x4384 .bf16) (harg9 : arg9.IsWhole) (arg15 : Memref sig .tc .vmem S14x2048 .f32) (harg15 : arg15.IsWhole) (arg16 : Memref sig .tc .vmem S1x2048x512 .i8) (harg16 : arg16.IsWhole) (arg17 : Memref sig .tc .vmem S1x16x1024 .bf16) (harg17 : arg17.IsWhole) (arg18 : Memref sig .tc .vmem S1x144x2048 .f32) (harg18 : arg18.IsWhole) (arg20 : Memref sig .tc .vmem S1x144x2048 .bf16) (arg23 : Memref sig .tc .vmem S144x1024 .f32) (arg24 : Memref sig .tc .vmem S144x1024 .bf16) (arg25 : Memref sig .tc .vmem S144x2048 .f32) (arg35 : Memref sig .tc .vmem S144x2048 .f32) (x1 : Vec Ideal S144x1024 .bf16) (x6 : Vec Ideal S14x1024 .f32) (x7 : Vec Ideal S1x512x4384 .i8) (x8 : Vec Ideal S1x8x4384 .bf16) (x14 : Vec Ideal S14x2048 .f32) (x15 : Vec Ideal S1x2048x512 .i8) (x16 : Vec Ideal S1x16x1024 .bf16) (x17 : Vec Ideal S1x144x2048 .f32) :
    (kernelRun0_A.sl.v2682 (F := Ideal) c i arg2 harg2 arg7 harg7 arg8 harg8 arg9 harg9 arg15 harg15 arg16 harg16 arg17 harg17 arg18 harg18 arg20 arg23 arg24 arg25 arg35 x1 x6 x7 x8 x14 x15 x16 x17) = View.ld (Val := Elt Ideal) (k0_pay4 (F := Ideal) x1) (Rect.unit (s := S144x1024) ![0, 256] S144x256.size inb_S144x1024_S144x256_0_256) :=
  (rSkip _ 512 256 inb_S144x1024_S144x256_0_512 inb_S144x1024_S144x256_0_256 _ _ (by omega)).trans ((rSkip _ 0 256 inb_S144x1024_S144x256_0_0 inb_S144x1024_S144x256_0_256 _ _ (by omega)).trans (rWord c arg2 harg2 x1 arg23.view (Rect.unit (s := S144x1024) ![0, 256] S144x256.size inb_S144x1024_S144x256_0_256)))

/-- The residual's columns from 768 on, read between the stores of the tiles. -/
theorem v2690 (c : Dev nD) (i : grid0.Coords) (arg2 : Memref sig .tc .vmem S144x1024 .bf16) (harg2 : arg2.IsWhole) (arg7 : Memref sig .tc .vmem S14x1024 .f32) (harg7 : arg7.IsWhole) (arg8 : Memref sig .tc .vmem S1x512x4384 .i8) (harg8 : arg8.IsWhole) (arg9 : Memref sig .tc .vmem S1x8x4384 .bf16) (harg9 : arg9.IsWhole) (arg15 : Memref sig .tc .vmem S14x2048 .f32) (harg15 : arg15.IsWhole) (arg16 : Memref sig .tc .vmem S1x2048x512 .i8) (harg16 : arg16.IsWhole) (arg17 : Memref sig .tc .vmem S1x16x1024 .bf16) (harg17 : arg17.IsWhole) (arg18 : Memref sig .tc .vmem S1x144x2048 .f32) (harg18 : arg18.IsWhole) (arg20 : Memref sig .tc .vmem S1x144x2048 .bf16) (arg23 : Memref sig .tc .vmem S144x1024 .f32) (arg24 : Memref sig .tc .vmem S144x1024 .bf16) (arg25 : Memref sig .tc .vmem S144x2048 .f32) (arg35 : Memref sig .tc .vmem S144x2048 .f32) (x1 : Vec Ideal S144x1024 .bf16) (x6 : Vec Ideal S14x1024 .f32) (x7 : Vec Ideal S1x512x4384 .i8) (x8 : Vec Ideal S1x8x4384 .bf16) (x14 : Vec Ideal S14x2048 .f32) (x15 : Vec Ideal S1x2048x512 .i8) (x16 : Vec Ideal S1x16x1024 .bf16) (x17 : Vec Ideal S1x144x2048 .f32) :
    (kernelRun0_A.sl.v2690 (F := Ideal) c i arg2 harg2 arg7 harg7 arg8 harg8 arg9 harg9 arg15 harg15 arg16 harg16 arg17 harg17 arg18 harg18 arg20 arg23 arg24 arg25 arg35 x1 x6 x7 x8 x14 x15 x16 x17) = View.ld (Val := Elt Ideal) (k0_pay4 (F := Ideal) x1) (Rect.unit (s := S144x1024) ![0, 768] S144x256.size inb_S144x1024_S144x256_0_768) :=
  (rSkip _ 256 768 inb_S144x1024_S144x256_0_256 inb_S144x1024_S144x256_0_768 _ _ (by omega)).trans ((rSkip _ 512 768 inb_S144x1024_S144x256_0_512 inb_S144x1024_S144x256_0_768 _ _ (by omega)).trans ((rSkip _ 0 768 inb_S144x1024_S144x256_0_0 inb_S144x1024_S144x256_0_768 _ _ (by omega)).trans (rWord c arg2 harg2 x1 arg23.view (Rect.unit (s := S144x1024) ![0, 768] S144x256.size inb_S144x1024_S144x256_0_768))))

/-- The first output's block. -/
theorem out18 (c : Dev nD) (i : grid0.Coords) (arg1 : Memref sig .tc .smem S6 .i32) (harg1 : arg1.IsWhole) (arg2 : Memref sig .tc .vmem S144x1024 .bf16) (harg2 : arg2.IsWhole) (arg3 : Memref sig .tc .vmem S1x6x2048x128 .i8) (harg3 : arg3.IsWhole) (arg4 : Memref sig .tc .vmem S1x6x32x64 .f32) (harg4 : arg4.IsWhole) (arg5 : Memref sig .tc .vmem S1x6x3x2304 .i8) (harg5 : arg5.IsWhole) (arg6 : Memref sig .tc .vmem S14x2304 .f32) (harg6 : arg6.IsWhole) (arg7 : Memref sig .tc .vmem S14x1024 .f32) (harg7 : arg7.IsWhole) (arg8 : Memref sig .tc .vmem S1x512x4384 .i8) (harg8 : arg8.IsWhole) (arg9 : Memref sig .tc .vmem S1x8x4384 .bf16) (harg9 : arg9.IsWhole) (arg10 : Memref sig .tc .vmem S1x4x2304 .f32) (harg10 : arg10.IsWhole) (arg11 : Memref sig .tc .vmem S14x2304 .f32) (harg11 : arg11.IsWhole) (arg12 : Memref sig .tc .vmem S14x32 .f32) (harg12 : arg12.IsWhole) (arg13 : Memref sig .tc .vmem S14x32 .f32) (harg13 : arg13.IsWhole) (arg14 : Memref sig .tc .vmem S14x32 .f32) (harg14 : arg14.IsWhole) (arg15 : Memref sig .tc .vmem S14x2048 .f32) (harg15 : arg15.IsWhole) (arg16 : Memref sig .tc .vmem S1x2048x512 .i8) (harg16 : arg16.IsWhole) (arg17 : Memref sig .tc .vmem S1x16x1024 .bf16) (harg17 : arg17.IsWhole) (arg18 : Memref sig .tc .vmem S1x144x2048 .f32) (harg18 : arg18.IsWhole) (arg19 : Memref sig .tc .vmem S1x144x1024 .f32) (harg19 : arg19.IsWhole) (arg20 : Memref sig .tc .vmem S1x144x2048 .bf16) (harg20 : arg20.IsWhole) (arg21 : Memref sig .tc .vmem S1x144x2304 .f32) (harg21 : arg21.IsWhole) (arg22 : Memref sig .tc .vmem S1x144x32 .f32) (harg22 : arg22.IsWhole) (arg23 : Memref sig .tc .vmem S144x1024 .f32) (harg23 : arg23.IsWhole) (arg24 : Memref sig .tc .vmem S144x1024 .bf16) (harg24 : arg24.IsWhole) (arg25 : Memref sig .tc .vmem S144x2048 .f32) (harg25 : arg25.IsWhole) (arg26 : Memref sig .tc .vmem S18x192x128 .f32) (harg26 : arg26.IsWhole) (arg27 : Memref sig .tc .vmem S144x2048 .f32) (harg27 : arg27.IsWhole) (arg28 : Memref sig .tc .vmem S2x144x128 .f32) (harg28 : arg28.IsWhole) (arg29 : Memref sig .tc .vmem S144x32 .f32) (harg29 : arg29.IsWhole) (arg30 : Memref sig .tc .vmem S96x2048 .bf16) (harg30 : arg30.IsWhole) (arg31 : Memref sig .tc .vmem S96x1024 .bf16) (harg31 : arg31.IsWhole) (arg32 : Memref sig .tc .vmem S296x2048 .f32) (harg32 : arg32.IsWhole) (arg33 : Memref sig .tc .vmem S288x1024 .f32) (harg33 : arg33.IsWhole) (arg34 : Memref sig .tc .vmem S144x144 .bf16) (harg34 : arg34.IsWhole) (arg35 : Memref sig .tc .vmem S144x2048 .f32) (harg35 : arg35.IsWhole) (hc0 : cond0_0 i)    (x0 : Vec Ideal S6 .i32) (x1 : Vec Ideal S144x1024 .bf16) (x2 : Vec Ideal S1x6x2048x128 .i8) (x3 : Vec Ideal S1x6x32x64 .f32) (x4 : Vec Ideal S1x6x3x2304 .i8) (x5 : Vec Ideal S14x2304 .f32) (x6 : Vec Ideal S14x1024 .f32) (x7 : Vec Ideal S1x512x4384 .i8) (x8 : Vec Ideal S1x8x4384 .bf16) (x9 : Vec Ideal S1x4x2304 .f32) (x10 : Vec Ideal S14x2304 .f32) (x11 : Vec Ideal S14x32 .f32) (x12 : Vec Ideal S14x32 .f32) (x13 : Vec Ideal S14x32 .f32) (x14 : Vec Ideal S14x2048 .f32) (x15 : Vec Ideal S1x2048x512 .i8) (x16 : Vec Ideal S1x16x1024 .bf16) (x17 : Vec Ideal S1x144x2048 .f32) (y : S1x144x1024.Idx) :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 y = resOf (blkPar (i 0) x6 x7 x8 x14 x15 x16 x17) (fun r k => (k0_pay4 (F := Ideal) x1) (ix2 r k)) y := by
  unfold out0_A_18
  rw [View.read_writes_eq_canon (Val := Elt Ideal) _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17)]
  refine canon_of (resOf (blkPar (i 0) x6 x7 x8 x14 x15 x16 x17) (fun r k => (k0_pay4 (F := Ideal) x1) (ix2 r k))) _ ?_ y (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 y)
  unfold kernelRun0_A
  dsimp only
  simp only [kernelRun0_A.sl.v2243, kernelRun0_A.sl.v2296, kernelRun0_A.sl.v2351, kernelRun0_A.sl.v2406, kernelRun0_A.sl.v2448, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.HS0_2, kernelRun0_A.sl.HS0_3, kernelRun0_A.sl.HS0_4, mWord, rWord, v2456, v2682, v2690, View.readAt_eq_ld, Memref.IsWhole.read_unread, View.ld_unit_zero (S := S1x8x4384) z3, View.ld_unit_zero (S := S144x1024) z2, View.ld_unit_zero (S := S1x16x1024) z3, rFill]
  refine ⟨fun x => ?_, fun x => ?_, fun x => ?_, fun x => ?_, trivial⟩
  · refine Eq.trans ?_ (up18 (blkPar (i 0) x6 x7 x8 x14 x15 x16 x17) (fun r k => (k0_pay4 (F := Ideal) x1) (ix2 r k)) 768 (by omega) inb_S1x144x1024_S1x144x256_0_0_768 _ (hiTile (k0_pay4 (F := Ideal) x1) 256 (by omega) inb_S144x1024_S144x256_0_768 (i 0) x6 x7 x8 x14 x15 x16 x17 inb_S1x144x2048_S1x144x512_0_0_0 inb_S1x144x2048_S1x144x512_0_0_512 inb_S1x144x2048_S1x144x512_0_0_1024 inb_S1x144x2048_S1x144x512_0_0_1536 inb_S1x2048x512_S1x512x256_0_0_256 inb_S1x2048x512_S1x512x256_0_512_256 inb_S1x2048x512_S1x512x256_0_1024_256 inb_S1x2048x512_S1x512x256_0_1536_256 slices_S16x1024_o0_768_S4x256 slices_S16x1024_o4_768_S4x256 slices_S16x1024_o8_768_S4x256 slices_S16x1024_o12_768_S4x256) x)
    rfl
  · refine Eq.trans ?_ (up18 (blkPar (i 0) x6 x7 x8 x14 x15 x16 x17) (fun r k => (k0_pay4 (F := Ideal) x1) (ix2 r k)) 256 (by omega) inb_S1x144x1024_S1x144x256_0_0_256 _ (loTile (k0_pay4 (F := Ideal) x1) 256 (by omega) inb_S144x1024_S144x256_0_256 (i 0) x6 x7 x8 x14 x15 x16 x17 inb_S1x144x2048_S1x144x512_0_0_0 inb_S1x144x2048_S1x144x512_0_0_512 inb_S1x144x2048_S1x144x512_0_0_1024 inb_S1x144x2048_S1x144x512_0_0_1536 inb_S1x2048x512_S1x512x256_0_0_256 inb_S1x2048x512_S1x512x256_0_512_256 inb_S1x2048x512_S1x512x256_0_1024_256 inb_S1x2048x512_S1x512x256_0_1536_256 slices_S16x1024_o0_256_S4x256 slices_S16x1024_o4_256_S4x256 slices_S16x1024_o8_256_S4x256 slices_S16x1024_o12_256_S4x256) x)
    rfl
  · refine Eq.trans ?_ (up18 (blkPar (i 0) x6 x7 x8 x14 x15 x16 x17) (fun r k => (k0_pay4 (F := Ideal) x1) (ix2 r k)) 512 (by omega) inb_S1x144x1024_S1x144x256_0_0_512 _ (hiTile (k0_pay4 (F := Ideal) x1) 0 (by omega) inb_S144x1024_S144x256_0_512 (i 0) x6 x7 x8 x14 x15 x16 x17 inb_S1x144x2048_S1x144x512_0_0_0 inb_S1x144x2048_S1x144x512_0_0_512 inb_S1x144x2048_S1x144x512_0_0_1024 inb_S1x144x2048_S1x144x512_0_0_1536 inb_S1x2048x512_S1x512x256_0_0_0 inb_S1x2048x512_S1x512x256_0_512_0 inb_S1x2048x512_S1x512x256_0_1024_0 inb_S1x2048x512_S1x512x256_0_1536_0 slices_S16x1024_o0_512_S4x256 slices_S16x1024_o4_512_S4x256 slices_S16x1024_o8_512_S4x256 slices_S16x1024_o12_512_S4x256) x)
    rfl
  · refine Eq.trans ?_ (up18 (blkPar (i 0) x6 x7 x8 x14 x15 x16 x17) (fun r k => (k0_pay4 (F := Ideal) x1) (ix2 r k)) 0 (by omega) inb_S1x144x1024_S1x144x256_0_0_0 _ (loTile (k0_pay4 (F := Ideal) x1) 0 (by omega) inb_S144x1024_S144x256_0_0 (i 0) x6 x7 x8 x14 x15 x16 x17 inb_S1x144x2048_S1x144x512_0_0_0 inb_S1x144x2048_S1x144x512_0_0_512 inb_S1x144x2048_S1x144x512_0_0_1024 inb_S1x144x2048_S1x144x512_0_0_1536 inb_S1x2048x512_S1x512x256_0_0_0 inb_S1x2048x512_S1x512x256_0_512_0 inb_S1x2048x512_S1x512x256_0_1024_0 inb_S1x2048x512_S1x512x256_0_1536_0 slices_S16x1024_o0_0_S4x256 slices_S16x1024_o4_0_S4x256 slices_S16x1024_o8_0_S4x256 slices_S16x1024_o12_0_S4x256) x)
    rfl

/-- The residual carried to the next point. -/
theorem carry (c : Dev nD) (i : grid0.Coords) (arg1 : Memref sig .tc .smem S6 .i32) (harg1 : arg1.IsWhole) (arg2 : Memref sig .tc .vmem S144x1024 .bf16) (harg2 : arg2.IsWhole) (arg3 : Memref sig .tc .vmem S1x6x2048x128 .i8) (harg3 : arg3.IsWhole) (arg4 : Memref sig .tc .vmem S1x6x32x64 .f32) (harg4 : arg4.IsWhole) (arg5 : Memref sig .tc .vmem S1x6x3x2304 .i8) (harg5 : arg5.IsWhole) (arg6 : Memref sig .tc .vmem S14x2304 .f32) (harg6 : arg6.IsWhole) (arg7 : Memref sig .tc .vmem S14x1024 .f32) (harg7 : arg7.IsWhole) (arg8 : Memref sig .tc .vmem S1x512x4384 .i8) (harg8 : arg8.IsWhole) (arg9 : Memref sig .tc .vmem S1x8x4384 .bf16) (harg9 : arg9.IsWhole) (arg10 : Memref sig .tc .vmem S1x4x2304 .f32) (harg10 : arg10.IsWhole) (arg11 : Memref sig .tc .vmem S14x2304 .f32) (harg11 : arg11.IsWhole) (arg12 : Memref sig .tc .vmem S14x32 .f32) (harg12 : arg12.IsWhole) (arg13 : Memref sig .tc .vmem S14x32 .f32) (harg13 : arg13.IsWhole) (arg14 : Memref sig .tc .vmem S14x32 .f32) (harg14 : arg14.IsWhole) (arg15 : Memref sig .tc .vmem S14x2048 .f32) (harg15 : arg15.IsWhole) (arg16 : Memref sig .tc .vmem S1x2048x512 .i8) (harg16 : arg16.IsWhole) (arg17 : Memref sig .tc .vmem S1x16x1024 .bf16) (harg17 : arg17.IsWhole) (arg18 : Memref sig .tc .vmem S1x144x2048 .f32) (harg18 : arg18.IsWhole) (arg19 : Memref sig .tc .vmem S1x144x1024 .f32) (harg19 : arg19.IsWhole) (arg20 : Memref sig .tc .vmem S1x144x2048 .bf16) (harg20 : arg20.IsWhole) (arg21 : Memref sig .tc .vmem S1x144x2304 .f32) (harg21 : arg21.IsWhole) (arg22 : Memref sig .tc .vmem S1x144x32 .f32) (harg22 : arg22.IsWhole) (arg23 : Memref sig .tc .vmem S144x1024 .f32) (harg23 : arg23.IsWhole) (arg24 : Memref sig .tc .vmem S144x1024 .bf16) (harg24 : arg24.IsWhole) (arg25 : Memref sig .tc .vmem S144x2048 .f32) (harg25 : arg25.IsWhole) (arg26 : Memref sig .tc .vmem S18x192x128 .f32) (harg26 : arg26.IsWhole) (arg27 : Memref sig .tc .vmem S144x2048 .f32) (harg27 : arg27.IsWhole) (arg28 : Memref sig .tc .vmem S2x144x128 .f32) (harg28 : arg28.IsWhole) (arg29 : Memref sig .tc .vmem S144x32 .f32) (harg29 : arg29.IsWhole) (arg30 : Memref sig .tc .vmem S96x2048 .bf16) (harg30 : arg30.IsWhole) (arg31 : Memref sig .tc .vmem S96x1024 .bf16) (harg31 : arg31.IsWhole) (arg32 : Memref sig .tc .vmem S296x2048 .f32) (harg32 : arg32.IsWhole) (arg33 : Memref sig .tc .vmem S288x1024 .f32) (harg33 : arg33.IsWhole) (arg34 : Memref sig .tc .vmem S144x144 .bf16) (harg34 : arg34.IsWhole) (arg35 : Memref sig .tc .vmem S144x2048 .f32) (harg35 : arg35.IsWhole) (hc0 : cond0_0 i)    (x0 : Vec Ideal S6 .i32) (x1 : Vec Ideal S144x1024 .bf16) (x2 : Vec Ideal S1x6x2048x128 .i8) (x3 : Vec Ideal S1x6x32x64 .f32) (x4 : Vec Ideal S1x6x3x2304 .i8) (x5 : Vec Ideal S14x2304 .f32) (x6 : Vec Ideal S14x1024 .f32) (x7 : Vec Ideal S1x512x4384 .i8) (x8 : Vec Ideal S1x8x4384 .bf16) (x9 : Vec Ideal S1x4x2304 .f32) (x10 : Vec Ideal S14x2304 .f32) (x11 : Vec Ideal S14x32 .f32) (x12 : Vec Ideal S14x32 .f32) (x13 : Vec Ideal S14x32 .f32) (x14 : Vec Ideal S14x2048 .f32) (x15 : Vec Ideal S1x2048x512 .i8) (x16 : Vec Ideal S1x16x1024 .bf16) (x17 : Vec Ideal S1x144x2048 .f32) (y : S144x1024.Idx) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 y = carryOf (blkPar (i 0) x6 x7 x8 x14 x15 x16 x17) (fun r k => (k0_pay4 (F := Ideal) x1) (ix2 r k)) y := by
  unfold sout0_A_0
  rw [View.read_writes_eq_canon (Val := Elt Ideal) _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17)]
  refine canon_take (carryOf (blkPar (i 0) x6 x7 x8 x14 x15 x16 x17) (fun r k => (k0_pay4 (F := Ideal) x1) (ix2 r k))) 4 (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17).2.2.2.2.1 ?_ y (View.cover_of_tiledL (s := S144x1024) ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17).2.2.2.2.1.take 4) S144x256.size (by sl_kernel_rfl) y)
  unfold kernelRun0_A
  dsimp only
  simp only [kernelRun0_A.sl.v2243, kernelRun0_A.sl.v2296, kernelRun0_A.sl.v2351, kernelRun0_A.sl.v2406, kernelRun0_A.sl.v2448, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.HS0_2, kernelRun0_A.sl.HS0_3, kernelRun0_A.sl.HS0_4, mWord, rWord, v2456, v2682, v2690, View.readAt_eq_ld, Memref.IsWhole.read_unread, View.ld_unit_zero (S := S1x8x4384) z3, View.ld_unit_zero (S := S144x1024) z2, View.ld_unit_zero (S := S1x16x1024) z3, rFill, List.take_succ_cons, List.take_zero]
  refine ⟨fun x => ?_, fun x => ?_, fun x => ?_, fun x => ?_, trivial⟩
  · refine Eq.trans ?_ (upS (blkPar (i 0) x6 x7 x8 x14 x15 x16 x17) (fun r k => (k0_pay4 (F := Ideal) x1) (ix2 r k)) 768 (by omega) inb_S144x1024_S144x256_0_768 _ (hiTile (k0_pay4 (F := Ideal) x1) 256 (by omega) inb_S144x1024_S144x256_0_768 (i 0) x6 x7 x8 x14 x15 x16 x17 inb_S1x144x2048_S1x144x512_0_0_0 inb_S1x144x2048_S1x144x512_0_0_512 inb_S1x144x2048_S1x144x512_0_0_1024 inb_S1x144x2048_S1x144x512_0_0_1536 inb_S1x2048x512_S1x512x256_0_0_256 inb_S1x2048x512_S1x512x256_0_512_256 inb_S1x2048x512_S1x512x256_0_1024_256 inb_S1x2048x512_S1x512x256_0_1536_256 slices_S16x1024_o0_768_S4x256 slices_S16x1024_o4_768_S4x256 slices_S16x1024_o8_768_S4x256 slices_S16x1024_o12_768_S4x256) x)
    rfl
  · refine Eq.trans ?_ (upS (blkPar (i 0) x6 x7 x8 x14 x15 x16 x17) (fun r k => (k0_pay4 (F := Ideal) x1) (ix2 r k)) 256 (by omega) inb_S144x1024_S144x256_0_256 _ (loTile (k0_pay4 (F := Ideal) x1) 256 (by omega) inb_S144x1024_S144x256_0_256 (i 0) x6 x7 x8 x14 x15 x16 x17 inb_S1x144x2048_S1x144x512_0_0_0 inb_S1x144x2048_S1x144x512_0_0_512 inb_S1x144x2048_S1x144x512_0_0_1024 inb_S1x144x2048_S1x144x512_0_0_1536 inb_S1x2048x512_S1x512x256_0_0_256 inb_S1x2048x512_S1x512x256_0_512_256 inb_S1x2048x512_S1x512x256_0_1024_256 inb_S1x2048x512_S1x512x256_0_1536_256 slices_S16x1024_o0_256_S4x256 slices_S16x1024_o4_256_S4x256 slices_S16x1024_o8_256_S4x256 slices_S16x1024_o12_256_S4x256) x)
    rfl
  · refine Eq.trans ?_ (upS (blkPar (i 0) x6 x7 x8 x14 x15 x16 x17) (fun r k => (k0_pay4 (F := Ideal) x1) (ix2 r k)) 512 (by omega) inb_S144x1024_S144x256_0_512 _ (hiTile (k0_pay4 (F := Ideal) x1) 0 (by omega) inb_S144x1024_S144x256_0_512 (i 0) x6 x7 x8 x14 x15 x16 x17 inb_S1x144x2048_S1x144x512_0_0_0 inb_S1x144x2048_S1x144x512_0_0_512 inb_S1x144x2048_S1x144x512_0_0_1024 inb_S1x144x2048_S1x144x512_0_0_1536 inb_S1x2048x512_S1x512x256_0_0_0 inb_S1x2048x512_S1x512x256_0_512_0 inb_S1x2048x512_S1x512x256_0_1024_0 inb_S1x2048x512_S1x512x256_0_1536_0 slices_S16x1024_o0_512_S4x256 slices_S16x1024_o4_512_S4x256 slices_S16x1024_o8_512_S4x256 slices_S16x1024_o12_512_S4x256) x)
    rfl
  · refine Eq.trans ?_ (upS (blkPar (i 0) x6 x7 x8 x14 x15 x16 x17) (fun r k => (k0_pay4 (F := Ideal) x1) (ix2 r k)) 0 (by omega) inb_S144x1024_S144x256_0_0 _ (loTile (k0_pay4 (F := Ideal) x1) 0 (by omega) inb_S144x1024_S144x256_0_0 (i 0) x6 x7 x8 x14 x15 x16 x17 inb_S1x144x2048_S1x144x512_0_0_0 inb_S1x144x2048_S1x144x512_0_0_512 inb_S1x144x2048_S1x144x512_0_0_1024 inb_S1x144x2048_S1x144x512_0_0_1536 inb_S1x2048x512_S1x512x256_0_0_0 inb_S1x2048x512_S1x512x256_0_512_0 inb_S1x2048x512_S1x512x256_0_1024_0 inb_S1x2048x512_S1x512x256_0_1536_0 slices_S16x1024_o0_0_S4x256 slices_S16x1024_o4_0_S4x256 slices_S16x1024_o8_0_S4x256 slices_S16x1024_o12_0_S4x256) x)
    rfl

end Cert.KernelIdeal.BlkA

end
-- ==== Proof.BlkB.lean ====
/- What a grid point leaves in each of its blocks, past the first point. -/
module

public import proofs.«01_k».proof.Proof.Pieces

@[expose] public section

set_option maxRecDepth 16384
set_option maxHeartbeats 4000000

noncomputable section

open Idealize.ShloMosaic Idealize.ShloMosaic.TcCoe

namespace Cert.KernelIdeal.BlkB

open Cert.KernelIdeal Cert.KernelIdeal.Gen Cert.KernelIdeal.Nib Cert.KernelIdeal.Tiles Cert.KernelIdeal.Loads Cert.Layer

theorem z2 : (![0, 0] : Fin 2 → Nat) = fun _ => 0 := funext fun a => by fin_cases a <;> rfl

theorem z3 : (![0, 0, 0] : Fin 3 → Nat) = fun _ => 0 := funext fun a => by fin_cases a <;> rfl

/-- The gate columns' buffer, read after its eight tiles are stored. -/
theorem zWord (c : Dev nD) (i : grid0.Coords) (arg7 : Memref sig .tc .vmem S14x1024 .f32) (harg7 : arg7.IsWhole) (arg8 : Memref sig .tc .vmem S1x512x4384 .i8) (harg8 : arg8.IsWhole) (arg9 : Memref sig .tc .vmem S1x8x4384 .bf16) (harg9 : arg9.IsWhole) (arg23 : Memref sig .tc .vmem S144x1024 .f32) (harg23 : arg23.IsWhole) (arg24 : Memref sig .tc .vmem S144x1024 .bf16) (x6 : Vec Ideal S14x1024 .f32) (x7 : Vec Ideal S1x512x4384 .i8) (x8 : Vec Ideal S1x8x4384 .bf16) (xs0 : Vec Ideal S144x1024 .f32)
    {sp : Space} (v : View sig .tc sp S144x2048 .f32) (r : Rect S144x2048) :
    v.readCov (Val := Elt Ideal) (kernelRun0_B.sl.HS2_8 (F := Ideal) c i arg7 harg7 arg8 harg8 arg9 harg9 arg23 harg23 arg24 x6 x7 x8 xs0) r.toLoadRect
      = View.ld (Val := Elt Ideal) (zOf (i 0) x6 x7 x8 (fun r k => xs0 (ix2 r k))) r := by
  refine read_of _ _ ?_ (fun y => View.cover_of_tiledL (kernelRun0_B.sl.HS2_8 (F := Ideal) c i arg7 harg7 arg8 harg8 arg9 harg9 arg23 harg23 arg24 x6 x7 x8 xs0) S144x256.size (by sl_kernel_rfl) y) v r
  sl_unfold_words
  simp only [View.readAt_eq_ld, Memref.IsWhole.read_unread, View.ld_unit_zero (S := S1x8x4384) z3, View.ld_unit_zero (S := S144x1024) z2, View.ld_unit_zero (S := S1x16x1024) z3]
  simp only [uFill]
  generalize hUU : k0_pay5 (F := Ideal) xs0 _ = U
  have hU : ∀ (r : Fin 144) (k : Fin 1024), U (ix2 r k) = normed 1024 (fun r k => xs0 (ix2 r k)) (fun k => x6 (ix2 (i 0) k)) r k := fun r k => by
    rw [← hUU]; exact u_apply i xs0 x6 (k0_off1_inb i) r k
  refine ⟨fun x => ?_, fun x => ?_, fun x => ?_, fun x => ?_, fun x => ?_, fun x => ?_, fun x => ?_, fun x => ?_, trivial⟩
  · refine Eq.trans ?_ (inPieceZ 1792 (by omega) inb_S144x2048_S144x256_0_1792 U inb_S144x1024_S144x512_0_0 inb_S144x1024_S144x512_0_512 x6 x7 x8 (i 0) inb_S1x512x4384_S1x512x256_0_0_1792 slices_S8x4384_o0_1792_S4x256 slices_S8x4384_o4_1792_S4x256 _ hU x)
    rfl
  · refine Eq.trans ?_ (inPieceZ 1536 (by omega) inb_S144x2048_S144x256_0_1536 U inb_S144x1024_S144x512_0_0 inb_S144x1024_S144x512_0_512 x6 x7 x8 (i 0) inb_S1x512x4384_S1x512x256_0_0_1536 slices_S8x4384_o0_1536_S4x256 slices_S8x4384_o4_1536_S4x256 _ hU x)
    rfl
  · refine Eq.trans ?_ (inPieceZ 1280 (by omega) inb_S144x2048_S144x256_0_1280 U inb_S144x1024_S144x512_0_0 inb_S144x1024_S144x512_0_512 x6 x7 x8 (i 0) inb_S1x512x4384_S1x512x256_0_0_1280 slices_S8x4384_o0_1280_S4x256 slices_S8x4384_o4_1280_S4x256 _ hU x)
    rfl
  · refine Eq.trans ?_ (inPieceZ 1024 (by omega) inb_S144x2048_S144x256_0_1024 U inb_S144x1024_S144x512_0_0 inb_S144x1024_S144x512_0_512 x6 x7 x8 (i 0) inb_S1x512x4384_S1x512x256_0_0_1024 slices_S8x4384_o0_1024_S4x256 slices_S8x4384_o4_1024_S4x256 _ hU x)
    rfl
  · refine Eq.trans ?_ (inPieceZ 768 (by omega) inb_S144x2048_S144x256_0_768 U inb_S144x1024_S144x512_0_0 inb_S144x1024_S144x512_0_512 x6 x7 x8 (i 0) inb_S1x512x4384_S1x512x256_0_0_768 slices_S8x4384_o0_768_S4x256 slices_S8x4384_o4_768_S4x256 _ hU x)
    rfl
  · refine Eq.trans ?_ (inPieceZ 512 (by omega) inb_S144x2048_S144x256_0_512 U inb_S144x1024_S144x512_0_0 inb_S144x1024_S144x512_0_512 x6 x7 x8 (i 0) inb_S1x512x4384_S1x512x256_0_0_512 slices_S8x4384_o0_512_S4x256 slices_S8x4384_o4_512_S4x256 _ hU x)
    rfl
  · refine Eq.trans ?_ (inPieceZ 256 (by omega) inb_S144x2048_S144x256_0_256 U inb_S144x1024_S144x512_0_0 inb_S144x1024_S144x512_0_512 x6 x7 x8 (i 0) inb_S1x512x4384_S1x512x256_0_0_256 slices_S8x4384_o0_256_S4x256 slices_S8x4384_o4_256_S4x256 _ hU x)
    rfl
  · refine Eq.trans ?_ (inPieceZ 0 (by omega) inb_S144x2048_S144x256_0_0 U inb_S144x1024_S144x512_0_0 inb_S144x1024_S144x512_0_512 x6 x7 x8 (i 0) inb_S1x512x4384_S1x512x256_0_0_0 slices_S8x4384_o0_0_S4x256 slices_S8x4384_o4_0_S4x256 _ hU x)
    rfl

/-- The gated columns' buffer, read after its tiles are stored. -/
theorem aWord (c : Dev nD) (i : grid0.Coords) (arg7 : Memref sig .tc .vmem S14x1024 .f32) (harg7 : arg7.IsWhole) (arg8 : Memref sig .tc .vmem S1x512x4384 .i8) (harg8 : arg8.IsWhole) (arg9 : Memref sig .tc .vmem S1x8x4384 .bf16) (harg9 : arg9.IsWhole) (arg18 : Memref sig .tc .vmem S1x144x2048 .f32) (harg18 : arg18.IsWhole) (arg23 : Memref sig .tc .vmem S144x1024 .f32) (harg23 : arg23.IsWhole) (arg24 : Memref sig .tc .vmem S144x1024 .bf16) (arg25 : Memref sig .tc .vmem S144x2048 .f32) (x6 : Vec Ideal S14x1024 .f32) (x7 : Vec Ideal S1x512x4384 .i8) (x8 : Vec Ideal S1x8x4384 .bf16) (x17 : Vec Ideal S1x144x2048 .f32) (xs0 : Vec Ideal S144x1024 .f32)
    {sp : Space} (v : View sig .tc sp S144x2048 .f32) (r : Rect S144x2048) :
    v.readCov (Val := Elt Ideal) (kernelRun0_B.sl.HS12_48 (F := Ideal) c i arg7 harg7 arg8 harg8 arg9 harg9 arg18 harg18 arg23 harg23 arg24 arg25 x6 x7 x8 x17 xs0) r.toLoadRect
      = View.ld (Val := Elt Ideal) (aOf (i 0) x6 x7 x8 x17 (fun r k => xs0 (ix2 r k))) r := by
  refine read_of _ _ ?_ (fun y => View.cover_of_tiledL (kernelRun0_B.sl.HS12_48 (F := Ideal) c i arg7 harg7 arg8 harg8 arg9 harg9 arg18 harg18 arg23 harg23 arg24 arg25 x6 x7 x8 x17 xs0) S24x256.size (by sl_kernel_rfl) y) v r
  simp only [kernelRun0_B.sl.HS12_48, kernelRun0_B.sl.v1489, kernelRun0_B.sl.v1504, kernelRun0_B.sl.v1519, kernelRun0_B.sl.v1534, kernelRun0_B.sl.v1549, kernelRun0_B.sl.v1564, kernelRun0_B.sl.v1579, kernelRun0_B.sl.v1594, kernelRun0_B.sl.v1609, kernelRun0_B.sl.v1624, kernelRun0_B.sl.v1639, kernelRun0_B.sl.v1654, kernelRun0_B.sl.v1669, kernelRun0_B.sl.v1684, kernelRun0_B.sl.v1694, kernelRun0_B.sl.v1699, kernelRun0_B.sl.v1714, kernelRun0_B.sl.v1729, kernelRun0_B.sl.v1744, kernelRun0_B.sl.v1759, kernelRun0_B.sl.v1774, kernelRun0_B.sl.v1789, kernelRun0_B.sl.v1804, kernelRun0_B.sl.v1819, kernelRun0_B.sl.v1834, kernelRun0_B.sl.v1849, kernelRun0_B.sl.v1864, kernelRun0_B.sl.v1879, kernelRun0_B.sl.v1894, kernelRun0_B.sl.v1909, kernelRun0_B.sl.v1924, kernelRun0_B.sl.v1939, kernelRun0_B.sl.v1954, kernelRun0_B.sl.v1969, kernelRun0_B.sl.v1984, kernelRun0_B.sl.v1999, kernelRun0_B.sl.v2014, kernelRun0_B.sl.v2029, kernelRun0_B.sl.v2044, kernelRun0_B.sl.v2059, kernelRun0_B.sl.v2074, kernelRun0_B.sl.v2089, kernelRun0_B.sl.v2104, kernelRun0_B.sl.v2119, kernelRun0_B.sl.v2134, kernelRun0_B.sl.v2144, kernelRun0_B.sl.v2149, kernelRun0_B.sl.v2164, kernelRun0_B.sl.v2179, kernelRun0_B.sl.v2194, kernelRun0_B.sl.r_100, kernelRun0_B.sl.r_101, kernelRun0_B.sl.r_102, kernelRun0_B.sl.r_103, kernelRun0_B.sl.r_104, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.cst_605, zWord, View.readAt_eq_ld, Memref.IsWhole.read_unread]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact Eq.trans rfl (gatePiece 120 1792 (by omega) (by omega) inb_S144x2048_S24x256_120_1792 (i 0) x6 x7 x8 x17 (fun r k => xs0 (ix2 r k)) inb_S1x144x2048_S1x24x256_0_120_1792 inb_S144x2048_S24x256_120_1792 x)
  · exact Eq.trans rfl (gatePiece 120 1536 (by omega) (by omega) inb_S144x2048_S24x256_120_1536 (i 0) x6 x7 x8 x17 (fun r k => xs0 (ix2 r k)) inb_S1x144x2048_S1x24x256_0_120_1536 inb_S144x2048_S24x256_120_1536 x)
  · exact Eq.trans rfl (gatePiece 120 1280 (by omega) (by omega) inb_S144x2048_S24x256_120_1280 (i 0) x6 x7 x8 x17 (fun r k => xs0 (ix2 r k)) inb_S1x144x2048_S1x24x256_0_120_1280 inb_S144x2048_S24x256_120_1280 x)
  · exact Eq.trans rfl (gatePiece 120 1024 (by omega) (by omega) inb_S144x2048_S24x256_120_1024 (i 0) x6 x7 x8 x17 (fun r k => xs0 (ix2 r k)) inb_S1x144x2048_S1x24x256_0_120_1024 inb_S144x2048_S24x256_120_1024 x)
  · exact Eq.trans rfl (gatePiece 120 768 (by omega) (by omega) inb_S144x2048_S24x256_120_768 (i 0) x6 x7 x8 x17 (fun r k => xs0 (ix2 r k)) inb_S1x144x2048_S1x24x256_0_120_768 inb_S144x2048_S24x256_120_768 x)
  · exact Eq.trans rfl (gatePiece 120 512 (by omega) (by omega) inb_S144x2048_S24x256_120_512 (i 0) x6 x7 x8 x17 (fun r k => xs0 (ix2 r k)) inb_S1x144x2048_S1x24x256_0_120_512 inb_S144x2048_S24x256_120_512 x)
  · exact Eq.trans rfl (gatePiece 120 256 (by omega) (by omega) inb_S144x2048_S24x256_120_256 (i 0) x6 x7 x8 x17 (fun r k => xs0 (ix2 r k)) inb_S1x144x2048_S1x24x256_0_120_256 inb_S144x2048_S24x256_120_256 x)
  · exact Eq.trans rfl (gatePiece 120 0 (by omega) (by omega) inb_S144x2048_S24x256_120_0 (i 0) x6 x7 x8 x17 (fun r k => xs0 (ix2 r k)) inb_S1x144x2048_S1x24x256_0_120_0 inb_S144x2048_S24x256_120_0 x)
  · exact Eq.trans rfl (gatePiece 96 1792 (by omega) (by omega) inb_S144x2048_S24x256_96_1792 (i 0) x6 x7 x8 x17 (fun r k => xs0 (ix2 r k)) inb_S1x144x2048_S1x24x256_0_96_1792 inb_S144x2048_S24x256_96_1792 x)
  · exact Eq.trans rfl (gatePiece 96 1536 (by omega) (by omega) inb_S144x2048_S24x256_96_1536 (i 0) x6 x7 x8 x17 (fun r k => xs0 (ix2 r k)) inb_S1x144x2048_S1x24x256_0_96_1536 inb_S144x2048_S24x256_96_1536 x)
  · exact Eq.trans rfl (gatePiece 96 1280 (by omega) (by omega) inb_S144x2048_S24x256_96_1280 (i 0) x6 x7 x8 x17 (fun r k => xs0 (ix2 r k)) inb_S1x144x2048_S1x24x256_0_96_1280 inb_S144x2048_S24x256_96_1280 x)
  · exact Eq.trans rfl (gatePiece 96 1024 (by omega) (by omega) inb_S144x2048_S24x256_96_1024 (i 0) x6 x7 x8 x17 (fun r k => xs0 (ix2 r k)) inb_S1x144x2048_S1x24x256_0_96_1024 inb_S144x2048_S24x256_96_1024 x)
  · exact Eq.trans rfl (gatePiece 96 768 (by omega) (by omega) inb_S144x2048_S24x256_96_768 (i 0) x6 x7 x8 x17 (fun r k => xs0 (ix2 r k)) inb_S1x144x2048_S1x24x256_0_96_768 inb_S144x2048_S24x256_96_768 x)
  · exact Eq.trans rfl (gatePiece 96 512 (by omega) (by omega) inb_S144x2048_S24x256_96_512 (i 0) x6 x7 x8 x17 (fun r k => xs0 (ix2 r k)) inb_S1x144x2048_S1x24x256_0_96_512 inb_S144x2048_S24x256_96_512 x)
  · exact Eq.trans rfl (gatePiece 96 256 (by omega) (by omega) inb_S144x2048_S24x256_96_256 (i 0) x6 x7 x8 x17 (fun r k => xs0 (ix2 r k)) inb_S1x144x2048_S1x24x256_0_96_256 inb_S144x2048_S24x256_96_256 x)
  · exact Eq.trans rfl (gatePiece 96 0 (by omega) (by omega) inb_S144x2048_S24x256_96_0 (i 0) x6 x7 x8 x17 (fun r k => xs0 (ix2 r k)) inb_S1x144x2048_S1x24x256_0_96_0 inb_S144x2048_S24x256_96_0 x)
  · exact Eq.trans rfl (gatePiece 72 1792 (by omega) (by omega) inb_S144x2048_S24x256_72_1792 (i 0) x6 x7 x8 x17 (fun r k => xs0 (ix2 r k)) inb_S1x144x2048_S1x24x256_0_72_1792 inb_S144x2048_S24x256_72_1792 x)
  · exact Eq.trans rfl (gatePiece 72 1536 (by omega) (by omega) inb_S144x2048_S24x256_72_1536 (i 0) x6 x7 x8 x17 (fun r k => xs0 (ix2 r k)) inb_S1x144x2048_S1x24x256_0_72_1536 inb_S144x2048_S24x256_72_1536 x)
  · exact Eq.trans rfl (gatePiece 72 1280 (by omega) (by omega) inb_S144x2048_S24x256_72_1280 (i 0) x6 x7 x8 x17 (fun r k => xs0 (ix2 r k)) inb_S1x144x2048_S1x24x256_0_72_1280 inb_S144x2048_S24x256_72_1280 x)
  · exact Eq.trans rfl (gatePiece 72 1024 (by omega) (by omega) inb_S144x2048_S24x256_72_1024 (i 0) x6 x7 x8 x17 (fun r k => xs0 (ix2 r k)) inb_S1x144x2048_S1x24x256_0_72_1024 inb_S144x2048_S24x256_72_1024 x)
  · exact Eq.trans rfl (gatePiece 72 768 (by omega) (by omega) inb_S144x2048_S24x256_72_768 (i 0) x6 x7 x8 x17 (fun r k => xs0 (ix2 r k)) inb_S1x144x2048_S1x24x256_0_72_768 inb_S144x2048_S24x256_72_768 x)
  · exact Eq.trans rfl (gatePiece 72 512 (by omega) (by omega) inb_S144x2048_S24x256_72_512 (i 0) x6 x7 x8 x17 (fun r k => xs0 (ix2 r k)) inb_S1x144x2048_S1x24x256_0_72_512 inb_S144x2048_S24x256_72_512 x)
  · exact Eq.trans rfl (gatePiece 72 256 (by omega) (by omega) inb_S144x2048_S24x256_72_256 (i 0) x6 x7 x8 x17 (fun r k => xs0 (ix2 r k)) inb_S1x144x2048_S1x24x256_0_72_256 inb_S144x2048_S24x256_72_256 x)
  · exact Eq.trans rfl (gatePiece 72 0 (by omega) (by omega) inb_S144x2048_S24x256_72_0 (i 0) x6 x7 x8 x17 (fun r k => xs0 (ix2 r k)) inb_S1x144x2048_S1x24x256_0_72_0 inb_S144x2048_S24x256_72_0 x)
  · exact Eq.trans rfl (gatePiece 48 1792 (by omega) (by omega) inb_S144x2048_S24x256_48_1792 (i 0) x6 x7 x8 x17 (fun r k => xs0 (ix2 r k)) inb_S1x144x2048_S1x24x256_0_48_1792 inb_S144x2048_S24x256_48_1792 x)
  · exact Eq.trans rfl (gatePiece 48 1536 (by omega) (by omega) inb_S144x2048_S24x256_48_1536 (i 0) x6 x7 x8 x17 (fun r k => xs0 (ix2 r k)) inb_S1x144x2048_S1x24x256_0_48_1536 inb_S144x2048_S24x256_48_1536 x)
  · exact Eq.trans rfl (gatePiece 48 1280 (by omega) (by omega) inb_S144x2048_S24x256_48_1280 (i 0) x6 x7 x8 x17 (fun r k => xs0 (ix2 r k)) inb_S1x144x2048_S1x24x256_0_48_1280 inb_S144x2048_S24x256_48_1280 x)
  · exact Eq.trans rfl (gatePiece 48 1024 (by omega) (by omega) inb_S144x2048_S24x256_48_1024 (i 0) x6 x7 x8 x17 (fun r k => xs0 (ix2 r k)) inb_S1x144x2048_S1x24x256_0_48_1024 inb_S144x2048_S24x256_48_1024 x)
  · exact Eq.trans rfl (gatePiece 48 768 (by omega) (by omega) inb_S144x2048_S24x256_48_768 (i 0) x6 x7 x8 x17 (fun r k => xs0 (ix2 r k)) inb_S1x144x2048_S1x24x256_0_48_768 inb_S144x2048_S24x256_48_768 x)
  · exact Eq.trans rfl (gatePiece 48 512 (by omega) (by omega) inb_S144x2048_S24x256_48_512 (i 0) x6 x7 x8 x17 (fun r k => xs0 (ix2 r k)) inb_S1x144x2048_S1x24x256_0_48_512 inb_S144x2048_S24x256_48_512 x)
  · exact Eq.trans rfl (gatePiece 48 256 (by omega) (by omega) inb_S144x2048_S24x256_48_256 (i 0) x6 x7 x8 x17 (fun r k => xs0 (ix2 r k)) inb_S1x144x2048_S1x24x256_0_48_256 inb_S144x2048_S24x256_48_256 x)
  · exact Eq.trans rfl (gatePiece 48 0 (by omega) (by omega) inb_S144x2048_S24x256_48_0 (i 0) x6 x7 x8 x17 (fun r k => xs0 (ix2 r k)) inb_S1x144x2048_S1x24x256_0_48_0 inb_S144x2048_S24x256_48_0 x)
  · exact Eq.trans rfl (gatePiece 24 1792 (by omega) (by omega) inb_S144x2048_S24x256_24_1792 (i 0) x6 x7 x8 x17 (fun r k => xs0 (ix2 r k)) inb_S1x144x2048_S1x24x256_0_24_1792 inb_S144x2048_S24x256_24_1792 x)
  · exact Eq.trans rfl (gatePiece 24 1536 (by omega) (by omega) inb_S144x2048_S24x256_24_1536 (i 0) x6 x7 x8 x17 (fun r k => xs0 (ix2 r k)) inb_S1x144x2048_S1x24x256_0_24_1536 inb_S144x2048_S24x256_24_1536 x)
  · exact Eq.trans rfl (gatePiece 24 1280 (by omega) (by omega) inb_S144x2048_S24x256_24_1280 (i 0) x6 x7 x8 x17 (fun r k => xs0 (ix2 r k)) inb_S1x144x2048_S1x24x256_0_24_1280 inb_S144x2048_S24x256_24_1280 x)
  · exact Eq.trans rfl (gatePiece 24 1024 (by omega) (by omega) inb_S144x2048_S24x256_24_1024 (i 0) x6 x7 x8 x17 (fun r k => xs0 (ix2 r k)) inb_S1x144x2048_S1x24x256_0_24_1024 inb_S144x2048_S24x256_24_1024 x)
  · exact Eq.trans rfl (gatePiece 24 768 (by omega) (by omega) inb_S144x2048_S24x256_24_768 (i 0) x6 x7 x8 x17 (fun r k => xs0 (ix2 r k)) inb_S1x144x2048_S1x24x256_0_24_768 inb_S144x2048_S24x256_24_768 x)
  · exact Eq.trans rfl (gatePiece 24 512 (by omega) (by omega) inb_S144x2048_S24x256_24_512 (i 0) x6 x7 x8 x17 (fun r k => xs0 (ix2 r k)) inb_S1x144x2048_S1x24x256_0_24_512 inb_S144x2048_S24x256_24_512 x)
  · exact Eq.trans rfl (gatePiece 24 256 (by omega) (by omega) inb_S144x2048_S24x256_24_256 (i 0) x6 x7 x8 x17 (fun r k => xs0 (ix2 r k)) inb_S1x144x2048_S1x24x256_0_24_256 inb_S144x2048_S24x256_24_256 x)
  · exact Eq.trans rfl (gatePiece 24 0 (by omega) (by omega) inb_S144x2048_S24x256_24_0 (i 0) x6 x7 x8 x17 (fun r k => xs0 (ix2 r k)) inb_S1x144x2048_S1x24x256_0_24_0 inb_S144x2048_S24x256_24_0 x)
  · exact Eq.trans rfl (gatePiece 0 1792 (by omega) (by omega) inb_S144x2048_S24x256_0_1792 (i 0) x6 x7 x8 x17 (fun r k => xs0 (ix2 r k)) inb_S1x144x2048_S1x24x256_0_0_1792 inb_S144x2048_S24x256_0_1792 x)
  · exact Eq.trans rfl (gatePiece 0 1536 (by omega) (by omega) inb_S144x2048_S24x256_0_1536 (i 0) x6 x7 x8 x17 (fun r k => xs0 (ix2 r k)) inb_S1x144x2048_S1x24x256_0_0_1536 inb_S144x2048_S24x256_0_1536 x)
  · exact Eq.trans rfl (gatePiece 0 1280 (by omega) (by omega) inb_S144x2048_S24x256_0_1280 (i 0) x6 x7 x8 x17 (fun r k => xs0 (ix2 r k)) inb_S1x144x2048_S1x24x256_0_0_1280 inb_S144x2048_S24x256_0_1280 x)
  · exact Eq.trans rfl (gatePiece 0 1024 (by omega) (by omega) inb_S144x2048_S24x256_0_1024 (i 0) x6 x7 x8 x17 (fun r k => xs0 (ix2 r k)) inb_S1x144x2048_S1x24x256_0_0_1024 inb_S144x2048_S24x256_0_1024 x)
  · exact Eq.trans rfl (gatePiece 0 768 (by omega) (by omega) inb_S144x2048_S24x256_0_768 (i 0) x6 x7 x8 x17 (fun r k => xs0 (ix2 r k)) inb_S1x144x2048_S1x24x256_0_0_768 inb_S144x2048_S24x256_0_768 x)
  · exact Eq.trans rfl (gatePiece 0 512 (by omega) (by omega) inb_S144x2048_S24x256_0_512 (i 0) x6 x7 x8 x17 (fun r k => xs0 (ix2 r k)) inb_S1x144x2048_S1x24x256_0_0_512 inb_S144x2048_S24x256_0_512 x)
  · exact Eq.trans rfl (gatePiece 0 256 (by omega) (by omega) inb_S144x2048_S24x256_0_256 (i 0) x6 x7 x8 x17 (fun r k => xs0 (ix2 r k)) inb_S1x144x2048_S1x24x256_0_0_256 inb_S144x2048_S24x256_0_256 x)
  · exact Eq.trans rfl (gatePiece 0 0 (by omega) (by omega) inb_S144x2048_S24x256_0_0 (i 0) x6 x7 x8 x17 (fun r k => xs0 (ix2 r k)) inb_S1x144x2048_S1x24x256_0_0_0 inb_S144x2048_S24x256_0_0 x)

/-- The mix stored is the whole of its block. -/
theorem mixPieces (c : Dev nD) (i : grid0.Coords) (arg7 : Memref sig .tc .vmem S14x1024 .f32) (harg7 : arg7.IsWhole) (arg8 : Memref sig .tc .vmem S1x512x4384 .i8) (harg8 : arg8.IsWhole) (arg9 : Memref sig .tc .vmem S1x8x4384 .bf16) (harg9 : arg9.IsWhole) (arg15 : Memref sig .tc .vmem S14x2048 .f32) (harg15 : arg15.IsWhole) (arg18 : Memref sig .tc .vmem S1x144x2048 .f32) (harg18 : arg18.IsWhole) (arg23 : Memref sig .tc .vmem S144x1024 .f32) (harg23 : arg23.IsWhole) (arg24 : Memref sig .tc .vmem S144x1024 .bf16) (arg25 : Memref sig .tc .vmem S144x2048 .f32) (arg35 : Memref sig .tc .vmem S144x2048 .f32) (x6 : Vec Ideal S14x1024 .f32) (x7 : Vec Ideal S1x512x4384 .i8) (x8 : Vec Ideal S1x8x4384 .bf16) (x14 : Vec Ideal S14x2048 .f32) (x17 : Vec Ideal S1x144x2048 .f32) (xs0 : Vec Ideal S144x1024 .f32) :
    View.PiecesOf (mOf (i 0) x6 x7 x8 x14 x17 (fun r k => xs0 (ix2 r k))) (kernelRun0_B.sl.H19_1 (F := Ideal) c i arg7 harg7 arg8 harg8 arg9 harg9 arg15 harg15 arg18 harg18 arg23 harg23 arg24 arg25 arg35 x6 x7 x8 x14 x17 xs0) := by
  simp only [kernelRun0_B.sl.H19_1, kernelRun0_B.sl.v2207, kernelRun0_B.sl.r_105, aWord, View.readAt_eq_ld, Memref.IsWhole.read_unread, View.ld_unit_zero (S := S144x2048) z2]
  exact ⟨fun x => Eq.trans rfl (mixPiece inb_S1x144x2048_S1x144x2048_0_0_0 i x6 x7 x8 x14 x17 (fun r k => xs0 (ix2 r k)) (k0_off2_inb i) x), trivial⟩

/-- The mix's block, read after it is stored. -/
theorem mWord (c : Dev nD) (i : grid0.Coords) (arg7 : Memref sig .tc .vmem S14x1024 .f32) (harg7 : arg7.IsWhole) (arg8 : Memref sig .tc .vmem S1x512x4384 .i8) (harg8 : arg8.IsWhole) (arg9 : Memref sig .tc .vmem S1x8x4384 .bf16) (harg9 : arg9.IsWhole) (arg15 : Memref sig .tc .vmem S14x2048 .f32) (harg15 : arg15.IsWhole) (arg18 : Memref sig .tc .vmem S1x144x2048 .f32) (harg18 : arg18.IsWhole) (arg23 : Memref sig .tc .vmem S144x1024 .f32) (harg23 : arg23.IsWhole) (arg24 : Memref sig .tc .vmem S144x1024 .bf16) (arg25 : Memref sig .tc .vmem S144x2048 .f32) (arg35 : Memref sig .tc .vmem S144x2048 .f32) (x6 : Vec Ideal S14x1024 .f32) (x7 : Vec Ideal S1x512x4384 .i8) (x8 : Vec Ideal S1x8x4384 .bf16) (x14 : Vec Ideal S14x2048 .f32) (x17 : Vec Ideal S1x144x2048 .f32) (xs0 : Vec Ideal S144x1024 .f32)
    {sp : Space} (v : View sig .tc sp S1x144x2048 .bf16) (r : Rect S1x144x2048) :
    v.readCov (Val := Elt Ideal) (kernelRun0_B.sl.H19_1 (F := Ideal) c i arg7 harg7 arg8 harg8 arg9 harg9 arg15 harg15 arg18 harg18 arg23 harg23 arg24 arg25 arg35 x6 x7 x8 x14 x17 xs0) r.toLoadRect
      = View.ld (Val := Elt Ideal) (mOf (i 0) x6 x7 x8 x14 x17 (fun r k => xs0 (ix2 r k))) r :=
  read_of _ _ (mixPieces c i arg7 harg7 arg8 harg8 arg9 harg9 arg15 harg15 arg18 harg18 arg23 harg23 arg24 arg25 arg35 x6 x7 x8 x14 x17 xs0) (fun y => View.cover_of_tiledL (kernelRun0_B.sl.H19_1 (F := Ideal) c i arg7 harg7 arg8 harg8 arg9 harg9 arg15 harg15 arg18 harg18 arg23 harg23 arg24 arg25 arg35 x6 x7 x8 x14 x17 xs0) S1x144x2048.size (by sl_kernel_rfl) y) v r

/-- The second output's block. -/
theorem out19 (c : Dev nD) (i : grid0.Coords) (arg1 : Memref sig .tc .smem S6 .i32) (harg1 : arg1.IsWhole) (arg2 : Memref sig .tc .vmem S144x1024 .bf16) (harg2 : arg2.IsWhole) (arg3 : Memref sig .tc .vmem S1x6x2048x128 .i8) (harg3 : arg3.IsWhole) (arg4 : Memref sig .tc .vmem S1x6x32x64 .f32) (harg4 : arg4.IsWhole) (arg5 : Memref sig .tc .vmem S1x6x3x2304 .i8) (harg5 : arg5.IsWhole) (arg6 : Memref sig .tc .vmem S14x2304 .f32) (harg6 : arg6.IsWhole) (arg7 : Memref sig .tc .vmem S14x1024 .f32) (harg7 : arg7.IsWhole) (arg8 : Memref sig .tc .vmem S1x512x4384 .i8) (harg8 : arg8.IsWhole) (arg9 : Memref sig .tc .vmem S1x8x4384 .bf16) (harg9 : arg9.IsWhole) (arg10 : Memref sig .tc .vmem S1x4x2304 .f32) (harg10 : arg10.IsWhole) (arg11 : Memref sig .tc .vmem S14x2304 .f32) (harg11 : arg11.IsWhole) (arg12 : Memref sig .tc .vmem S14x32 .f32) (harg12 : arg12.IsWhole) (arg13 : Memref sig .tc .vmem S14x32 .f32) (harg13 : arg13.IsWhole) (arg14 : Memref sig .tc .vmem S14x32 .f32) (harg14 : arg14.IsWhole) (arg15 : Memref sig .tc .vmem S14x2048 .f32) (harg15 : arg15.IsWhole) (arg16 : Memref sig .tc .vmem S1x2048x512 .i8) (harg16 : arg16.IsWhole) (arg17 : Memref sig .tc .vmem S1x16x1024 .bf16) (harg17 : arg17.IsWhole) (arg18 : Memref sig .tc .vmem S1x144x2048 .f32) (harg18 : arg18.IsWhole) (arg19 : Memref sig .tc .vmem S1x144x1024 .f32) (harg19 : arg19.IsWhole) (arg20 : Memref sig .tc .vmem S1x144x2048 .bf16) (harg20 : arg20.IsWhole) (arg21 : Memref sig .tc .vmem S1x144x2304 .f32) (harg21 : arg21.IsWhole) (arg22 : Memref sig .tc .vmem S1x144x32 .f32) (harg22 : arg22.IsWhole) (arg23 : Memref sig .tc .vmem S144x1024 .f32) (harg23 : arg23.IsWhole) (arg24 : Memref sig .tc .vmem S144x1024 .bf16) (harg24 : arg24.IsWhole) (arg25 : Memref sig .tc .vmem S144x2048 .f32) (harg25 : arg25.IsWhole) (arg26 : Memref sig .tc .vmem S18x192x128 .f32) (harg26 : arg26.IsWhole) (arg27 : Memref sig .tc .vmem S144x2048 .f32) (harg27 : arg27.IsWhole) (arg28 : Memref sig .tc .vmem S2x144x128 .f32) (harg28 : arg28.IsWhole) (arg29 : Memref sig .tc .vmem S144x32 .f32) (harg29 : arg29.IsWhole) (arg30 : Memref sig .tc .vmem S96x2048 .bf16) (harg30 : arg30.IsWhole) (arg31 : Memref sig .tc .vmem S96x1024 .bf16) (harg31 : arg31.IsWhole) (arg32 : Memref sig .tc .vmem S296x2048 .f32) (harg32 : arg32.IsWhole) (arg33 : Memref sig .tc .vmem S288x1024 .f32) (harg33 : arg33.IsWhole) (arg34 : Memref sig .tc .vmem S144x144 .bf16) (harg34 : arg34.IsWhole) (arg35 : Memref sig .tc .vmem S144x2048 .f32) (harg35 : arg35.IsWhole) (hc0 : ¬cond0_0 i)    (x0 : Vec Ideal S6 .i32) (x1 : Vec Ideal S144x1024 .bf16) (x2 : Vec Ideal S1x6x2048x128 .i8) (x3 : Vec Ideal S1x6x32x64 .f32) (x4 : Vec Ideal S1x6x3x2304 .i8) (x5 : Vec Ideal S14x2304 .f32) (x6 : Vec Ideal S14x1024 .f32) (x7 : Vec Ideal S1x512x4384 .i8) (x8 : Vec Ideal S1x8x4384 .bf16) (x9 : Vec Ideal S1x4x2304 .f32) (x10 : Vec Ideal S14x2304 .f32) (x11 : Vec Ideal S14x32 .f32) (x12 : Vec Ideal S14x32 .f32) (x13 : Vec Ideal S14x32 .f32) (x14 : Vec Ideal S14x2048 .f32) (x15 : Vec Ideal S1x2048x512 .i8) (x16 : Vec Ideal S1x16x1024 .bf16) (x17 : Vec Ideal S1x144x2048 .f32) (xs0 : Vec Ideal S144x1024 .f32) (y : S1x144x2048.Idx) :
    out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 xs0 y = mixOf (blkPar (i 0) x6 x7 x8 x14 x15 x16 x17) (fun r k => xs0 (ix2 r k)) y := by
  unfold out0_B_19
  rw [View.read_writes_eq_canon (Val := Elt Ideal) _ _ _ (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 xs0)]
  refine canon_of (mOf (i 0) x6 x7 x8 x14 x17 (fun r k => xs0 (ix2 r k))) _ ?_ y (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 xs0 y)
  unfold kernelRun0_B
  exact mixPieces c i arg7 harg7 arg8 harg8 arg9 harg9 arg15 harg15 arg18 harg18 arg23 harg23 arg24 arg25 arg35 x6 x7 x8 x14 x17 xs0

/-- The third output's block. -/
theorem out20 (c : Dev nD) (i : grid0.Coords) (arg1 : Memref sig .tc .smem S6 .i32) (harg1 : arg1.IsWhole) (arg2 : Memref sig .tc .vmem S144x1024 .bf16) (harg2 : arg2.IsWhole) (arg3 : Memref sig .tc .vmem S1x6x2048x128 .i8) (harg3 : arg3.IsWhole) (arg4 : Memref sig .tc .vmem S1x6x32x64 .f32) (harg4 : arg4.IsWhole) (arg5 : Memref sig .tc .vmem S1x6x3x2304 .i8) (harg5 : arg5.IsWhole) (arg6 : Memref sig .tc .vmem S14x2304 .f32) (harg6 : arg6.IsWhole) (arg7 : Memref sig .tc .vmem S14x1024 .f32) (harg7 : arg7.IsWhole) (arg8 : Memref sig .tc .vmem S1x512x4384 .i8) (harg8 : arg8.IsWhole) (arg9 : Memref sig .tc .vmem S1x8x4384 .bf16) (harg9 : arg9.IsWhole) (arg10 : Memref sig .tc .vmem S1x4x2304 .f32) (harg10 : arg10.IsWhole) (arg11 : Memref sig .tc .vmem S14x2304 .f32) (harg11 : arg11.IsWhole) (arg12 : Memref sig .tc .vmem S14x32 .f32) (harg12 : arg12.IsWhole) (arg13 : Memref sig .tc .vmem S14x32 .f32) (harg13 : arg13.IsWhole) (arg14 : Memref sig .tc .vmem S14x32 .f32) (harg14 : arg14.IsWhole) (arg15 : Memref sig .tc .vmem S14x2048 .f32) (harg15 : arg15.IsWhole) (arg16 : Memref sig .tc .vmem S1x2048x512 .i8) (harg16 : arg16.IsWhole) (arg17 : Memref sig .tc .vmem S1x16x1024 .bf16) (harg17 : arg17.IsWhole) (arg18 : Memref sig .tc .vmem S1x144x2048 .f32) (harg18 : arg18.IsWhole) (arg19 : Memref sig .tc .vmem S1x144x1024 .f32) (harg19 : arg19.IsWhole) (arg20 : Memref sig .tc .vmem S1x144x2048 .bf16) (harg20 : arg20.IsWhole) (arg21 : Memref sig .tc .vmem S1x144x2304 .f32) (harg21 : arg21.IsWhole) (arg22 : Memref sig .tc .vmem S1x144x32 .f32) (harg22 : arg22.IsWhole) (arg23 : Memref sig .tc .vmem S144x1024 .f32) (harg23 : arg23.IsWhole) (arg24 : Memref sig .tc .vmem S144x1024 .bf16) (harg24 : arg24.IsWhole) (arg25 : Memref sig .tc .vmem S144x2048 .f32) (harg25 : arg25.IsWhole) (arg26 : Memref sig .tc .vmem S18x192x128 .f32) (harg26 : arg26.IsWhole) (arg27 : Memref sig .tc .vmem S144x2048 .f32) (harg27 : arg27.IsWhole) (arg28 : Memref sig .tc .vmem S2x144x128 .f32) (harg28 : arg28.IsWhole) (arg29 : Memref sig .tc .vmem S144x32 .f32) (harg29 : arg29.IsWhole) (arg30 : Memref sig .tc .vmem S96x2048 .bf16) (harg30 : arg30.IsWhole) (arg31 : Memref sig .tc .vmem S96x1024 .bf16) (harg31 : arg31.IsWhole) (arg32 : Memref sig .tc .vmem S296x2048 .f32) (harg32 : arg32.IsWhole) (arg33 : Memref sig .tc .vmem S288x1024 .f32) (harg33 : arg33.IsWhole) (arg34 : Memref sig .tc .vmem S144x144 .bf16) (harg34 : arg34.IsWhole) (arg35 : Memref sig .tc .vmem S144x2048 .f32) (harg35 : arg35.IsWhole) (hc0 : ¬cond0_0 i)    (x0 : Vec Ideal S6 .i32) (x1 : Vec Ideal S144x1024 .bf16) (x2 : Vec Ideal S1x6x2048x128 .i8) (x3 : Vec Ideal S1x6x32x64 .f32) (x4 : Vec Ideal S1x6x3x2304 .i8) (x5 : Vec Ideal S14x2304 .f32) (x6 : Vec Ideal S14x1024 .f32) (x7 : Vec Ideal S1x512x4384 .i8) (x8 : Vec Ideal S1x8x4384 .bf16) (x9 : Vec Ideal S1x4x2304 .f32) (x10 : Vec Ideal S14x2304 .f32) (x11 : Vec Ideal S14x32 .f32) (x12 : Vec Ideal S14x32 .f32) (x13 : Vec Ideal S14x32 .f32) (x14 : Vec Ideal S14x2048 .f32) (x15 : Vec Ideal S1x2048x512 .i8) (x16 : Vec Ideal S1x16x1024 .bf16) (x17 : Vec Ideal S1x144x2048 .f32) (xs0 : Vec Ideal S144x1024 .f32) (y : S1x144x2304.Idx) :
    out0_B_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 xs0 y = xbcOf (blkPar (i 0) x6 x7 x8 x14 x15 x16 x17) (fun r k => xs0 (ix2 r k)) y := by
  unfold out0_B_20
  rw [View.read_writes_eq_canon (Val := Elt Ideal) _ _ _ (cover0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 xs0)]
  refine canon_of (xbcOf (blkPar (i 0) x6 x7 x8 x14 x15 x16 x17) (fun r k => xs0 (ix2 r k))) _ ?_ y (cover0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 xs0 y)
  unfold kernelRun0_B
  dsimp only
  sl_unfold_words
  simp only [View.readAt_eq_ld, Memref.IsWhole.read_unread, View.ld_unit_zero (S := S1x8x4384) z3, View.ld_unit_zero (S := S144x1024) z2, View.ld_unit_zero (S := S1x16x1024) z3]
  simp only [uFill]
  generalize hUU : k0_pay5 (F := Ideal) xs0 _ = U
  have hU : ∀ (r : Fin 144) (k : Fin 1024), U (ix2 r k) = normed 1024 (fun r k => xs0 (ix2 r k)) (fun k => x6 (ix2 (i 0) k)) r k := fun r k => by
    rw [← hUU]; exact u_apply i xs0 x6 (k0_off1_inb i) r k
  refine ⟨fun x => ?_, fun x => ?_, fun x => ?_, fun x => ?_, fun x => ?_, fun x => ?_, fun x => ?_, fun x => ?_, fun x => ?_, trivial⟩
  · refine Eq.trans ?_ (inPiece20 2048 4096 rfl (by omega) inb_S1x144x2304_S1x144x256_0_0_2048 U inb_S144x1024_S144x512_0_0 inb_S144x1024_S144x512_0_512 x6 x7 x8 x14 x15 x16 x17 (i 0) inb_S1x512x4384_S1x512x256_0_0_4096 slices_S8x4384_o0_4096_S4x256 slices_S8x4384_o4_4096_S4x256 _ hU x)
    rfl
  · refine Eq.trans ?_ (inPiece20 1792 3840 rfl (by omega) inb_S1x144x2304_S1x144x256_0_0_1792 U inb_S144x1024_S144x512_0_0 inb_S144x1024_S144x512_0_512 x6 x7 x8 x14 x15 x16 x17 (i 0) inb_S1x512x4384_S1x512x256_0_0_3840 slices_S8x4384_o0_3840_S4x256 slices_S8x4384_o4_3840_S4x256 _ hU x)
    rfl
  · refine Eq.trans ?_ (inPiece20 1536 3584 rfl (by omega) inb_S1x144x2304_S1x144x256_0_0_1536 U inb_S144x1024_S144x512_0_0 inb_S144x1024_S144x512_0_512 x6 x7 x8 x14 x15 x16 x17 (i 0) inb_S1x512x4384_S1x512x256_0_0_3584 slices_S8x4384_o0_3584_S4x256 slices_S8x4384_o4_3584_S4x256 _ hU x)
    rfl
  · refine Eq.trans ?_ (inPiece20 1280 3328 rfl (by omega) inb_S1x144x2304_S1x144x256_0_0_1280 U inb_S144x1024_S144x512_0_0 inb_S144x1024_S144x512_0_512 x6 x7 x8 x14 x15 x16 x17 (i 0) inb_S1x512x4384_S1x512x256_0_0_3328 slices_S8x4384_o0_3328_S4x256 slices_S8x4384_o4_3328_S4x256 _ hU x)
    rfl
  · refine Eq.trans ?_ (inPiece20 1024 3072 rfl (by omega) inb_S1x144x2304_S1x144x256_0_0_1024 U inb_S144x1024_S144x512_0_0 inb_S144x1024_S144x512_0_512 x6 x7 x8 x14 x15 x16 x17 (i 0) inb_S1x512x4384_S1x512x256_0_0_3072 slices_S8x4384_o0_3072_S4x256 slices_S8x4384_o4_3072_S4x256 _ hU x)
    rfl
  · refine Eq.trans ?_ (inPiece20 768 2816 rfl (by omega) inb_S1x144x2304_S1x144x256_0_0_768 U inb_S144x1024_S144x512_0_0 inb_S144x1024_S144x512_0_512 x6 x7 x8 x14 x15 x16 x17 (i 0) inb_S1x512x4384_S1x512x256_0_0_2816 slices_S8x4384_o0_2816_S4x256 slices_S8x4384_o4_2816_S4x256 _ hU x)
    rfl
  · refine Eq.trans ?_ (inPiece20 512 2560 rfl (by omega) inb_S1x144x2304_S1x144x256_0_0_512 U inb_S144x1024_S144x512_0_0 inb_S144x1024_S144x512_0_512 x6 x7 x8 x14 x15 x16 x17 (i 0) inb_S1x512x4384_S1x512x256_0_0_2560 slices_S8x4384_o0_2560_S4x256 slices_S8x4384_o4_2560_S4x256 _ hU x)
    rfl
  · refine Eq.trans ?_ (inPiece20 256 2304 rfl (by omega) inb_S1x144x2304_S1x144x256_0_0_256 U inb_S144x1024_S144x512_0_0 inb_S144x1024_S144x512_0_512 x6 x7 x8 x14 x15 x16 x17 (i 0) inb_S1x512x4384_S1x512x256_0_0_2304 slices_S8x4384_o0_2304_S4x256 slices_S8x4384_o4_2304_S4x256 _ hU x)
    rfl
  · refine Eq.trans ?_ (inPiece20 0 2048 rfl (by omega) inb_S1x144x2304_S1x144x256_0_0_0 U inb_S144x1024_S144x512_0_0 inb_S144x1024_S144x512_0_512 x6 x7 x8 x14 x15 x16 x17 (i 0) inb_S1x512x4384_S1x512x256_0_0_2048 slices_S8x4384_o0_2048_S4x256 slices_S8x4384_o4_2048_S4x256 _ hU x)
    rfl

/-- The fourth output's block. -/
theorem out21 (c : Dev nD) (i : grid0.Coords) (arg1 : Memref sig .tc .smem S6 .i32) (harg1 : arg1.IsWhole) (arg2 : Memref sig .tc .vmem S144x1024 .bf16) (harg2 : arg2.IsWhole) (arg3 : Memref sig .tc .vmem S1x6x2048x128 .i8) (harg3 : arg3.IsWhole) (arg4 : Memref sig .tc .vmem S1x6x32x64 .f32) (harg4 : arg4.IsWhole) (arg5 : Memref sig .tc .vmem S1x6x3x2304 .i8) (harg5 : arg5.IsWhole) (arg6 : Memref sig .tc .vmem S14x2304 .f32) (harg6 : arg6.IsWhole) (arg7 : Memref sig .tc .vmem S14x1024 .f32) (harg7 : arg7.IsWhole) (arg8 : Memref sig .tc .vmem S1x512x4384 .i8) (harg8 : arg8.IsWhole) (arg9 : Memref sig .tc .vmem S1x8x4384 .bf16) (harg9 : arg9.IsWhole) (arg10 : Memref sig .tc .vmem S1x4x2304 .f32) (harg10 : arg10.IsWhole) (arg11 : Memref sig .tc .vmem S14x2304 .f32) (harg11 : arg11.IsWhole) (arg12 : Memref sig .tc .vmem S14x32 .f32) (harg12 : arg12.IsWhole) (arg13 : Memref sig .tc .vmem S14x32 .f32) (harg13 : arg13.IsWhole) (arg14 : Memref sig .tc .vmem S14x32 .f32) (harg14 : arg14.IsWhole) (arg15 : Memref sig .tc .vmem S14x2048 .f32) (harg15 : arg15.IsWhole) (arg16 : Memref sig .tc .vmem S1x2048x512 .i8) (harg16 : arg16.IsWhole) (arg17 : Memref sig .tc .vmem S1x16x1024 .bf16) (harg17 : arg17.IsWhole) (arg18 : Memref sig .tc .vmem S1x144x2048 .f32) (harg18 : arg18.IsWhole) (arg19 : Memref sig .tc .vmem S1x144x1024 .f32) (harg19 : arg19.IsWhole) (arg20 : Memref sig .tc .vmem S1x144x2048 .bf16) (harg20 : arg20.IsWhole) (arg21 : Memref sig .tc .vmem S1x144x2304 .f32) (harg21 : arg21.IsWhole) (arg22 : Memref sig .tc .vmem S1x144x32 .f32) (harg22 : arg22.IsWhole) (arg23 : Memref sig .tc .vmem S144x1024 .f32) (harg23 : arg23.IsWhole) (arg24 : Memref sig .tc .vmem S144x1024 .bf16) (harg24 : arg24.IsWhole) (arg25 : Memref sig .tc .vmem S144x2048 .f32) (harg25 : arg25.IsWhole) (arg26 : Memref sig .tc .vmem S18x192x128 .f32) (harg26 : arg26.IsWhole) (arg27 : Memref sig .tc .vmem S144x2048 .f32) (harg27 : arg27.IsWhole) (arg28 : Memref sig .tc .vmem S2x144x128 .f32) (harg28 : arg28.IsWhole) (arg29 : Memref sig .tc .vmem S144x32 .f32) (harg29 : arg29.IsWhole) (arg30 : Memref sig .tc .vmem S96x2048 .bf16) (harg30 : arg30.IsWhole) (arg31 : Memref sig .tc .vmem S96x1024 .bf16) (harg31 : arg31.IsWhole) (arg32 : Memref sig .tc .vmem S296x2048 .f32) (harg32 : arg32.IsWhole) (arg33 : Memref sig .tc .vmem S288x1024 .f32) (harg33 : arg33.IsWhole) (arg34 : Memref sig .tc .vmem S144x144 .bf16) (harg34 : arg34.IsWhole) (arg35 : Memref sig .tc .vmem S144x2048 .f32) (harg35 : arg35.IsWhole) (hc0 : ¬cond0_0 i)    (x0 : Vec Ideal S6 .i32) (x1 : Vec Ideal S144x1024 .bf16) (x2 : Vec Ideal S1x6x2048x128 .i8) (x3 : Vec Ideal S1x6x32x64 .f32) (x4 : Vec Ideal S1x6x3x2304 .i8) (x5 : Vec Ideal S14x2304 .f32) (x6 : Vec Ideal S14x1024 .f32) (x7 : Vec Ideal S1x512x4384 .i8) (x8 : Vec Ideal S1x8x4384 .bf16) (x9 : Vec Ideal S1x4x2304 .f32) (x10 : Vec Ideal S14x2304 .f32) (x11 : Vec Ideal S14x32 .f32) (x12 : Vec Ideal S14x32 .f32) (x13 : Vec Ideal S14x32 .f32) (x14 : Vec Ideal S14x2048 .f32) (x15 : Vec Ideal S1x2048x512 .i8) (x16 : Vec Ideal S1x16x1024 .bf16) (x17 : Vec Ideal S1x144x2048 .f32) (xs0 : Vec Ideal S144x1024 .f32) (y : S1x144x32.Idx) :
    out0_B_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 xs0 y = dtOf (blkPar (i 0) x6 x7 x8 x14 x15 x16 x17) (fun r k => xs0 (ix2 r k)) y := by
  unfold out0_B_21
  rw [View.read_writes_eq_canon (Val := Elt Ideal) _ _ _ (cover0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 xs0)]
  refine canon_of (dtOf (blkPar (i 0) x6 x7 x8 x14 x15 x16 x17) (fun r k => xs0 (ix2 r k))) _ ?_ y (cover0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 xs0 y)
  unfold kernelRun0_B
  dsimp only
  sl_unfold_words
  simp only [View.readAt_eq_ld, Memref.IsWhole.read_unread, View.ld_unit_zero (S := S1x8x4384) z3, View.ld_unit_zero (S := S144x1024) z2, View.ld_unit_zero (S := S1x16x1024) z3]
  simp only [uFill]
  generalize hUU : k0_pay5 (F := Ideal) xs0 _ = U
  have hU : ∀ (r : Fin 144) (k : Fin 1024), U (ix2 r k) = normed 1024 (fun r k => xs0 (ix2 r k)) (fun k => x6 (ix2 (i 0) k)) r k := fun r k => by
    rw [← hUU]; exact u_apply i xs0 x6 (k0_off1_inb i) r k
  refine ⟨fun x => ?_, trivial⟩
  refine Eq.trans ?_ (inPiece21 inb_S1x144x32_S1x144x32_0_0_0 U inb_S144x1024_S144x512_0_0 inb_S144x1024_S144x512_0_512 x6 x7 x8 x14 x15 x16 x17 (i 0) inb_S1x512x4384_S1x512x32_0_0_4352 _ hU x)
  rfl

/-- The first output's block. -/
theorem out18 (c : Dev nD) (i : grid0.Coords) (arg1 : Memref sig .tc .smem S6 .i32) (harg1 : arg1.IsWhole) (arg2 : Memref sig .tc .vmem S144x1024 .bf16) (harg2 : arg2.IsWhole) (arg3 : Memref sig .tc .vmem S1x6x2048x128 .i8) (harg3 : arg3.IsWhole) (arg4 : Memref sig .tc .vmem S1x6x32x64 .f32) (harg4 : arg4.IsWhole) (arg5 : Memref sig .tc .vmem S1x6x3x2304 .i8) (harg5 : arg5.IsWhole) (arg6 : Memref sig .tc .vmem S14x2304 .f32) (harg6 : arg6.IsWhole) (arg7 : Memref sig .tc .vmem S14x1024 .f32) (harg7 : arg7.IsWhole) (arg8 : Memref sig .tc .vmem S1x512x4384 .i8) (harg8 : arg8.IsWhole) (arg9 : Memref sig .tc .vmem S1x8x4384 .bf16) (harg9 : arg9.IsWhole) (arg10 : Memref sig .tc .vmem S1x4x2304 .f32) (harg10 : arg10.IsWhole) (arg11 : Memref sig .tc .vmem S14x2304 .f32) (harg11 : arg11.IsWhole) (arg12 : Memref sig .tc .vmem S14x32 .f32) (harg12 : arg12.IsWhole) (arg13 : Memref sig .tc .vmem S14x32 .f32) (harg13 : arg13.IsWhole) (arg14 : Memref sig .tc .vmem S14x32 .f32) (harg14 : arg14.IsWhole) (arg15 : Memref sig .tc .vmem S14x2048 .f32) (harg15 : arg15.IsWhole) (arg16 : Memref sig .tc .vmem S1x2048x512 .i8) (harg16 : arg16.IsWhole) (arg17 : Memref sig .tc .vmem S1x16x1024 .bf16) (harg17 : arg17.IsWhole) (arg18 : Memref sig .tc .vmem S1x144x2048 .f32) (harg18 : arg18.IsWhole) (arg19 : Memref sig .tc .vmem S1x144x1024 .f32) (harg19 : arg19.IsWhole) (arg20 : Memref sig .tc .vmem S1x144x2048 .bf16) (harg20 : arg20.IsWhole) (arg21 : Memref sig .tc .vmem S1x144x2304 .f32) (harg21 : arg21.IsWhole) (arg22 : Memref sig .tc .vmem S1x144x32 .f32) (harg22 : arg22.IsWhole) (arg23 : Memref sig .tc .vmem S144x1024 .f32) (harg23 : arg23.IsWhole) (arg24 : Memref sig .tc .vmem S144x1024 .bf16) (harg24 : arg24.IsWhole) (arg25 : Memref sig .tc .vmem S144x2048 .f32) (harg25 : arg25.IsWhole) (arg26 : Memref sig .tc .vmem S18x192x128 .f32) (harg26 : arg26.IsWhole) (arg27 : Memref sig .tc .vmem S144x2048 .f32) (harg27 : arg27.IsWhole) (arg28 : Memref sig .tc .vmem S2x144x128 .f32) (harg28 : arg28.IsWhole) (arg29 : Memref sig .tc .vmem S144x32 .f32) (harg29 : arg29.IsWhole) (arg30 : Memref sig .tc .vmem S96x2048 .bf16) (harg30 : arg30.IsWhole) (arg31 : Memref sig .tc .vmem S96x1024 .bf16) (harg31 : arg31.IsWhole) (arg32 : Memref sig .tc .vmem S296x2048 .f32) (harg32 : arg32.IsWhole) (arg33 : Memref sig .tc .vmem S288x1024 .f32) (harg33 : arg33.IsWhole) (arg34 : Memref sig .tc .vmem S144x144 .bf16) (harg34 : arg34.IsWhole) (arg35 : Memref sig .tc .vmem S144x2048 .f32) (harg35 : arg35.IsWhole) (hc0 : ¬cond0_0 i)    (x0 : Vec Ideal S6 .i32) (x1 : Vec Ideal S144x1024 .bf16) (x2 : Vec Ideal S1x6x2048x128 .i8) (x3 : Vec Ideal S1x6x32x64 .f32) (x4 : Vec Ideal S1x6x3x2304 .i8) (x5 : Vec Ideal S14x2304 .f32) (x6 : Vec Ideal S14x1024 .f32) (x7 : Vec Ideal S1x512x4384 .i8) (x8 : Vec Ideal S1x8x4384 .bf16) (x9 : Vec Ideal S1x4x2304 .f32) (x10 : Vec Ideal S14x2304 .f32) (x11 : Vec Ideal S14x32 .f32) (x12 : Vec Ideal S14x32 .f32) (x13 : Vec Ideal S14x32 .f32) (x14 : Vec Ideal S14x2048 .f32) (x15 : Vec Ideal S1x2048x512 .i8) (x16 : Vec Ideal S1x16x1024 .bf16) (x17 : Vec Ideal S1x144x2048 .f32) (xs0 : Vec Ideal S144x1024 .f32) (y : S1x144x1024.Idx) :
    out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 xs0 y = resOf (blkPar (i 0) x6 x7 x8 x14 x15 x16 x17) (fun r k => xs0 (ix2 r k)) y := by
  unfold out0_B_18
  rw [View.read_writes_eq_canon (Val := Elt Ideal) _ _ _ (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 xs0)]
  refine canon_of (resOf (blkPar (i 0) x6 x7 x8 x14 x15 x16 x17) (fun r k => xs0 (ix2 r k))) _ ?_ y (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 xs0 y)
  unfold kernelRun0_B
  dsimp only
  simp only [kernelRun0_B.sl.v2243, kernelRun0_B.sl.v2296, kernelRun0_B.sl.v2351, kernelRun0_B.sl.v2406, kernelRun0_B.sl.v2456, kernelRun0_B.sl.v2682, kernelRun0_B.sl.v2690, kernelRun0_B.sl.r_106, kernelRun0_B.sl.r_107, kernelRun0_B.sl.r_108, kernelRun0_B.sl.r_109, kernelRun0_B.sl.r_110, kernelRun0_B.sl.r_111, kernelRun0_B.sl.r_112, kernelRun0_B.sl.r_113, kernelRun0_B.sl.r_114, kernelRun0_B.sl.r_115, kernelRun0_B.sl.r_116, kernelRun0_B.sl.r_117, kernelRun0_B.sl.r_118, kernelRun0_B.sl.r_119, kernelRun0_B.sl.r_120, kernelRun0_B.sl.r_121, kernelRun0_B.sl.r_122, kernelRun0_B.sl.r_123, kernelRun0_B.sl.r_124, kernelRun0_B.sl.r_125, kernelRun0_B.sl.r_126, kernelRun0_B.sl.r_127, kernelRun0_B.sl.r_128, kernelRun0_B.sl.r_129, kernelRun0_B.sl.r_130, kernelRun0_B.sl.r_131, kernelRun0_B.sl.r_132, kernelRun0_B.sl.r_133, kernelRun0_B.sl.r_134, kernelRun0_B.sl.r_135, kernelRun0_B.sl.r_136, kernelRun0_B.sl.r_137, kernelRun0_B.sl.r_138, kernelRun0_B.sl.r_139, kernelRun0_B.sl.r_140, kernelRun0_B.sl.r_141, kernelRun0_B.sl.r_142, kernelRun0_B.sl.r_143, kernelRun0_B.sl.r_144, kernelRun0_B.sl.r_145, kernelRun0_B.sl.r_146, kernelRun0_B.sl.r_147, kernelRun0_B.sl.r_148, kernelRun0_B.sl.r_149, kernelRun0_B.sl.r_150, kernelRun0_B.sl.r_151, kernelRun0_B.sl.r_152, kernelRun0_B.sl.r_153, kernelRun0_B.sl.r_154, kernelRun0_B.sl.r_155, kernelRun0_B.sl.r_156, kernelRun0_B.sl.r_157, kernelRun0_B.sl.r_158, kernelRun0_B.sl.r_159, kernelRun0_B.sl.r_160, kernelRun0_B.sl.r_161, kernelRun0_B.sl.r_162, kernelRun0_B.sl.r_163, kernelRun0_B.sl.r_164, kernelRun0_B.sl.r_165, kernelRun0_B.sl.r_166, kernelRun0_B.sl.r_167, kernelRun0_B.sl.r_168, mWord, View.readAt_eq_ld, Memref.IsWhole.read_unread, View.ld_unit_zero (S := S1x8x4384) z3, View.ld_unit_zero (S := S144x1024) z2, View.ld_unit_zero (S := S1x16x1024) z3]
  refine ⟨fun x => ?_, fun x => ?_, fun x => ?_, fun x => ?_, trivial⟩
  · refine Eq.trans ?_ (up18 (blkPar (i 0) x6 x7 x8 x14 x15 x16 x17) (fun r k => xs0 (ix2 r k)) 768 (by omega) inb_S1x144x1024_S1x144x256_0_0_768 _ (hiTile xs0 256 (by omega) inb_S144x1024_S144x256_0_768 (i 0) x6 x7 x8 x14 x15 x16 x17 inb_S1x144x2048_S1x144x512_0_0_0 inb_S1x144x2048_S1x144x512_0_0_512 inb_S1x144x2048_S1x144x512_0_0_1024 inb_S1x144x2048_S1x144x512_0_0_1536 inb_S1x2048x512_S1x512x256_0_0_256 inb_S1x2048x512_S1x512x256_0_512_256 inb_S1x2048x512_S1x512x256_0_1024_256 inb_S1x2048x512_S1x512x256_0_1536_256 slices_S16x1024_o0_768_S4x256 slices_S16x1024_o4_768_S4x256 slices_S16x1024_o8_768_S4x256 slices_S16x1024_o12_768_S4x256) x)
    rfl
  · refine Eq.trans ?_ (up18 (blkPar (i 0) x6 x7 x8 x14 x15 x16 x17) (fun r k => xs0 (ix2 r k)) 256 (by omega) inb_S1x144x1024_S1x144x256_0_0_256 _ (loTile xs0 256 (by omega) inb_S144x1024_S144x256_0_256 (i 0) x6 x7 x8 x14 x15 x16 x17 inb_S1x144x2048_S1x144x512_0_0_0 inb_S1x144x2048_S1x144x512_0_0_512 inb_S1x144x2048_S1x144x512_0_0_1024 inb_S1x144x2048_S1x144x512_0_0_1536 inb_S1x2048x512_S1x512x256_0_0_256 inb_S1x2048x512_S1x512x256_0_512_256 inb_S1x2048x512_S1x512x256_0_1024_256 inb_S1x2048x512_S1x512x256_0_1536_256 slices_S16x1024_o0_256_S4x256 slices_S16x1024_o4_256_S4x256 slices_S16x1024_o8_256_S4x256 slices_S16x1024_o12_256_S4x256) x)
    rfl
  · refine Eq.trans ?_ (up18 (blkPar (i 0) x6 x7 x8 x14 x15 x16 x17) (fun r k => xs0 (ix2 r k)) 512 (by omega) inb_S1x144x1024_S1x144x256_0_0_512 _ (hiTile xs0 0 (by omega) inb_S144x1024_S144x256_0_512 (i 0) x6 x7 x8 x14 x15 x16 x17 inb_S1x144x2048_S1x144x512_0_0_0 inb_S1x144x2048_S1x144x512_0_0_512 inb_S1x144x2048_S1x144x512_0_0_1024 inb_S1x144x2048_S1x144x512_0_0_1536 inb_S1x2048x512_S1x512x256_0_0_0 inb_S1x2048x512_S1x512x256_0_512_0 inb_S1x2048x512_S1x512x256_0_1024_0 inb_S1x2048x512_S1x512x256_0_1536_0 slices_S16x1024_o0_512_S4x256 slices_S16x1024_o4_512_S4x256 slices_S16x1024_o8_512_S4x256 slices_S16x1024_o12_512_S4x256) x)
    rfl
  · refine Eq.trans ?_ (up18 (blkPar (i 0) x6 x7 x8 x14 x15 x16 x17) (fun r k => xs0 (ix2 r k)) 0 (by omega) inb_S1x144x1024_S1x144x256_0_0_0 _ (loTile xs0 0 (by omega) inb_S144x1024_S144x256_0_0 (i 0) x6 x7 x8 x14 x15 x16 x17 inb_S1x144x2048_S1x144x512_0_0_0 inb_S1x144x2048_S1x144x512_0_0_512 inb_S1x144x2048_S1x144x512_0_0_1024 inb_S1x144x2048_S1x144x512_0_0_1536 inb_S1x2048x512_S1x512x256_0_0_0 inb_S1x2048x512_S1x512x256_0_512_0 inb_S1x2048x512_S1x512x256_0_1024_0 inb_S1x2048x512_S1x512x256_0_1536_0 slices_S16x1024_o0_0_S4x256 slices_S16x1024_o4_0_S4x256 slices_S16x1024_o8_0_S4x256 slices_S16x1024_o12_0_S4x256) x)
    rfl

/-- The residual carried to the next point. -/
theorem carry (c : Dev nD) (i : grid0.Coords) (arg1 : Memref sig .tc .smem S6 .i32) (harg1 : arg1.IsWhole) (arg2 : Memref sig .tc .vmem S144x1024 .bf16) (harg2 : arg2.IsWhole) (arg3 : Memref sig .tc .vmem S1x6x2048x128 .i8) (harg3 : arg3.IsWhole) (arg4 : Memref sig .tc .vmem S1x6x32x64 .f32) (harg4 : arg4.IsWhole) (arg5 : Memref sig .tc .vmem S1x6x3x2304 .i8) (harg5 : arg5.IsWhole) (arg6 : Memref sig .tc .vmem S14x2304 .f32) (harg6 : arg6.IsWhole) (arg7 : Memref sig .tc .vmem S14x1024 .f32) (harg7 : arg7.IsWhole) (arg8 : Memref sig .tc .vmem S1x512x4384 .i8) (harg8 : arg8.IsWhole) (arg9 : Memref sig .tc .vmem S1x8x4384 .bf16) (harg9 : arg9.IsWhole) (arg10 : Memref sig .tc .vmem S1x4x2304 .f32) (harg10 : arg10.IsWhole) (arg11 : Memref sig .tc .vmem S14x2304 .f32) (harg11 : arg11.IsWhole) (arg12 : Memref sig .tc .vmem S14x32 .f32) (harg12 : arg12.IsWhole) (arg13 : Memref sig .tc .vmem S14x32 .f32) (harg13 : arg13.IsWhole) (arg14 : Memref sig .tc .vmem S14x32 .f32) (harg14 : arg14.IsWhole) (arg15 : Memref sig .tc .vmem S14x2048 .f32) (harg15 : arg15.IsWhole) (arg16 : Memref sig .tc .vmem S1x2048x512 .i8) (harg16 : arg16.IsWhole) (arg17 : Memref sig .tc .vmem S1x16x1024 .bf16) (harg17 : arg17.IsWhole) (arg18 : Memref sig .tc .vmem S1x144x2048 .f32) (harg18 : arg18.IsWhole) (arg19 : Memref sig .tc .vmem S1x144x1024 .f32) (harg19 : arg19.IsWhole) (arg20 : Memref sig .tc .vmem S1x144x2048 .bf16) (harg20 : arg20.IsWhole) (arg21 : Memref sig .tc .vmem S1x144x2304 .f32) (harg21 : arg21.IsWhole) (arg22 : Memref sig .tc .vmem S1x144x32 .f32) (harg22 : arg22.IsWhole) (arg23 : Memref sig .tc .vmem S144x1024 .f32) (harg23 : arg23.IsWhole) (arg24 : Memref sig .tc .vmem S144x1024 .bf16) (harg24 : arg24.IsWhole) (arg25 : Memref sig .tc .vmem S144x2048 .f32) (harg25 : arg25.IsWhole) (arg26 : Memref sig .tc .vmem S18x192x128 .f32) (harg26 : arg26.IsWhole) (arg27 : Memref sig .tc .vmem S144x2048 .f32) (harg27 : arg27.IsWhole) (arg28 : Memref sig .tc .vmem S2x144x128 .f32) (harg28 : arg28.IsWhole) (arg29 : Memref sig .tc .vmem S144x32 .f32) (harg29 : arg29.IsWhole) (arg30 : Memref sig .tc .vmem S96x2048 .bf16) (harg30 : arg30.IsWhole) (arg31 : Memref sig .tc .vmem S96x1024 .bf16) (harg31 : arg31.IsWhole) (arg32 : Memref sig .tc .vmem S296x2048 .f32) (harg32 : arg32.IsWhole) (arg33 : Memref sig .tc .vmem S288x1024 .f32) (harg33 : arg33.IsWhole) (arg34 : Memref sig .tc .vmem S144x144 .bf16) (harg34 : arg34.IsWhole) (arg35 : Memref sig .tc .vmem S144x2048 .f32) (harg35 : arg35.IsWhole) (hc0 : ¬cond0_0 i)    (x0 : Vec Ideal S6 .i32) (x1 : Vec Ideal S144x1024 .bf16) (x2 : Vec Ideal S1x6x2048x128 .i8) (x3 : Vec Ideal S1x6x32x64 .f32) (x4 : Vec Ideal S1x6x3x2304 .i8) (x5 : Vec Ideal S14x2304 .f32) (x6 : Vec Ideal S14x1024 .f32) (x7 : Vec Ideal S1x512x4384 .i8) (x8 : Vec Ideal S1x8x4384 .bf16) (x9 : Vec Ideal S1x4x2304 .f32) (x10 : Vec Ideal S14x2304 .f32) (x11 : Vec Ideal S14x32 .f32) (x12 : Vec Ideal S14x32 .f32) (x13 : Vec Ideal S14x32 .f32) (x14 : Vec Ideal S14x2048 .f32) (x15 : Vec Ideal S1x2048x512 .i8) (x16 : Vec Ideal S1x16x1024 .bf16) (x17 : Vec Ideal S1x144x2048 .f32) (xs0 : Vec Ideal S144x1024 .f32) (y : S144x1024.Idx) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 xs0 y = carryOf (blkPar (i 0) x6 x7 x8 x14 x15 x16 x17) (fun r k => xs0 (ix2 r k)) y := by
  unfold sout0_B_0
  rw [View.read_writes_eq_canon (Val := Elt Ideal) _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 xs0)]
  refine canon_of (carryOf (blkPar (i 0) x6 x7 x8 x14 x15 x16 x17) (fun r k => xs0 (ix2 r k))) _ ?_ y (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 x0 x1 x2 x3 x4 x5 x6 x7 x8 x9 x10 x11 x12 x13 x14 x15 x16 x17 xs0 y)
  unfold kernelRun0_B
  dsimp only
  simp only [kernelRun0_B.sl.v2243, kernelRun0_B.sl.v2296, kernelRun0_B.sl.v2351, kernelRun0_B.sl.v2406, kernelRun0_B.sl.v2456, kernelRun0_B.sl.v2682, kernelRun0_B.sl.v2690, kernelRun0_B.sl.r_106, kernelRun0_B.sl.r_107, kernelRun0_B.sl.r_108, kernelRun0_B.sl.r_109, kernelRun0_B.sl.r_110, kernelRun0_B.sl.r_111, kernelRun0_B.sl.r_112, kernelRun0_B.sl.r_113, kernelRun0_B.sl.r_114, kernelRun0_B.sl.r_115, kernelRun0_B.sl.r_116, kernelRun0_B.sl.r_117, kernelRun0_B.sl.r_118, kernelRun0_B.sl.r_119, kernelRun0_B.sl.r_120, kernelRun0_B.sl.r_121, kernelRun0_B.sl.r_122, kernelRun0_B.sl.r_123, kernelRun0_B.sl.r_124, kernelRun0_B.sl.r_125, kernelRun0_B.sl.r_126, kernelRun0_B.sl.r_127, kernelRun0_B.sl.r_128, kernelRun0_B.sl.r_129, kernelRun0_B.sl.r_130, kernelRun0_B.sl.r_131, kernelRun0_B.sl.r_132, kernelRun0_B.sl.r_133, kernelRun0_B.sl.r_134, kernelRun0_B.sl.r_135, kernelRun0_B.sl.r_136, kernelRun0_B.sl.r_137, kernelRun0_B.sl.r_138, kernelRun0_B.sl.r_139, kernelRun0_B.sl.r_140, kernelRun0_B.sl.r_141, kernelRun0_B.sl.r_142, kernelRun0_B.sl.r_143, kernelRun0_B.sl.r_144, kernelRun0_B.sl.r_145, kernelRun0_B.sl.r_146, kernelRun0_B.sl.r_147, kernelRun0_B.sl.r_148, kernelRun0_B.sl.r_149, kernelRun0_B.sl.r_150, kernelRun0_B.sl.r_151, kernelRun0_B.sl.r_152, kernelRun0_B.sl.r_153, kernelRun0_B.sl.r_154, kernelRun0_B.sl.r_155, kernelRun0_B.sl.r_156, kernelRun0_B.sl.r_157, kernelRun0_B.sl.r_158, kernelRun0_B.sl.r_159, kernelRun0_B.sl.r_160, kernelRun0_B.sl.r_161, kernelRun0_B.sl.r_162, kernelRun0_B.sl.r_163, kernelRun0_B.sl.r_164, kernelRun0_B.sl.r_165, kernelRun0_B.sl.r_166, kernelRun0_B.sl.r_167, kernelRun0_B.sl.r_168, mWord, View.readAt_eq_ld, Memref.IsWhole.read_unread, View.ld_unit_zero (S := S1x8x4384) z3, View.ld_unit_zero (S := S144x1024) z2, View.ld_unit_zero (S := S1x16x1024) z3]
  refine ⟨fun x => ?_, fun x => ?_, fun x => ?_, fun x => ?_, trivial⟩
  · refine Eq.trans ?_ (upS (blkPar (i 0) x6 x7 x8 x14 x15 x16 x17) (fun r k => xs0 (ix2 r k)) 768 (by omega) inb_S144x1024_S144x256_0_768 _ (hiTile xs0 256 (by omega) inb_S144x1024_S144x256_0_768 (i 0) x6 x7 x8 x14 x15 x16 x17 inb_S1x144x2048_S1x144x512_0_0_0 inb_S1x144x2048_S1x144x512_0_0_512 inb_S1x144x2048_S1x144x512_0_0_1024 inb_S1x144x2048_S1x144x512_0_0_1536 inb_S1x2048x512_S1x512x256_0_0_256 inb_S1x2048x512_S1x512x256_0_512_256 inb_S1x2048x512_S1x512x256_0_1024_256 inb_S1x2048x512_S1x512x256_0_1536_256 slices_S16x1024_o0_768_S4x256 slices_S16x1024_o4_768_S4x256 slices_S16x1024_o8_768_S4x256 slices_S16x1024_o12_768_S4x256) x)
    rfl
  · refine Eq.trans ?_ (upS (blkPar (i 0) x6 x7 x8 x14 x15 x16 x17) (fun r k => xs0 (ix2 r k)) 256 (by omega) inb_S144x1024_S144x256_0_256 _ (loTile xs0 256 (by omega) inb_S144x1024_S144x256_0_256 (i 0) x6 x7 x8 x14 x15 x16 x17 inb_S1x144x2048_S1x144x512_0_0_0 inb_S1x144x2048_S1x144x512_0_0_512 inb_S1x144x2048_S1x144x512_0_0_1024 inb_S1x144x2048_S1x144x512_0_0_1536 inb_S1x2048x512_S1x512x256_0_0_256 inb_S1x2048x512_S1x512x256_0_512_256 inb_S1x2048x512_S1x512x256_0_1024_256 inb_S1x2048x512_S1x512x256_0_1536_256 slices_S16x1024_o0_256_S4x256 slices_S16x1024_o4_256_S4x256 slices_S16x1024_o8_256_S4x256 slices_S16x1024_o12_256_S4x256) x)
    rfl
  · refine Eq.trans ?_ (upS (blkPar (i 0) x6 x7 x8 x14 x15 x16 x17) (fun r k => xs0 (ix2 r k)) 512 (by omega) inb_S144x1024_S144x256_0_512 _ (hiTile xs0 0 (by omega) inb_S144x1024_S144x256_0_512 (i 0) x6 x7 x8 x14 x15 x16 x17 inb_S1x144x2048_S1x144x512_0_0_0 inb_S1x144x2048_S1x144x512_0_0_512 inb_S1x144x2048_S1x144x512_0_0_1024 inb_S1x144x2048_S1x144x512_0_0_1536 inb_S1x2048x512_S1x512x256_0_0_0 inb_S1x2048x512_S1x512x256_0_512_0 inb_S1x2048x512_S1x512x256_0_1024_0 inb_S1x2048x512_S1x512x256_0_1536_0 slices_S16x1024_o0_512_S4x256 slices_S16x1024_o4_512_S4x256 slices_S16x1024_o8_512_S4x256 slices_S16x1024_o12_512_S4x256) x)
    rfl
  · refine Eq.trans ?_ (upS (blkPar (i 0) x6 x7 x8 x14 x15 x16 x17) (fun r k => xs0 (ix2 r k)) 0 (by omega) inb_S144x1024_S144x256_0_0 _ (loTile xs0 0 (by omega) inb_S144x1024_S144x256_0_0 (i 0) x6 x7 x8 x14 x15 x16 x17 inb_S1x144x2048_S1x144x512_0_0_0 inb_S1x144x2048_S1x144x512_0_0_512 inb_S1x144x2048_S1x144x512_0_0_1024 inb_S1x144x2048_S1x144x512_0_0_1536 inb_S1x2048x512_S1x512x256_0_0_0 inb_S1x2048x512_S1x512x256_0_512_0 inb_S1x2048x512_S1x512x256_0_1024_0 inb_S1x2048x512_S1x512x256_0_1536_0 slices_S16x1024_o0_0_S4x256 slices_S16x1024_o4_0_S4x256 slices_S16x1024_o8_0_S4x256 slices_S16x1024_o12_0_S4x256) x)
    rfl

end Cert.KernelIdeal.BlkB

end
-- ==== Proof.Kern.lean ====
/- The kernel's run, read: each result array as a function of the arguments, by induction over the grid points. -/
module

public import proofs.«01_k».proof.Proof.BlkA
public import proofs.«01_k».proof.Proof.BlkB
public import proofs.«01_k».proof.Proof.Gen.KernelIdeal.Value

@[expose] public section

set_option maxRecDepth 16384
set_option maxHeartbeats 1000000

noncomputable section

open Idealize.ShloMosaic Idealize.ShloMosaic.TcCoe

namespace Cert.KernelIdeal.Kern

open Cert.KernelIdeal Cert.KernelIdeal.Gen Cert.KernelIdeal.Loads Cert.Layer Cert.KernelIdeal.Value

variable (m : (ℓ : Loc nD τ sig) → Buf (Elt Ideal) ℓ)

/-- Layer `l`'s parameters, of the run's arguments. -/
def P (c : Dev nD) (l : Fin 14) : Par :=
  parOf (m ((c : Thread nD τ).loc main_arg6)) (m ((c : Thread nD τ).loc main_arg7)) (m ((c : Thread nD τ).loc main_arg8))
    (m ((c : Thread nD τ).loc main_arg14)) (m ((c : Thread nD τ).loc main_arg15)) (m ((c : Thread nD τ).loc main_arg16))
    (m ((c : Thread nD τ).loc main_arg17)) l

/-- The input rows. -/
def X (c : Dev nD) (r : Fin 144) (k : Fin 1024) : EReal :=
  (shapeCast S144x1024 (m ((c : Thread nD τ).loc main_arg0) : Vec Ideal S6x24x1024 .bf16) shapeCasts_S6x24x1024_S144x1024) (ix2 r k)

/-- The residual as point `n` finds it. -/
abbrev R (c : Dev nD) (n : ℕ) : Fin 144 → Fin 1024 → EReal := resAt (P m c) (X m c) n

theorem lt14 (t : Fin cfg0.N) : t.val < 14 := lt_of_lt_of_eq t.isLt N_0

/-- Point `t`'s one coordinate is `t`. -/
theorem coord0 (t : Fin cfg0.N) : (grid0.coords t 0).val = t.val := by
  have e0 : (grid0.coords t 0).val = t.val / 1 % 14 := Pipeline.Grid.coords_val t 0 (by decide) rfl
  have ht := lt14 t
  omega

theorem iblk1 (c : Dev nD) (t : Fin cfg0.N) (r : Fin 144) (k : Fin 1024) :
    (iblk m c 1 t : Vec Ideal S144x1024 .bf16) (ix2 r k) = X m c r k := by
  have hi : win0_1.index t 0 = 0 ∧ win0_1.index t 1 = 0 := by
    revert t; exact (by decide +kernel : ∀ t : Fin grid0.N, win0_1.index t 0 = 0 ∧ win0_1.index t 1 = 0)
  unfold iblk
  rw [View.read_apply]
  have e : V m c main_v0 = shapeCast S144x1024 (m ((c : Thread nD τ).loc main_arg0) : Vec Ideal S6x24x1024 .bf16) shapeCasts_S6x24x1024_S144x1024 := by
    rfl
  show V m c main_v0 _ = _
  rw [e]
  unfold X
  congr 1
  funext a
  apply Fin.ext
  match a with
  | ⟨0, _⟩ => show win0_1.index t 0 * 144 + 1 * r.val = r.val; rw [hi.1]; omega
  | ⟨1, _⟩ => show win0_1.index t 1 * 1024 + 1 * k.val = k.val; rw [hi.2]; omega

theorem iblk6 (c : Dev nD) (t : Fin cfg0.N) (r : Fin 14) (k : Fin 1024) :
    (iblk m c 6 t : Vec Ideal S14x1024 .f32) (ix2 r k) = m ((c : Thread nD τ).loc main_arg6) (ix2 r k) := by
  have hi : win0_6.index t 0 = 0 ∧ win0_6.index t 1 = 0 := by
    revert t; exact (by decide +kernel : ∀ t : Fin grid0.N, win0_6.index t 0 = 0 ∧ win0_6.index t 1 = 0)
  unfold iblk
  rw [View.read_apply]
  show V m c main_arg6 _ = _
  rw [V_main_arg6]
  congr 1
  funext a
  apply Fin.ext
  match a with
  | ⟨0, _⟩ => show win0_6.index t 0 * 14 + 1 * r.val = r.val; rw [hi.1]; omega
  | ⟨1, _⟩ => show win0_6.index t 1 * 1024 + 1 * k.val = k.val; rw [hi.2]; omega

theorem iblk14 (c : Dev nD) (t : Fin cfg0.N) (r : Fin 14) (k : Fin 2048) :
    (iblk m c 14 t : Vec Ideal S14x2048 .f32) (ix2 r k) = m ((c : Thread nD τ).loc main_arg14) (ix2 r k) := by
  have hi : win0_14.index t 0 = 0 ∧ win0_14.index t 1 = 0 := by
    revert t; exact (by decide +kernel : ∀ t : Fin grid0.N, win0_14.index t 0 = 0 ∧ win0_14.index t 1 = 0)
  unfold iblk
  rw [View.read_apply]
  show V m c main_arg14 _ = _
  rw [V_main_arg14]
  congr 1
  funext a
  apply Fin.ext
  match a with
  | ⟨0, _⟩ => show win0_14.index t 0 * 14 + 1 * r.val = r.val; rw [hi.1]; omega
  | ⟨1, _⟩ => show win0_14.index t 1 * 2048 + 1 * k.val = k.val; rw [hi.2]; omega

theorem iblk7 (c : Dev nD) (t : Fin cfg0.N) (r : Fin 512) (k : Fin 4384) :
    (iblk m c 7 t : Vec Ideal S1x512x4384 .i8) (ix3 0 r k)
      = m ((c : Thread nD τ).loc main_arg7) (ix3 (grid0.coords t 0 : Fin 14) r k) := by
  have hi : win0_7.index t 0 = t.val ∧ win0_7.index t 1 = 0 ∧ win0_7.index t 2 = 0 := by
    revert t; exact (by decide +kernel : ∀ t : Fin grid0.N, win0_7.index t 0 = t.val ∧ win0_7.index t 1 = 0 ∧ win0_7.index t 2 = 0)
  unfold iblk
  rw [View.read_apply]
  show V m c main_arg7 _ = _
  rw [V_main_arg7]
  congr 1
  funext a
  apply Fin.ext
  match a with
  | ⟨0, _⟩ => show win0_7.index t 0 * 1 + 1 * 0 = (grid0.coords t 0).val; rw [hi.1, coord0]; omega
  | ⟨1, _⟩ => show win0_7.index t 1 * 512 + 1 * r.val = r.val; rw [hi.2.1]; omega
  | ⟨2, _⟩ => show win0_7.index t 2 * 4384 + 1 * k.val = k.val; rw [hi.2.2]; omega

theorem iblk8 (c : Dev nD) (t : Fin cfg0.N) (r : Fin 8) (k : Fin 4384) :
    (iblk m c 8 t : Vec Ideal S1x8x4384 .bf16) (ix3 0 r k)
      = m ((c : Thread nD τ).loc main_arg8) (ix3 (grid0.coords t 0 : Fin 14) r k) := by
  have hi : win0_8.index t 0 = t.val ∧ win0_8.index t 1 = 0 ∧ win0_8.index t 2 = 0 := by
    revert t; exact (by decide +kernel : ∀ t : Fin grid0.N, win0_8.index t 0 = t.val ∧ win0_8.index t 1 = 0 ∧ win0_8.index t 2 = 0)
  unfold iblk
  rw [View.read_apply]
  show V m c main_arg8 _ = _
  rw [V_main_arg8]
  congr 1
  funext a
  apply Fin.ext
  match a with
  | ⟨0, _⟩ => show win0_8.index t 0 * 1 + 1 * 0 = (grid0.coords t 0).val; rw [hi.1, coord0]; omega
  | ⟨1, _⟩ => show win0_8.index t 1 * 8 + 1 * r.val = r.val; rw [hi.2.1]; omega
  | ⟨2, _⟩ => show win0_8.index t 2 * 4384 + 1 * k.val = k.val; rw [hi.2.2]; omega

theorem iblk15 (c : Dev nD) (t : Fin cfg0.N) (r : Fin 2048) (k : Fin 512) :
    (iblk m c 15 t : Vec Ideal S1x2048x512 .i8) (ix3 0 r k)
      = m ((c : Thread nD τ).loc main_arg15) (ix3 (grid0.coords t 0 : Fin 14) r k) := by
  have hi : win0_15.index t 0 = t.val ∧ win0_15.index t 1 = 0 ∧ win0_15.index t 2 = 0 := by
    revert t; exact (by decide +kernel : ∀ t : Fin grid0.N, win0_15.index t 0 = t.val ∧ win0_15.index t 1 = 0 ∧ win0_15.index t 2 = 0)
  unfold iblk
  rw [View.read_apply]
  show V m c main_arg15 _ = _
  rw [V_main_arg15]
  congr 1
  funext a
  apply Fin.ext
  match a with
  | ⟨0, _⟩ => show win0_15.index t 0 * 1 + 1 * 0 = (grid0.coords t 0).val; rw [hi.1, coord0]; omega
  | ⟨1, _⟩ => show win0_15.index t 1 * 2048 + 1 * r.val = r.val; rw [hi.2.1]; omega
  | ⟨2, _⟩ => show win0_15.index t 2 * 512 + 1 * k.val = k.val; rw [hi.2.2]; omega

theorem iblk16 (c : Dev nD) (t : Fin cfg0.N) (r : Fin 16) (k : Fin 1024) :
    (iblk m c 16 t : Vec Ideal S1x16x1024 .bf16) (ix3 0 r k)
      = m ((c : Thread nD τ).loc main_arg16) (ix3 (grid0.coords t 0 : Fin 14) r k) := by
  have hi : win0_16.index t 0 = t.val ∧ win0_16.index t 1 = 0 ∧ win0_16.index t 2 = 0 := by
    revert t; exact (by decide +kernel : ∀ t : Fin grid0.N, win0_16.index t 0 = t.val ∧ win0_16.index t 1 = 0 ∧ win0_16.index t 2 = 0)
  unfold iblk
  rw [View.read_apply]
  show V m c main_arg16 _ = _
  rw [V_main_arg16]
  congr 1
  funext a
  apply Fin.ext
  match a with
  | ⟨0, _⟩ => show win0_16.index t 0 * 1 + 1 * 0 = (grid0.coords t 0).val; rw [hi.1, coord0]; omega
  | ⟨1, _⟩ => show win0_16.index t 1 * 16 + 1 * r.val = r.val; rw [hi.2.1]; omega
  | ⟨2, _⟩ => show win0_16.index t 2 * 1024 + 1 * k.val = k.val; rw [hi.2.2]; omega

theorem iblk17 (c : Dev nD) (t : Fin cfg0.N) (r : Fin 144) (k : Fin 2048) :
    (iblk m c 17 t : Vec Ideal S1x144x2048 .f32) (ix3 0 r k)
      = m ((c : Thread nD τ).loc main_arg17) (ix3 (grid0.coords t 0 : Fin 14) r k) := by
  have hi : win0_17.index t 0 = t.val ∧ win0_17.index t 1 = 0 ∧ win0_17.index t 2 = 0 := by
    revert t; exact (by decide +kernel : ∀ t : Fin grid0.N, win0_17.index t 0 = t.val ∧ win0_17.index t 1 = 0 ∧ win0_17.index t 2 = 0)
  unfold iblk
  rw [View.read_apply]
  show V m c main_arg17 _ = _
  rw [V_main_arg17]
  congr 1
  funext a
  apply Fin.ext
  match a with
  | ⟨0, _⟩ => show win0_17.index t 0 * 1 + 1 * 0 = (grid0.coords t 0).val; rw [hi.1, coord0]; omega
  | ⟨1, _⟩ => show win0_17.index t 1 * 144 + 1 * r.val = r.val; rw [hi.2.1]; omega
  | ⟨2, _⟩ => show win0_17.index t 2 * 2048 + 1 * k.val = k.val; rw [hi.2.2]; omega

/-- What point `t`'s blocks hold is layer `t`'s own. -/
theorem blk_eq (c : Dev nD) (t : Fin cfg0.N) :
    blkPar (grid0.coords t 0) (iblk m c 6 t) (iblk m c 7 t) (iblk m c 8 t) (iblk m c 14 t) (iblk m c 15 t) (iblk m c 16 t) (iblk m c 17 t)
      = P m c (Fin.ofNat 14 t.val) := by
  have e : Fin.ofNat 14 t.val = (grid0.coords t 0 : Fin 14) :=
    Fin.ext ((Nat.mod_eq_of_lt (lt14 t)).trans (coord0 t).symm)
  rw [e]
  unfold blkPar P parOf
  rw [Par.mk.injEq]
  exact ⟨funext fun k => iblk6 m c t _ k, funext fun k => funext fun j => iblk7 m c t k j, funext fun k => funext fun j => iblk8 m c t k j,
    funext fun k => iblk14 m c t _ k, funext fun k => funext fun j => iblk15 m c t k j, funext fun k => funext fun j => iblk16 m c t k j,
    funext fun k => funext fun j => iblk17 m c t k j⟩

/-- What the first point loads into the residual's buffer is the input. -/
theorem pay4_eq (c : Dev nD) (t : Fin cfg0.N) :
    (fun r k => (k0_pay4 (F := Ideal) (iblk m c 1 t)) (ix2 r k)) = X m c := by
  funext r k
  refine Eq.trans ?_ (iblk1 m c t r k)
  unfold k0_pay4
  simp only [shapeCast_self]
  rfl

/-- What a point leaves, as functions of its layer's parameters and of the residual it finds. -/
def Leaves (p : Par) (x : Fin 144 → Fin 1024 → EReal)
    (o : Vec Ideal S1x144x1024 .f32 × Vec Ideal S1x144x2048 .bf16 × Vec Ideal S1x144x2304 .f32 × Vec Ideal S1x144x32 .f32 × Vec Ideal S144x1024 .f32) : Prop :=
  (∀ y, o.1 y = resOf p x y) ∧ (∀ y, o.2.1 y = mixOf p x y) ∧ (∀ y, o.2.2.1 y = xbcOf p x y) ∧ (∀ y, o.2.2.2.1 y = dtOf p x y)
    ∧ ∀ y, o.2.2.2.2 y = carryOf p x y

theorem leaves_A (c : Dev nD) (t : Fin cfg0.N) (h0 : t.val % 14 = 0) :
    Leaves (P m c (Fin.ofNat 14 t.val)) (X m c) (outsAt0 m c t.val t.isLt) := by
  rw [outsAt0_A m c t h0, ← blk_eq m c t, ← pay4_eq m c t]
  dsimp only [Leaves]
  exact ⟨fun y => BlkA.out18 .., fun y => BlkA.out19 .., fun y => BlkA.out20 .., fun y => BlkA.out21 .., fun y => BlkA.carry ..⟩

theorem leaves_B (c : Dev nD) (t : Fin cfg0.N) (h0 : ¬t.val % 14 = 0) (x : Fin 144 → Fin 1024 → EReal)
    (hx : ∀ h, (fun r k => (outsAt0 m c (t.val - 1) h).2.2.2.2 (ix2 r k)) = x) :
    Leaves (P m c (Fin.ofNat 14 t.val)) x (outsAt0 m c t.val t.isLt) := by
  rw [outsAt0_B m c t h0, ← blk_eq m c t, ← hx (by have := t.isLt; omega)]
  dsimp only [Leaves]
  exact ⟨fun y => BlkB.out18 .., fun y => BlkB.out19 .., fun y => BlkB.out20 .., fun y => BlkB.out21 .., fun y => BlkB.carry ..⟩

/-- Every point leaves its layer's values, of the residual the layers before it made. -/
theorem leaves (c : Dev nD) : ∀ (n : ℕ) (hn : n < cfg0.N), Leaves (P m c (Fin.ofNat 14 n)) (R m c n) (outsAt0 m c n hn)
  | 0, hn => leaves_A m c ⟨0, hn⟩ rfl
  | n + 1, hn => leaves_B m c ⟨n + 1, hn⟩
      (by have := lt_of_lt_of_eq hn N_0; show ¬(n + 1) % 14 = 0; omega) _
      (fun h => funext fun r => funext fun k => (leaves c n (Nat.lt_of_succ_lt hn)).2.2.2.2 (ix2 r k))

theorem pt_eq (a b c n : ℕ) (hb : b < 144) (hc : c < n) : 1 * (a / 1 - 0) + 1 * (b / 144 - 0) + 1 * (c / n - 0) = a := by
  rw [Nat.div_eq_of_lt hb, Nat.div_eq_of_lt hc, Nat.div_one]
  omega

/-- Result 1. -/
theorem G18_eq (c : Dev nD) (i : S14x144x1024.Idx) : G18 m c i = resOf (P m c (i 0)) (R m c (i 0).val) (ix3 0 (i 1) (i 2)) := by
  have h0 : (i 0).val < 14 := (i 0).isLt
  have h1 : (i 1).val < 144 := (i 1).isLt
  have h2 : (i 2).val < 1024 := (i 2).isLt
  have e : pt18Of i = (i 0).val := pt_eq _ _ _ 1024 h1 h2
  have hN : pt18Of i < cfg0.N := lt_of_lt_of_eq (e ▸ h0) N_0.symm
  have hl : loc18Of i = ix3 0 (i 1) (i 2) := by
    funext a
    apply Fin.ext
    match a with
    | ⟨0, _⟩ => exact Nat.mod_one _
    | ⟨1, _⟩ => exact Nat.mod_eq_of_lt h1
    | ⟨2, _⟩ => exact Nat.mod_eq_of_lt h2
  have hp : P m c (Fin.ofNat 14 (pt18Of i)) = P m c (i 0) :=
    congrArg (P m c) (Fin.ext (by show pt18Of i % 14 = _; rw [e]; exact Nat.mod_eq_of_lt h0))
  unfold G18
  rw [dif_pos hN, ← outsAt0_sweep m c _ hN, (leaves m c _ hN).1, hl, hp, e]
  rfl

/-- Result 2. -/
theorem G19_eq (c : Dev nD) (i : S14x144x2048.Idx) : G19 m c i = mixOf (P m c (i 0)) (R m c (i 0).val) (ix3 0 (i 1) (i 2)) := by
  have h0 : (i 0).val < 14 := (i 0).isLt
  have h1 : (i 1).val < 144 := (i 1).isLt
  have h2 : (i 2).val < 2048 := (i 2).isLt
  have e : pt19Of i = (i 0).val := pt_eq _ _ _ 2048 h1 h2
  have hN : pt19Of i < cfg0.N := lt_of_lt_of_eq (e ▸ h0) N_0.symm
  have hl : loc19Of i = ix3 0 (i 1) (i 2) := by
    funext a
    apply Fin.ext
    match a with
    | ⟨0, _⟩ => exact Nat.mod_one _
    | ⟨1, _⟩ => exact Nat.mod_eq_of_lt h1
    | ⟨2, _⟩ => exact Nat.mod_eq_of_lt h2
  have hp : P m c (Fin.ofNat 14 (pt19Of i)) = P m c (i 0) :=
    congrArg (P m c) (Fin.ext (by show pt19Of i % 14 = _; rw [e]; exact Nat.mod_eq_of_lt h0))
  unfold G19
  rw [dif_pos hN, ← outsAt0_sweep m c _ hN, (leaves m c _ hN).2.1, hl, hp, e]
  rfl

/-- Result 3. -/
theorem G20_eq (c : Dev nD) (i : S14x144x2304.Idx) : G20 m c i = xbcOf (P m c (i 0)) (R m c (i 0).val) (ix3 0 (i 1) (i 2)) := by
  have h0 : (i 0).val < 14 := (i 0).isLt
  have h1 : (i 1).val < 144 := (i 1).isLt
  have h2 : (i 2).val < 2304 := (i 2).isLt
  have e : pt20Of i = (i 0).val := pt_eq _ _ _ 2304 h1 h2
  have hN : pt20Of i < cfg0.N := lt_of_lt_of_eq (e ▸ h0) N_0.symm
  have hl : loc20Of i = ix3 0 (i 1) (i 2) := by
    funext a
    apply Fin.ext
    match a with
    | ⟨0, _⟩ => exact Nat.mod_one _
    | ⟨1, _⟩ => exact Nat.mod_eq_of_lt h1
    | ⟨2, _⟩ => exact Nat.mod_eq_of_lt h2
  have hp : P m c (Fin.ofNat 14 (pt20Of i)) = P m c (i 0) :=
    congrArg (P m c) (Fin.ext (by show pt20Of i % 14 = _; rw [e]; exact Nat.mod_eq_of_lt h0))
  unfold G20
  rw [dif_pos hN, ← outsAt0_sweep m c _ hN, (leaves m c _ hN).2.2.1, hl, hp, e]
  rfl

/-- Result 4. -/
theorem G21_eq (c : Dev nD) (i : S14x144x32.Idx) : G21 m c i = dtOf (P m c (i 0)) (R m c (i 0).val) (ix3 0 (i 1) (i 2)) := by
  have h0 : (i 0).val < 14 := (i 0).isLt
  have h1 : (i 1).val < 144 := (i 1).isLt
  have h2 : (i 2).val < 32 := (i 2).isLt
  have e : pt21Of i = (i 0).val := pt_eq _ _ _ 32 h1 h2
  have hN : pt21Of i < cfg0.N := lt_of_lt_of_eq (e ▸ h0) N_0.symm
  have hl : loc21Of i = ix3 0 (i 1) (i 2) := by
    funext a
    apply Fin.ext
    match a with
    | ⟨0, _⟩ => exact Nat.mod_one _
    | ⟨1, _⟩ => exact Nat.mod_eq_of_lt h1
    | ⟨2, _⟩ => exact Nat.mod_eq_of_lt h2
  have hp : P m c (Fin.ofNat 14 (pt21Of i)) = P m c (i 0) :=
    congrArg (P m c) (Fin.ext (by show pt21Of i % 14 = _; rw [e]; exact Nat.mod_eq_of_lt h0))
  unfold G21
  rw [dif_pos hN, ← outsAt0_sweep m c _ hN, (leaves m c _ hN).2.2.2.1, hl, hp, e]
  rfl

end Cert.KernelIdeal.Kern

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.RefRun
public import proofs.«01_k».proof.Proof.RefStep
public import proofs.«01_k».proof.Proof.Kern
public import Idealize.ShloMosaic.Adequacy
public import Idealize.ShloMosaic.Init
public import Idealize.ShloMosaic.Lib.Quiescent

@[expose] public section

set_option maxRecDepth 16384
set_option maxHeartbeats 1000000

noncomputable section

namespace Cert.Proof

open Idealize.ShloMosaic Idealize.SL.Sem Cert.Layer

/-- The states of the reference's loop, one after each trip. -/
def it (s : Cert.ReferenceIdeal.Step.State Ideal) : ℕ → Cert.ReferenceIdeal.Step.State Ideal
  | 0 => s
  | n + 1 => Cert.ReferenceIdeal.Step.step n (it s n)

/-- An index of rank 3 is its three coordinates. -/
theorem eta3 {a b c : ℕ} (i : (⟨3, ![a, b, c]⟩ : Shape).Idx) : i = ix3 (i 0) (i 1) (i 2) := by
  funext x
  match x with
  | ⟨0, _⟩ => rfl
  | ⟨1, _⟩ => rfl
  | ⟨2, _⟩ => rfl

/-- The reference runs, leaves its arguments as they were and no counter raised. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2, sem_eq_zero_of_no_sems (by decide) _⟩)
    (Cert.ReferenceIdeal.StepRun.run_iter (F := Ideal) m ρ (fun c => it (Cert.ReferenceIdeal.StepRun.initState m c))
      (fun _ => rfl) (fun _ _ => rfl))

/-- The kernel's results are the reference's. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨_, _, _, _, Cert.KernelIdeal.Value.run (F := Ideal) m ρ, ?_⟩
  refine (θ_run Cert.ReferenceIdeal.defs _ _).mono (fun r h c => ?_)
    (Cert.ReferenceIdeal.StepRun.run_iter (F := Ideal) m' ρ' (fun c => it (Cert.ReferenceIdeal.StepRun.initState m' c))
      (fun _ => rfl) (fun _ _ => rfl))
  obtain ⟨a0, -, -, -, -, -, a6, a7, a8, -, -, -, -, -, a14, a15, a16, a17⟩ := hagree c
  have hp : ∀ l, Cert.ReferenceIdeal.RefStep.par l (Cert.ReferenceIdeal.StepRun.initState m' c) = Cert.KernelIdeal.Kern.P m c l := by
    intro l
    unfold Cert.ReferenceIdeal.StepRun.initState
    rw [a6, a7, a8, a14, a15, a16, a17]
    rfl
  have hx : Cert.ReferenceIdeal.RefStep.res (Cert.ReferenceIdeal.StepRun.initState m' c) = Cert.KernelIdeal.Kern.X m c := by
    unfold Cert.ReferenceIdeal.StepRun.initState
    rw [a0]
    rfl
  have I := Cert.ReferenceIdeal.RefStep.inv_of (it (Cert.ReferenceIdeal.StepRun.initState m' c)) (fun _ => rfl) _ _ hp hx 14 le_rfl
  refine ⟨(h c).1.trans (funext fun i => ?_), (h c).2.1.trans (funext fun i => ?_), (h c).2.2.1.trans (funext fun i => ?_),
    (h c).2.2.2.1.trans (funext fun i => ?_), (h c).2.2.2.2⟩
  · refine Eq.trans ?_ (Cert.KernelIdeal.Kern.G18_eq m c i).symm
    rw [eta3 i]
    exact I.r9 (i 0) (i 1) (i 2) (i 0).isLt
  · refine Eq.trans ?_ (Cert.KernelIdeal.Kern.G19_eq m c i).symm
    rw [eta3 i]
    exact I.r10 (i 0) (i 1) (i 2) (i 0).isLt
  · refine Eq.trans ?_ (Cert.KernelIdeal.Kern.G20_eq m c i).symm
    rw [eta3 i]
    exact I.r11 (i 0) (i 1) (i 2) (i 0).isLt
  · refine Eq.trans ?_ (Cert.KernelIdeal.Kern.G21_eq m c i).symm
    rw [eta3 i]
    exact I.r12 (i 0) (i 1) (i 2) (i 0).isLt

theorem claim : Cert.Claim :=
  ⟨Cert.Kernel.Gen.facts, Cert.KernelIdeal.Gen.facts, Cert.ReferenceIdeal.Gen.facts,
    fun m ρ _ => Cert.Kernel.Gen.frame (F := Bits) m ρ, fun m ρ _ => Cert.KernelIdeal.Gen.frame (F := Ideal) m ρ,
    frame_reference, trivial, algebraic⟩

end Cert.Proof

end
